-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S256x1024 : Shape := ⟨2, ![256, 1024]⟩
abbrev S1024x1024 : Shape := ⟨2, ![1024, 1024]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S256x1024 .f32 := (extf .f32 · bitsLt_bf16_f32) main_arg0
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_c : IVec S_ 1 := constantI S_ 1 1#1
  let main_v4 : IVec S_ 1 := (fun x v => Host.reduce IntOp.andi x v reducesTo_S256x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg2
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  main_v16
-- ==== Pre_scores_finite_ReferenceIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .bf16) (main_arg1 : FVec F S1024x4096 .bf16) (main_arg2 : FVec F S1024x4096 .bf16) (main_arg3 : FVec F S1024x4096 .bf16) (main_arg4 : FVec F S4096x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1024x4096 .f32 := (extf .f32 · bitsLt_bf16_f32) main_arg2
  let main_v12 : FVec F S1024x4096 .f32 := Host.absf main_v11
  let main_cst_2 : FVec F S_ .f32 := constant S_ .f32 0x7F800000#32
  let main_v13 : FVec F S1024x4096 .f32 := broadcastInDim S1024x4096 ![] bcast_S_S1024x4096 main_cst_2
  let main_v14 : IVec S1024x4096 1 := cmpf .olt main_v12 main_v13
  let main_c_3 : IVec S_ 1 := constantI S_ 1 1#1
  let main_v15 : IVec S_ 1 := (fun x v => Host.reduce IntOp.andi x v reducesTo_S1024x4096_S_d0_1 h_S_) main_v14 main_c_3
  let main_v16 : IVec S_ 1 := andi main_v10 main_v15
  main_v16
-- ==== Kernel.lean ====
abbrev S256x1024 : Shape := ⟨2, ![256, 1024]⟩
abbrev S1024x1024 : Shape := ⟨2, ![1024, 1024]⟩
abbrev S3 : Shape := ⟨1, ![3]⟩
abbrev S4 : Shape := ⟨1, ![4]⟩
abbrev S_ : Shape := ⟨0, ![]⟩
abbrev S1 : Shape := ⟨1, ![1]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S768x128 : Shape := ⟨2, ![768, 128]⟩
abbrev S256x768 : Shape := ⟨2, ![256, 768]⟩
abbrev S128x1024 : Shape := ⟨2, ![128, 1024]⟩
abbrev S1024x128 : Shape := ⟨2, ![1024, 128]⟩

abbrev nBuf : Space → Nat
  | .hbm => 6
  | .vmem => 15
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v35 : BitVec 32 := Scalar.muli v24 c1_i32_24
  let v36 : BitVec 32 := Scalar.addi c0_i32_25 v35
  v36.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28 : BitVec 32 := 1#32
  let v41 : BitVec 32 := Scalar.muli v13 c1_i32_28
  let v42 : BitVec 32 := Scalar.addi c0_i32_29 v41
  v42.toNat
def k0_dev5 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_282 : BitVec 32 := 1#32
  let v331 : BitVec 32 := Scalar.muli v13 c1_i32_282
  let v332 : BitVec 32 := Scalar.addi c0_i32_283 v331
  v332.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v749 : BitVec 32 := Scalar.muli v2 c256_i32
  let c0_i32_557 : BitVec 32 := 0#32
  ![v749.toNat, 0]
def k0_dev6 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_555 : BitVec 32 := 1#32
  let v750 : BitVec 32 := Scalar.muli v13 c1_i32_555
  let v751 : BitVec 32 := Scalar.addi c0_i32_556 v750
  v751.toNat
def k0_dev7 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_653 : BitVec 32 := 1#32
  let v916 : BitVec 32 := Scalar.muli v24 c1_i32_653
  let v917 : BitVec 32 := Scalar.addi c0_i32_654 v916
  v917.toNat
def k0_dev8 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_448 : BitVec 32 := 2#32
  let v570 : BitVec 32 := Scalar.addi v2 c2_i32_448
  let c4_i32_449 : BitVec 32 := 4#32
  let c0_i32_450 : BitVec 32 := 0#32
  let v571 : BitVec 1 := Scalar.cmpi .eq c4_i32_449 c0_i32_450
  let c1_i32_451 : BitVec 32 := 1#32
  let v572 : BitVec 32 := Scalar.select v571 c1_i32_451 c4_i32_449
  let v573 : BitVec 32 := Scalar.remsi v570 v572
  let c0_i32_453 : BitVec 32 := 0#32
  let v575 : BitVec 1 := Scalar.cmpi .slt v573 c0_i32_453
  let c0_i32_454 : BitVec 32 := 0#32
  let v576 : BitVec 1 := Scalar.cmpi .slt v572 c0_i32_454
  let v577 : BitVec 1 := Scalar.xori v575 v576
  let c0_i32_452 : BitVec 32 := 0#32
  let v574 : BitVec 1 := Scalar.cmpi .ne v573 c0_i32_452
  let v578 : BitVec 1 := Scalar.andi v577 v574
  let v579 : BitVec 32 := Scalar.addi v573 v572
  let v580 : BitVec 32 := Scalar.select v578 v579 v573
  let c1_i32_756 : BitVec 32 := 1#32
  let v1074 : BitVec 32 := Scalar.muli v580 c1_i32_756
  let v1075 : BitVec 32 := Scalar.addi c0_i32_757 v1074
  v1075.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_849 : BitVec 32 := 256#32
  let v1236 : BitVec 32 := Scalar.muli v2 c256_i32_849
  let v1237 : Index := Scalar.indexCast v1236
  let c0_850 : Index := 0#32
  ![v1237.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S1024x1024 : Shape := ⟨2, ![1024, 1024]⟩
abbrev S1024x4096 : Shape := ⟨2, ![1024, 4096]⟩
abbrev S4096x1024 : Shape := ⟨2, ![4096, 1024]⟩
abbrev S1024x32x128 : Shape := ⟨3, ![1024, 32, 128]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x128x1024 : Shape := ⟨3, ![32, 128, 1024]⟩
abbrev S1024x32x1 : Shape := ⟨3, ![1024, 32, 1]⟩

abbrev nBuf : Space → Nat
  | .hbm => 38
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1024x4096, .f32⟩
  | .hbm, ⟨6, _⟩ => ⟨S1024x4096, .bf16⟩
  | .hbm, ⟨7, _⟩ => ⟨S1024x32x128, .bf16⟩
  | .hbm, ⟨8, _⟩ => ⟨S1024x4096, .f32⟩
  | .hbm, ⟨9, _⟩ => ⟨S1024x4096, .bf16⟩
  | .hbm, ⟨10, _⟩ => ⟨S1024x32x128, .bf16⟩
  | .hbm, ⟨11, _⟩ => ⟨S1024x4096, .f32⟩
  | .hbm, ⟨12, _⟩ => ⟨S1024x4096, .bf16⟩
  | .hbm, ⟨13, _⟩ => ⟨S1024x32x128, .bf16⟩
  | .hbm, ⟨14, _⟩ => ⟨S32x1024x1024, .f32⟩
  | .hbm, ⟨15, _⟩ => ⟨S32x1024x1024, .bf16⟩
  | .hbm, ⟨16, _⟩ => ⟨S32x1024x1024, .f32⟩
  | .hbm, ⟨17, _⟩ => ⟨S_, .f32⟩
  | .hbm, ⟨18, _⟩ => ⟨S32x1024x1024, .f32⟩
  | .hbm, ⟨19, _⟩ => ⟨S32x1024x1024, .f32⟩
  | .hbm, ⟨20, _⟩ => ⟨S_, .f32⟩
  | .hbm, ⟨21, _⟩ => ⟨S32x1024, .f32⟩
  | .hbm, ⟨22, _⟩ => ⟨S32x1024x1, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024, .f32⟩
  | .hbm, ⟨28, _⟩ => ⟨S32x1024x1, .f32⟩
  | .hbm, ⟨29, _⟩ => ⟨S1024x32x128, .f32⟩
  | .hbm, ⟨30, _⟩ => ⟨S32x128x1024, .f32⟩
  | .hbm, ⟨31, _⟩ => ⟨S1024x32x128, .f32⟩
  | .hbm, ⟨32, _⟩ => ⟨S1024x32x1, .f32⟩
  | .hbm, ⟨33, _⟩ => ⟨S1024x32x128, .f32⟩
  | .hbm, ⟨34, _⟩ => ⟨S1024x32x128, .f32⟩
  | .hbm, ⟨35, _⟩ => ⟨S1024x4096, .f32⟩
  | .hbm, ⟨36, _⟩ => ⟨S4096x1024, .f32⟩
  | .hbm, ⟨37, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.KI.Vals.lean ====
/-
What one device of the ring computes, as functions of the arrays it reads: the projected chunks, the blocks of the
attention of one head, and the partial output of the device's eight heads for one chunk of the sequence.

A device numbers the four chunks of the sequence by the order in which it gets them: chunk 0 is its own, then the chunk
of the device before it, of the device after it, and of the device opposite.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic

variable {F : FTy → Type} [FloatOps F] [Named F]

/-- The place of row `i` within its chunk of 256 rows, the column kept. -/
def inChunk (i : S1024x1024.Idx) : S256x1024.Idx := fun a =>
  ⟨if a = 0 then (i a).val % 256 else (i a).val, by
    have h : ∀ a : Fin 2, ∀ n : Nat, n < S1024x1024.size a → (if a = 0 then n % 256 else n) < S256x1024.size a := by
      intro a n hn
      fin_cases a
      · exact Nat.mod_lt _ (by decide)
      · exact hn
    exact h a _ (i a).isLt⟩

/-- The chunk that row `i` lies in. -/
def chunkOf (i : S1024x1024.Idx) : Fin 4 := ⟨(i 0).val / 256, by
  have h : (i 0).val < 1024 := (i 0).isLt
  omega⟩

/-- Four chunks of 256 rows, one under the other. -/
def rows4 (y : Fin 4 → FVec F S256x1024 .bf16) : FVec F S1024x1024 .bf16 := fun i => y (chunkOf i) (inChunk i)

/-- The elements of an array that a rectangle names. -/
def rd (r : Rect S1024x1024) (f : FVec F S1024x1024 .bf16) : r.shape.Idx → F .bf16 := fun x => f (r.toLoadRect.idx x)

/-- The index of row `i` and column `j`. -/
def ix (i j : ℕ) : S1024x1024.Idx := fun a => ⟨(![i, j] : Fin 2 → ℕ) a % 1024, by
  have h : ∀ a : Fin 2, ∀ n : ℕ, n % 1024 < S1024x1024.size a := by
    intro a n
    fin_cases a <;> exact Nat.mod_lt _ (by decide)
  exact h a _⟩

/-- The block of an array that begins at row `r` and column `c`. -/
def blk (size : Fin 2 → ℕ) (r c : ℕ) (f : FVec F S1024x1024 .bf16) : (⟨2, size⟩ : Shape).Idx → F .bf16 :=
  fun x => f (ix (r + (x 0).val) (c + (x 1).val))

/-- Chunk `t` of the rows, the columns of head `h`. -/
abbrev hd (t h : ℕ) (f : FVec F S1024x1024 .bf16) : Vec F S256x128 .bf16 := blk S256x128.size (256 * t) (128 * h) f
/-- Chunks 0 and 1, the columns of head `h`; -/
abbrev hd2 (h : ℕ) (f : FVec F S1024x1024 .bf16) : Vec F S512x128 .bf16 := blk S512x128.size 0 (128 * h) f
/-- chunks 0, 1 and 2; -/
abbrev hd3 (h : ℕ) (f : FVec F S1024x1024 .bf16) : Vec F S768x128 .bf16 := blk S768x128.size 0 (128 * h) f
/-- all four chunks. -/
abbrev hd4 (h : ℕ) (f : FVec F S1024x1024 .bf16) : Vec F S1024x128 .bf16 := blk S1024x128.size 0 (128 * h) f

section Parts
variable (q k v : FVec F S1024x1024 .bf16) (h : Fin 8)

/-- The weighted values of head `h` that chunk `u` of the queries has gathered when its output is projected, added in the
    order in which the kernel meets the blocks of keys; -/
def accOf (u : Fin 4) : FVec F S256x128 .f32 :=
  match u with
  | 0 => addf (addf (addf (k0_pay10 (hd 0 h q) (hd 0 h k) (hd 0 h v)) (k0_pay10 (hd 0 h q) (hd 1 h k) (hd 1 h v)))
      (extractStridedSlice S256x128 ![0, 0] (k0_pay98 (hd2 h q) (hd 2 h k) (hd 2 h v)) slices_S512x128_o0_0_S256x128))
      (k0_pay10 (hd 0 h q) (hd 3 h k) (hd 3 h v))
  | 1 => addf (addf (k0_pay68 (hd 1 h q) (hd2 h k) (hd2 h v))
      (extractStridedSlice S256x128 ![256, 0] (k0_pay98 (hd2 h q) (hd 2 h k) (hd 2 h v)) slices_S512x128_o256_0_S256x128))
      (k0_pay10 (hd 1 h q) (hd 3 h k) (hd 3 h v))
  | 2 => addf (k0_pay156 (hd 2 h q) (hd3 h k) (hd3 h v)) (k0_pay10 (hd 2 h q) (hd 3 h k) (hd 3 h v))
  | 3 => k0_pay242 (hd 3 h q) (hd4 h k) (hd4 h v)

/-- the sum of the weights, likewise. -/
def sumOf (u : Fin 4) : FVec F S256x1 .f32 :=
  match u with
  | 0 => addf (addf (addf (k0_pay9 (hd 0 h q) (hd 0 h k)) (k0_pay9 (hd 0 h q) (hd 1 h k)))
      (extractStridedSlice S256x1 ![0, 0] (k0_pay97 (hd2 h q) (hd 2 h k)) slices_S512x1_o0_0_S256x1))
      (k0_pay9 (hd 0 h q) (hd 3 h k))
  | 1 => addf (addf (k0_pay67 (hd 1 h q) (hd2 h k))
      (extractStridedSlice S256x1 ![256, 0] (k0_pay97 (hd2 h q) (hd 2 h k)) slices_S512x1_o256_0_S256x1))
      (k0_pay9 (hd 1 h q) (hd 3 h k))
  | 2 => addf (k0_pay155 (hd 2 h q) (hd3 h k)) (k0_pay9 (hd 2 h q) (hd 3 h k))
  | 3 => k0_pay241 (hd 3 h q) (hd4 h k)

/-- One head's normalised output through its 128 rows of the output projection. -/
def headOut (wo : FVec F S1024x1024 .bf16) (u : Fin 4) : FVec F S256x1024 .f32 :=
  matmul dot_S256x128_S128x1024_S256x1024_1_0_0_1_n_n none (k0_pay207 (accOf q k v h u) (sumOf q k h u))
    (extractStridedSlice S128x1024 ![128 * h.val, 0] wo (by revert h; decide)) (constant S256x1024 .f32 0x00000000#32)

/-- The eight heads' outputs for chunk `u`, added from zero on. -/
def partOut (wo : FVec F S1024x1024 .bf16) (u : Fin 4) : FVec F S256x1024 .bf16 :=
  truncf .bf16 (addf (addf (addf (addf (addf (addf (addf (addf k0_pay206
    (headOut q k v 0 wo u)) (headOut q k v 1 wo u)) (headOut q k v 2 wo u)) (headOut q k v 3 wo u))
    (headOut q k v 4 wo u)) (headOut q k v 5 wo u)) (headOut q k v 6 wo u)) (headOut q k v 7 wo u)) bitsLt_bf16_f32

end Parts

/-- The queries of the four chunks `x`, scaled; -/
def qOf (wq : FVec F S1024x1024 .bf16) (x : Fin 4 → FVec F S256x1024 .bf16) : FVec F S1024x1024 .bf16 :=
  rows4 fun t => k0_pay32 wq (x t)
/-- their keys (or values). -/
def kOf (wk : FVec F S1024x1024 .bf16) (x : Fin 4 → FVec F S256x1024 .bf16) : FVec F S1024x1024 .bf16 :=
  rows4 fun t => k0_pay6 wk (x t)

/-- The device's partial output for chunk `u`, from its chunks in its own order and its parts of the four weights. -/
def yOf (wq wk wv wo : FVec F S1024x1024 .bf16) (x : Fin 4 → FVec F S256x1024 .bf16) (u : Fin 4) : FVec F S256x1024 .bf16 :=
  partOut (qOf wq x) (kOf wk x) (kOf wv x) wo u

end Cert.KernelIdeal.Ring

end
-- ==== Proof.KI.Proto.lean ====
/-
The protocol by which the four devices exchange their chunks and their partial outputs.

The devices stand on a ring: `prv c` and `nxt c` are the neighbours of device `c`, `opp c` the device opposite. A device
first signals both neighbours' barrier semaphore and waits for both of theirs. Each signal hands over the buffers that
its receiver may then write: to `prv c`, the buffer of `c` for the chunk from `prv c`, and two slabs of the result buffer
of `c`; to `nxt c`, the buffers of `c` for the chunk from `nxt c` and for the opposite chunk, and one slab. The second slab given
to `prv c` is passed on to the device opposite `c` with the relayed chunk.

Every cell (a device's semaphore) has one round of duties. The barrier cell has two, one for each neighbour; a cell of a copy has one,
whose payload is what the copy leaves at that end.
-/
module

public import proofs.«01_k».proof.Proof.KI.Vals
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds library's resources, duties named by a truth value; -/
abbrev UB : Type := URounds (GSem nD τ sig) Bool
/-- beside the pipeline library's. -/
abbrev UU : Type := UR sig nD τ × UB

local notation "𝕄" => MT nD τ sig Unit (Elt F) ℕ UU ℕ

/-- Where the ghost state of the staging lies. -/
abbrev EP : Emb (UR sig nD τ) (MT nD τ sig Unit (Elt F) ℕ UU ℕ) := embL
/-- Where the ghost state of the exchange lies. -/
abbrev ER : Emb UB (MT nD τ sig Unit (Elt F) ℕ UU ℕ) := embR

/-! ## The ring -/

set_option backward.proofsInPublic true in
/-- The device before; -/
def prv (c : Dev nD) : Dev nD := ⟨(c.val + 3) % 4, Nat.mod_lt _ (by decide)⟩
set_option backward.proofsInPublic true in
/-- the device after; -/
def nxt (c : Dev nD) : Dev nD := ⟨(c.val + 1) % 4, Nat.mod_lt _ (by decide)⟩
set_option backward.proofsInPublic true in
/-- the device opposite. -/
def opp (c : Dev nD) : Dev nD := ⟨(c.val + 2) % 4, Nat.mod_lt _ (by decide)⟩

/-- One place on and one back. -/
theorem prv_nxt (c : Dev nD) : prv (nxt c) = c := by revert c; decide
/-- One place back and one on. -/
theorem nxt_prv (c : Dev nD) : nxt (prv c) = c := by revert c; decide
/-- Two places back is opposite. -/
theorem prv_prv (c : Dev nD) : prv (prv c) = opp c := by revert c; decide
/-- Two places on is opposite. -/
theorem nxt_nxt (c : Dev nD) : nxt (nxt c) = opp c := by revert c; decide
/-- Opposite twice. -/
theorem opp_opp (c : Dev nD) : opp (opp c) = c := by revert c; decide
/-- Opposite the device before is the device after. -/
theorem opp_prv (c : Dev nD) : opp (prv c) = nxt c := by revert c; decide
/-- The device before is another one. -/
theorem prv_ne (c : Dev nD) : prv c ≠ c := by revert c; decide
/-- The device after is another one. -/
theorem nxt_ne (c : Dev nD) : nxt c ≠ c := by revert c; decide
/-- The opposite device is another one. -/
theorem opp_ne (c : Dev nD) : opp c ≠ c := by revert c; decide
/-- The devices before and after are different. -/
theorem nxt_ne_prv (c : Dev nD) : nxt c ≠ prv c := by revert c; decide

/-- The first signal goes to the device before. -/
theorem dev1_eq (c : Dev nD) : (⟨k0_dev1 c, k0_dev1_lt c⟩ : Dev nD) = prv c := by revert c; decide
/-- The second signal goes to the device after. -/
theorem dev2_eq (c : Dev nD) : (⟨k0_dev2 c, k0_dev2_lt c⟩ : Dev nD) = nxt c := by revert c; decide
/-- The first copy of the all-gather goes to the device after. -/
theorem dev3_eq (c : Dev nD) : (⟨k0_dev3 c, k0_dev3_lt c⟩ : Dev nD) = nxt c := by revert c; decide
/-- The second goes to the device before. -/
theorem dev4_eq (c : Dev nD) : (⟨k0_dev4 c, k0_dev4_lt c⟩ : Dev nD) = prv c := by revert c; decide
/-- The relay goes to the device before. -/
theorem dev5_eq (c : Dev nD) : (⟨k0_dev5 c, k0_dev5_lt c⟩ : Dev nD) = prv c := by revert c; decide
/-- The first finished chunk goes to the device before. -/
theorem dev6_eq (c : Dev nD) : (⟨k0_dev6 c, k0_dev6_lt c⟩ : Dev nD) = prv c := by revert c; decide
/-- The second goes to the device after. -/
theorem dev7_eq (c : Dev nD) : (⟨k0_dev7 c, k0_dev7_lt c⟩ : Dev nD) = nxt c := by revert c; decide
/-- The third goes to the opposite device. -/
theorem dev8_eq (c : Dev nD) : (⟨k0_dev8 c, k0_dev8_lt c⟩ : Dev nD) = opp c := by revert c; decide

/-- Stepping back along the ring, as a rearrangement of the devices; -/
def back : Dev nD ≃ Dev nD := ⟨prv, nxt, nxt_prv, prv_nxt⟩
/-- stepping across, likewise. -/
def across : Dev nD ≃ Dev nD := ⟨opp, opp, opp_opp, opp_opp⟩

/-- The device whose chunk of the sequence device `c` numbers `t`. -/
def src (c : Dev nD) (t : Fin 4) : Dev nD := match t with
  | 0 => c | 1 => prv c | 2 => nxt c | 3 => opp c

/-- The number by which device `p` knows the chunk of device `c`. -/
def slot (c p : Dev nD) : Fin 4 := if p = c then 0 else if p = nxt c then 1 else if p = prv c then 2 else 3

/-- For the device before, `c`'s finished chunk is chunk 1. -/
theorem slot_prv (c : Dev nD) : slot (prv c) c = 1 := by revert c; decide
/-- For the device after it is chunk 2. -/
theorem slot_nxt (c : Dev nD) : slot (nxt c) c = 2 := by revert c; decide
/-- For the opposite device it is chunk 3. -/
theorem slot_opp (c : Dev nD) : slot (opp c) c = 3 := by revert c; decide
/-- For itself it is chunk 0. -/
theorem slot_self (c : Dev nD) : slot c c = 0 := by revert c; decide

/-! ## The contents -/

/-- The five arrays as each device holds its part of them. -/
structure Ins (F : FTy → Type) where
  X : Dev nD → Vec F S256x1024 .bf16
  WQ : Dev nD → Vec F S1024x1024 .bf16
  WK : Dev nD → Vec F S1024x1024 .bf16
  WV : Dev nD → Vec F S1024x1024 .bf16
  WO : Dev nD → Vec F S1024x1024 .bf16

variable (I : Ins F)

/-- The chunk that device `c` sends round. -/
def xc (c : Dev nD) : FVec F S256x1024 .bf16 := k0_pay1 (I.X c)
/-- The queries of all four chunks for the heads of device `c`; -/
def qOn (c : Dev nD) : FVec F S1024x1024 .bf16 := qOf (k0_pay2 (I.WQ c)) fun t => xc I (src c t)
/-- their keys; -/
def kOn (c : Dev nD) : FVec F S1024x1024 .bf16 := kOf (k0_pay3 (I.WK c)) fun t => xc I (src c t)
/-- their values. -/
def vOn (c : Dev nD) : FVec F S1024x1024 .bf16 := kOf (k0_pay4 (I.WV c)) fun t => xc I (src c t)
/-- What the heads of device `c` contribute to the output rows of its chunk `u`. -/
def yOn (c : Dev nD) (u : Fin 4) : FVec F S256x1024 .bf16 := partOut (qOn I c) (kOn I c) (vOn I c) (k0_pay91 (I.WO c)) u

/-- A 256-row tile repeated down a 1024-row buffer: what any of its four slabs holds once the tile has been written there. -/
def tile (y : FVec F S256x1024 .bf16) : S1024x1024.Idx → Elt F .bf16 := fun i => y (inChunk i)

/-! ## The memrefs and cells -/

/-- The staged chunk of tokens. -/
abbrev xM : Memref sig .tc .vmem S256x1024 .bf16 := Memref.whole cc0_stg0_0
/-- The buffer for the device's own chunk. -/
abbrev x0M : Memref sig .tc .vmem S256x1024 .bf16 := Memref.whole cc0_scratch0
/-- The buffer for the chunk of the device before. -/
abbrev x1M : Memref sig .tc .vmem S256x1024 .bf16 := Memref.whole cc0_scratch1
/-- The buffer for the chunk of the device after. -/
abbrev x2M : Memref sig .tc .vmem S256x1024 .bf16 := Memref.whole cc0_scratch2
/-- The buffer for the chunk of the opposite device. -/
abbrev x3M : Memref sig .tc .vmem S256x1024 .bf16 := Memref.whole cc0_scratch3
/-- The buffer of finished chunks. -/
abbrev ysM : Memref sig .tc .vmem S1024x1024 .bf16 := Memref.whole cc0_scratch7
/-- The buffer into which the devices' finished chunks land. -/
abbrev rbM : Memref sig .tc .vmem S1024x1024 .bf16 := Memref.whole cc0_scratch8

/-- Slab `u` of the buffer for finished chunks; -/
abbrev ysl (u : Fin 4) : Memref sig .tc .vmem S256x1024 .bf16 :=
  ysM.slice (Rect.unit (s := S1024x1024) ![256 * u.val, 0] S256x1024.size (by revert u; decide)) (fun _ => rfl)
/-- the slab of the result buffer for what device `p` sends. -/
abbrev rbl (p : Dev nD) : Memref sig .tc .vmem S256x1024 .bf16 :=
  rbM.slice (Rect.unit (s := S1024x1024) (k0_off2 p) S256x1024.size (k0_off2_inb p)) (fun _ => rfl)

/-- The barrier semaphore that the three steps of the exchange start from. -/
abbrev barS : Sem sig := (SemArray.scalar (sig.barrier 0 rfl) : Sems sig S_).sem
/-- The barrier cell of device `c`. -/
abbrev barCell (c : Dev nD) : GSem nD τ sig := ((c : Thread nD τ), .reg barS)
/-- The cell of device `c`'s copy semaphore `q`: 6 to 8 and 9 to 11 are the sending and the receiving ends of the three
    copies of chunks, 12 to 14 the sending ends of the three copies of finished chunks, `15 + p` the receiving end of
    the one from device `p`. -/
abbrev dCell (c : Dev nD) (q : DmaSem sig) : GSem nD τ sig := ((c : Thread nD τ), .dma q)

set_option backward.proofsInPublic true in
/-- The semaphore at the receiving end of the copy from device `p`. -/
abbrev rsq (p : Dev nD) : DmaSem sig := ⟨15 + p.val, by have h : p.val < 4 := p.isLt; show 15 + p.val < 19; omega⟩

/-- The scoped semaphores of the exchange; -/
abbrev osem : Fin 13 → SemLoc sig := fun k => .dma ⟨6 + k.val, by have := k.isLt; show 6 + k.val < 19; omega⟩
/-- all of its semaphores, the barrier first. -/
abbrev csem : Fin 14 → SemLoc sig := fun k => match k with
  | ⟨0, _⟩ => .reg barS
  | ⟨n + 1, h⟩ => osem ⟨n, by omega⟩
/-- The cell of a device and a semaphore of the exchange. -/
abbrev kcell (ck : Dev nD × Fin 14) : GSem nD τ sig := ((ck.1 : Thread nD τ), csem ck.2)

/-- The amount of every copy. -/
abbrev N : ℕ := (x0M : Memref sig .tc .vmem S256x1024 .bf16).view.dmaCredit
/-- A copy has a positive amount. -/
theorem N_pos : 0 < N := View.dmaCredit_pos _ (by decide)

/-! ## The payloads -/

/-- A buffer of device `c` holding `f`, at some share. -/
def at0 (c : Dev nD) (π : PosShare TreeShare) (f : Buf (Elt F) (x0M.view.loc (c : Thread nD τ))) : sProp 𝕄 :=
  x0M.view.loc (c : Thread nD τ) ↦[x0M.view.set]{π} f
/-- The same of the buffer for the chunk of the device before, in full. -/
def at1 (c : Dev nD) (f : Buf (Elt F) (x1M.view.loc (c : Thread nD τ))) : sProp 𝕄 :=
  x1M.view.loc (c : Thread nD τ) ↦[x1M.view.set]{fullShare} f
/-- The same of the buffer for the chunk of the device after, at share `π`. -/
def at2 (c : Dev nD) (π : PosShare TreeShare) (f : Buf (Elt F) (x2M.view.loc (c : Thread nD τ))) : sProp 𝕄 :=
  x2M.view.loc (c : Thread nD τ) ↦[x2M.view.set]{π} f
/-- The same of the buffer for the chunk of the opposite device, in full. -/
def at3 (c : Dev nD) (f : Buf (Elt F) (x3M.view.loc (c : Thread nD τ))) : sProp 𝕄 :=
  x3M.view.loc (c : Thread nD τ) ↦[x3M.view.set]{fullShare} f
/-- Slab `u` of device `c`'s finished chunks holding `f`; -/
def atY (c : Dev nD) (u : Fin 4) (f : Buf (Elt F) ((ysl u).view.loc (c : Thread nD τ))) : sProp 𝕄 :=
  (ysl u).view.loc (c : Thread nD τ) ↦[(ysl u).view.set]{fullShare} f
/-- slab `p` of device `c`'s result buffer holding `f`. -/
def atR (c p : Dev nD) (f : Buf (Elt F) ((rbl p).view.loc (c : Thread nD τ))) : sProp 𝕄 :=
  (rbl p).view.loc (c : Thread nD τ) ↦[(rbl p).view.set]{fullShare} f

omit [FloatOps F] [Named F] in
/-- What is held of buffer 0 may be handed over. -/
instance at0_storable (c π f) : BI.Storable (upEmb : UEmb _ 𝕄) (at0 (F := F) c π f) := by unfold at0; infer_instance
omit [FloatOps F] [Named F] in
/-- So may what is held of buffer 1. -/
instance at1_storable (c f) : BI.Storable (upEmb : UEmb _ 𝕄) (at1 (F := F) c f) := by unfold at1; infer_instance
omit [FloatOps F] [Named F] in
/-- So may what is held of buffer 2. -/
instance at2_storable (c π f) : BI.Storable (upEmb : UEmb _ 𝕄) (at2 (F := F) c π f) := by unfold at2; infer_instance
omit [FloatOps F] [Named F] in
/-- So may what is held of buffer 3. -/
instance at3_storable (c f) : BI.Storable (upEmb : UEmb _ 𝕄) (at3 (F := F) c f) := by unfold at3; infer_instance
omit [FloatOps F] [Named F] in
/-- So may what is held of a slab of finished chunks. -/
instance atY_storable (c u f) : BI.Storable (upEmb : UEmb _ 𝕄) (atY (F := F) c u f) := by unfold atY; infer_instance
omit [FloatOps F] [Named F] in
/-- So may what is held of a slab of the result buffer. -/
instance atR_storable (c p f) : BI.Storable (upEmb : UEmb _ 𝕄) (atR (F := F) c p f) := by unfold atR; infer_instance

/-- What the device before `c` hands over with its signal: its buffers for the chunk of `c` and for the one relayed by `c`, and its slab for `c`; -/
def barPrv (c : Dev nD) : sProp 𝕄 :=
  iprop((∃ f, at2 (prv c) fullShare f) ∗ (∃ f, at3 (prv c) f) ∗ (∃ f, atR (prv c) c f))
/-- what the device after `c` does: its buffer for the chunk of `c`, its slab for `c`, and its slab for the device before `c`. -/
def barNxt (c : Dev nD) : sProp 𝕄 :=
  iprop((∃ f, at1 (nxt c) f) ∗ (∃ f, atR (nxt c) c f) ∗ (∃ f, atR (nxt c) (prv c) f))

/-- The part of a share kept for loads, and the two lent to the copies in flight. -/
abbrev πl : PosShare TreeShare := fullShare.left
/-- The rest. -/
abbrev πr : PosShare TreeShare := fullShare.right
/-- The first half of the rest. -/
abbrev πrl : PosShare TreeShare := fullShare.right.left
/-- Its second half. -/
abbrev πrr : PosShare TreeShare := fullShare.right.right

/-- What the copy of semaphore `q` leaves with device `c`. -/
def dmaPay (c : Dev nD) (q : ℕ) : sProp 𝕄 := match q with
  | 6 => at0 c πl (xc I c)
  | 7 => at0 c πrl (xc I c)
  | 8 => at2 c πl (xc I (nxt c))
  | 9 => at1 c (xc I (prv c))
  | 10 => at2 c fullShare (xc I (nxt c))
  | 11 => iprop(at3 c (xc I (opp c)) ∗ ∃ f, atR (opp c) c f)
  | 12 => atY c 1 (tile (yOn I c 1))
  | 13 => atY c 2 (tile (yOn I c 2))
  | 14 => atY c 3 (tile (yOn I c 3))
  | 15 => atR c 0 (tile (yOn I 0 (slot c 0)))
  | 16 => atR c 1 (tile (yOn I 1 (slot c 1)))
  | 17 => atR c 2 (tile (yOn I 2 (slot c 2)))
  | 18 => atR c 3 (tile (yOn I 3 (slot c 3)))
  | _ => iprop(emp)

/-- What a copy leaves may be handed over. -/
instance dmaPay_storable (c : Dev nD) (q : ℕ) : BI.Storable (upEmb : UEmb _ 𝕄) (dmaPay I c q) := by
  unfold dmaPay; split <;> infer_instance

/-! ## The schedule -/

/-- The duties of a cell in its one round. -/
def duty0 (g : GSem nD τ sig) : Finset Bool := match g.2 with
  | .reg _ => Finset.univ
  | .dma q => if 6 ≤ q.val ∧ q.val ≠ 15 + g.1.1.val then {false} else ∅

/-- The schedule: every cell has one round, the barrier cells' duties of one unit each, the copies' of the copy's amount. -/
def sched : Rounds.Schedule (GSem nD τ sig) Bool 𝕄 where
  duties g r := if r = 0 ∧ g.1.2 = .tc then duty0 g else ∅
  unitless _ := False
  amount g _ _ := match g.2 with | .reg _ => 1 | .dma _ => N
  payload g _ d := match g.2 with
    | .reg _ => bif d then barNxt g.1.1 else barPrv g.1.1
    | .dma q => dmaPay I g.1.1 q.val
  amount_pos g _ _ _ := by
    rcases g with ⟨_, _ | _⟩
    · exact Nat.one_pos
    · exact N_pos

/-- Every payload of the schedule may be handed over. -/
instance sched_payload_storable (g : GSem nD τ sig) (r : ℕ) (d : Bool) :
    BI.Storable (upEmb : UEmb _ 𝕄) ((sched I).payload g r d) := by
  rcases g with ⟨⟨c, k⟩, _ | q⟩
  · cases d
    · show BI.Storable upEmb (barPrv (F := F) c)
      unfold barPrv; infer_instance
    · show BI.Storable upEmb (barNxt (F := F) c)
      unfold barNxt; infer_instance
  · exact dmaPay_storable I c q.val

section Sched
variable (c : Dev nD)

/-- A barrier cell has both duties. -/
theorem duties_bar : (sched I).duties (barCell c) 0 = Finset.univ := by
  show (if (0 : ℕ) = 0 ∧ (barCell c).1.2 = .tc then duty0 (barCell c) else ∅) = _
  rw [if_pos ⟨rfl, rfl⟩]; rfl
/-- A copy's cell has one duty. -/
theorem duties_dma (q : DmaSem sig) (hq : 6 ≤ q.val) (hc : q.val ≠ 15 + c.val) : (sched I).duties (dCell c q) 0 = {false} := by
  show (if (0 : ℕ) = 0 ∧ (dCell c q).1.2 = .tc then duty0 (dCell c q) else ∅) = _
  rw [if_pos ⟨rfl, rfl⟩]; exact if_pos ⟨hq, hc⟩
/-- Nobody copies onto the receiving cell that a device keeps for itself. -/
theorem duties_own : (sched I).duties (dCell c (rsq c)) 0 = ∅ := by
  show (if (0 : ℕ) = 0 ∧ (dCell c (rsq c)).1.2 = .tc then duty0 (dCell c (rsq c)) else ∅) = _
  rw [if_pos ⟨rfl, rfl⟩]; exact if_neg fun h => h.2 rfl
/-- No cell has a second round. -/
theorem duties_later (g : GSem nD τ sig) : ∀ r, 1 ≤ r → (sched I).duties g r = ∅ :=
  fun r hr => by dsimp only [sched]; exact if_neg fun h => by have := h.1; omega
/-- That cell has no duty in any round. -/
theorem duties_own_all : ∀ r, 0 ≤ r → (sched I).duties (dCell c (rsq c)) r = ∅ := fun r _ => by
  rcases Nat.eq_zero_or_pos r with rfl | h
  · exact duties_own I c
  · exact duties_later I _ r h

/-- A signal is one unit. -/
theorem amount_bar (d : Bool) : (sched I).amount (barCell c) 0 d = 1 := rfl
/-- A landing is the amount of one copy. -/
theorem amount_dma (q : DmaSem sig) (d : Bool) : (sched I).amount (dCell c q) 0 d = N := rfl

/-- The barrier wait is for two units. -/
theorem expect_bar : (sched I).expect (barCell c) 0 = 2 := by
  unfold Schedule.expect Schedule.amountOf
  rw [duties_bar, Finset.sum_congr rfl fun d _ => amount_bar I c d, Finset.sum_const, Finset.card_univ, Fintype.card_bool, smul_eq_mul]
/-- The wait for a copy is for its amount. -/
theorem expect_dma (q : DmaSem sig) (hq : 6 ≤ q.val) (hc : q.val ≠ 15 + c.val) : (sched I).expect (dCell c q) 0 = N := by
  unfold Schedule.expect Schedule.amountOf; rw [duties_dma I c q hq hc, Finset.sum_singleton, amount_dma]

/-- What the barrier wait gives: both neighbours' payloads. -/
theorem rest_bar : bigSep ((sched I).duties (barCell c) 0 \ ∅) (fun d => (sched I).payload (barCell c) 0 d) = iprop(barPrv c ∗ barNxt c) := by
  rw [Finset.sdiff_empty, duties_bar, bigSep_univ_eq_bigSepL [false, true] (by decide) (by decide), bigSepL_cons_cons, bigSepL_singleton]
  rfl
/-- What the wait for a copy gives. -/
theorem rest_dma (q : DmaSem sig) (hq : 6 ≤ q.val) (hc : q.val ≠ 15 + c.val) :
    bigSep ((sched I).duties (dCell c q) 0 \ ∅) (fun d => (sched I).payload (dCell c q) 0 d) = dmaPay I c q.val := by
  rw [Finset.sdiff_empty, duties_dma I c q hq hc, bigSep_singleton]
  rfl

end Sched

/-! ## What each device owes, and the levels -/

/-- What device `c` still owes after its copies of finished chunks to `prv c` and `nxt c`: the one to `opp c`; -/
def O6 (c : Dev nD) : CellTallies nD τ sig Unit := tallyAt (dCell (opp c) (rsq c)) () N
/-- before the one to `nxt c`; -/
def O5 (c : Dev nD) : CellTallies nD τ sig Unit := O6 c + tallyAt (dCell (nxt c) (rsq c)) () N
/-- before the one to `prv c`; -/
def O4 (c : Dev nD) : CellTallies nD τ sig Unit := O5 c + tallyAt (dCell (prv c) (rsq c)) () N
/-- before the relayed chunk; -/
def O3 (c : Dev nD) : CellTallies nD τ sig Unit := O4 c + tallyAt (dCell (prv c) 11) () N
/-- before its chunk to `prv c`; -/
def O2 (c : Dev nD) : CellTallies nD τ sig Unit := O3 c + tallyAt (dCell (prv c) 10) () N
/-- before its chunk to `nxt c`; -/
def O1 (c : Dev nD) : CellTallies nD τ sig Unit := O2 c + tallyAt (dCell (nxt c) 9) () N
/-- before the signal to `nxt c`; -/
def O0' (c : Dev nD) : CellTallies nD τ sig Unit := O1 c + tallyAt (barCell (nxt c)) () 1
/-- at the start. -/
def O0 (c : Dev nD) : CellTallies nD τ sig Unit := O0' c + tallyAt (barCell (prv c)) () 1

/-- The counters of the cells on the core. -/
def L (g : GSem nD τ sig) : Finset Unit := if g.1.2 = .tc then {()} else ∅
/-- The barrier cells at 1, the receiving ends of the first two chunks at 2, of the relayed one at 3, of the finished
    chunks at 4; all else at 0. -/
def lv (g : GSem nD τ sig) (_ : Unit) : ℕ := match g.2 with
  | .reg _ => 1
  | .dma q => if q.val = 9 ∨ q.val = 10 then 2 else if q.val = 11 then 3 else if 15 ≤ q.val then 4 else 0

/-- Elsewhere there are none. -/
theorem L_of_ne (g : GSem nD τ sig) (h : g.1.2 ≠ .tc) : L g = ∅ := if_neg h
/-- On the core there is one. -/
theorem L_tc (c : Dev nD) (sm : SemLoc sig) : L ((c : Thread nD τ), sm) = {()} := if_pos rfl

/-- All that `O` owes is owed to cells above level `n`. -/
def Above (n : ℕ) (O : CellTallies nD τ sig Unit) : Prop := ∀ g u, 0 < O g u → g.1.2 = .tc ∧ n < lv g ()

/-- Nothing owed lies above every level. -/
theorem above_zero (n : ℕ) : Above n 0 := fun g u h => absurd h (Nat.lt_irrefl 0)
/-- What is owed to one cell lies above the levels below that cell's. -/
theorem above_tally (n : ℕ) (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
/-- Two debts above a level are together above it. -/
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg

/-- The receiving cells of finished chunks are at level 4. -/
theorem lv_rsq (c p : Dev nD) : lv (dCell c (rsq p)) () = 4 := by
  revert p; intro p; fin_cases p <;> rfl

/-- The last debt lies above the levels below 4. -/
theorem above_O6 (c : Dev nD) (n : ℕ) (h : n < 4) : Above n (O6 c) := above_tally _ _ _ _ (by rw [lv_rsq]; exact h)
/-- So do all three debts of finished chunks. -/
theorem above_O4 (c : Dev nD) (n : ℕ) (h : n < 4) : Above n (O4 c) :=
  above_add (above_add (above_O6 c n h) (above_tally _ _ _ _ (by rw [lv_rsq]; exact h))) (above_tally _ _ _ _ (by rw [lv_rsq]; exact h))
/-- With the relay's, the debts lie above the levels below 3. -/
theorem above_O3 (c : Dev nD) (n : ℕ) (h : n < 3) : Above n (O3 c) :=
  above_add (above_O4 c n (by omega)) (above_tally _ _ _ _ (show n < 3 from h))
/-- With the two first chunks', above the levels below 2. -/
theorem above_O1 (c : Dev nD) (n : ℕ) (h : n < 2) : Above n (O1 c) :=
  above_add (above_add (above_O3 c n (by omega)) (above_tally _ _ _ _ (show n < 2 from h))) (above_tally _ _ _ _ (show n < 2 from h))
/-- With the two signals', above level 0. -/
theorem above_O0 (c : Dev nD) : Above 0 (O0 c) :=
  above_add (above_add (above_O1 c 0 (by decide)) (above_tally _ _ _ _ (show 0 < 1 by decide))) (above_tally _ _ _ _ (show 0 < 1 by decide))

omit [FloatOps F] [Named F] in
/-- A device may wait on a cell below all that it owes. -/
theorem mayWait_above (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rcases g with ⟨⟨d, k⟩, s⟩; obtain rfl : k = .tc := (h _ u hg).1; rw [L_tc]; exact Finset.mem_singleton_self _)
    (fun p hp => by rw [Finset.mem_singleton.mp hp])
    (fun g u hg => (h g u hg).2)

end Cert.KernelIdeal.Ring

end
-- ==== Proof.KI.Local.lean ====
/-
The three buffers in which a device keeps the projected rows (queries, keys, values). They fill up chunk by chunk: `held c M n Q` says
that the first `256 * n` rows of such a buffer are those of the array `Q`. A load from these rows reads `Q`.
-/
module

public import proofs.«01_k».proof.Proof.KI.Proto

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- No variants of the program are considered. -/
abbrev 𝒱₀ : Variants := Variants.none

/-- The weakest precondition of a piece of device `c`'s program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A buffer of 1024 rows. -/
abbrev BigM : Type := Memref sig .tc .vmem S1024x1024 .bf16

/-- The first `256 * n` rows of buffer `M` of device `c` are those of `Q`. -/
def held (c : Dev nD) (M : BigM) (n : ℕ) (Q : FVec F S1024x1024 .bf16) : sProp 𝕄 :=
  iprop(∃ f : Buf (Elt F) (M.view.loc (c : Thread nD τ)), ⌜∀ i : S1024x1024.Idx, (i 0).val < 256 * n → M.view.read (Elt F) f i = Q i⌝
    ∗ (M.view.loc (c : Thread nD τ) ↦[M.view.set]{fullShare} f))

omit [FloatOps F] [Named F] in
/-- A rectangle of whole rows reads, of four chunks, the one at its offset. -/
theorem rd_rows4 (y : Fin 4 → FVec F S256x1024 .bf16) (t : Fin 4) {off : Fin 2 → ℕ} (ho : off = ![256 * t.val, 0])
    (inb : ∀ a, off a + S256x1024.size a ≤ S1024x1024.size a) :
    rd (Rect.unit (s := S1024x1024) off S256x1024.size inb) (rows4 y) = y t := by
  subst ho
  funext x
  have h0 : (x 0).val < 256 := (x 0).isLt
  have e0 : ((Rect.unit (s := S1024x1024) ![256 * t.val, 0] S256x1024.size inb).toLoadRect.idx x 0).val = 256 * t.val + 1 * (x 0).val := rfl
  have e1 : ((Rect.unit (s := S1024x1024) ![256 * t.val, 0] S256x1024.size inb).toLoadRect.idx x 1).val = 0 + 1 * (x 1).val := rfl
  have hc : chunkOf ((Rect.unit (s := S1024x1024) ![256 * t.val, 0] S256x1024.size inb).toLoadRect.idx x) = t :=
    Fin.ext (by show _ / 256 = _; rw [e0]; omega)
  have hi : inChunk ((Rect.unit (s := S1024x1024) ![256 * t.val, 0] S256x1024.size inb).toLoadRect.idx x) = x := by
    funext a
    apply Fin.ext
    revert a
    refine Fin.forall_fin_two.mpr ⟨?_, ?_⟩
    · show _ % 256 = _
      rw [e0]; omega
    · show ((Rect.unit (s := S1024x1024) ![256 * t.val, 0] S256x1024.size inb).toLoadRect.idx x 1).val = _
      rw [e1]; omega
  show y (chunkOf _) (inChunk _) = _
  rw [hc, hi]

/-- The buffers for queries, keys and values. -/
abbrev qM : BigM := Memref.whole cc0_scratch4
/-- The buffer of the keys. -/
abbrev kM : BigM := Memref.whole cc0_scratch5
/-- The buffer of the values. -/
abbrev vM : BigM := Memref.whole cc0_scratch6

/-- The first holds its first `m` chunks, the other two their first `n`. -/
def qkv (c : Dev nD) (m n : ℕ) (Q K V : FVec F S1024x1024 .bf16) : sProp 𝕄 :=
  iprop(held c qM m Q ∗ held c kM n K ∗ held c vM n V)

section Steps
variable {c : Dev nD} {M : BigM}

/-- A load from the rows that are filled reads the array. -/
theorem ld {α : Type} {Kt : α → sProp (MT nD τ sig Unit (Elt F) ℕ UU ℕ)} {n : ℕ} {Q : FVec F S1024x1024 .bf16} {r₀ c₀ : ℕ} {size : Fin 2 → ℕ} {inb : ∀ a, (![r₀, c₀] : Fin 2 → ℕ) a + size a ≤ S1024x1024.size a}
    {hl : M.view.LoadsAt (Rect.unit (s := S1024x1024) ![r₀, c₀] size inb).toLoadRect}
    {k : ((Rect.unit (s := S1024x1024) ![r₀, c₀] size inb).shape.Idx → Elt F .bf16) → Prog (TpuEff nD τ sig (Elt F) Λ₀ .tc) α}
    (hn : r₀ + size 0 ≤ 256 * n) :
    held c M n Q ⊢ iprop((held c M n Q -∗ run c (k (blk size r₀ c₀ Q)) Kt)
      -∗ run c (.op (.load M (Rect.unit (s := S1024x1024) ![r₀, c₀] size inb).toLoadRect hl) k) Kt) := by
  unfold held
  iintro ⟨%f, %hf, H⟩ Hk
  iapply (wp_load 𝒱₀ (c : Thread nD τ) none Set.univ (m := M) (View.setOn_subset_set _ _)) $$ H
  iintro H
  have e : M.view.readAt (Elt F) (Rect.unit (s := S1024x1024) ![r₀, c₀] size inb).toLoadRect f = blk size r₀ c₀ Q := funext fun x => by
    have h0 : ((Rect.unit (s := S1024x1024) ![r₀, c₀] size inb).toLoadRect.idx x 0).val = r₀ + 1 * (x 0).val := rfl
    have h1 : ((Rect.unit (s := S1024x1024) ![r₀, c₀] size inb).toLoadRect.idx x 1).val = c₀ + 1 * (x 1).val := rfl
    have l0 : ((Rect.unit (s := S1024x1024) ![r₀, c₀] size inb).toLoadRect.idx x 0).val < 1024 := Fin.isLt _
    have l1 : ((Rect.unit (s := S1024x1024) ![r₀, c₀] size inb).toLoadRect.idx x 1).val < 1024 := Fin.isLt _
    have h2 : (x 0).val < size 0 := (x 0).isLt
    refine (hf _ (by omega)).trans (congrArg Q (funext fun a => Fin.ext ?_))
    revert a
    refine Fin.forall_fin_two.mpr ⟨?_, ?_⟩
    · show _ = (r₀ + (x 0).val) % 1024
      rw [h0]; omega
    · show _ = (c₀ + (x 1).val) % 1024
      rw [h1]; omega
  rw [e]
  iapply Hk
  iexists f
  isplitr; · ipureintro; exact hf
  iexact H

/-- A load of rows not yet filled, whose result is whatever they hold. -/
theorem ldx {α : Type} {Kt : α → sProp (MT nD τ sig Unit (Elt F) ℕ UU ℕ)} {n : ℕ} {Q : FVec F S1024x1024 .bf16} {r : LoadRect S1024x1024} {hl : M.view.LoadsAt r}
    {k : (r.shape.Idx → Elt F .bf16) → Prog (TpuEff nD τ sig (Elt F) Λ₀ .tc) α} :
    held c M n Q ⊢ iprop((∀ x, held c M n Q -∗ run c (k x) Kt) -∗ run c (.op (.load M r hl) k) Kt) := by
  unfold held
  iintro ⟨%f, %hf, H⟩ Hk
  iapply (wp_load 𝒱₀ (c : Thread nD τ) none Set.univ (m := M) (View.setOn_subset_set _ _)) $$ H
  iintro H
  iapply Hk
  iexists f
  isplitr; · ipureintro; exact hf
  iexact H

/-- The store of the next chunk. -/
theorem st {α : Type} {Kt : α → sProp (MT nD τ sig Unit (Elt F) ℕ UU ℕ)} {n : ℕ} {Q : FVec F S1024x1024 .bf16} {off : Fin 2 → ℕ} {inb : ∀ a, off a + S256x1024.size a ≤ S1024x1024.size a}
    {w : (Rect.unit (s := S1024x1024) off S256x1024.size inb).shape.Idx → Elt F .bf16}
    {hx : (M.access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α}
    (ho : off = ![256 * n, 0]) (hw : rd (Rect.unit (s := S1024x1024) off S256x1024.size inb) Q = w) :
    held c M n Q ⊢ iprop((held c M (n + 1) Q -∗ run c (k ⟨⟩) Kt)
      -∗ run c (.op (.store M (Rect.unit (s := S1024x1024) off S256x1024.size inb) w Finset.univ hx hm) k) Kt) := by
  subst ho; subst hw
  unfold held
  iintro ⟨%f, %hf, H⟩ Hk
  iapply (wp_store 𝒱₀ (c : Thread nD τ) none Set.univ (m := M) (r := Rect.unit (s := S1024x1024) ![256 * n, 0] S256x1024.size inb) (Mk := Finset.univ)
    (View.set_slice_subset _ _)) $$ H
  iintro H
  iapply Hk
  iexists _
  isplitr
  rotate_left
  · iexact H
  · ipureintro
    intro i hi
    by_cases h : (i 0).val < 256 * n
    · refine (View.read_slice_write_of_not_mem (v := M.view) _ f _ Finset.univ ?_).trans (hf i h)
      intro hm
      rw [Finset.mem_map] at hm
      obtain ⟨x, -, hx⟩ := hm
      have h1 : (i 0).val = 256 * n + 1 * (x 0).val := by rw [← hx]; rfl
      omega
    · have hx : ∃ x : (Rect.unit (s := S1024x1024) ![256 * n, 0] S256x1024.size inb).shape.Idx,
          (Rect.unit (s := S1024x1024) ![256 * n, 0] S256x1024.size inb).emb x = i := by
        have hm : i ∈ (Rect.unit (s := S1024x1024) ![256 * n, 0] S256x1024.size inb).set := by
          rw [Rect.mem_set_unit]
          refine Fin.forall_fin_two.mpr ⟨⟨?_, ?_⟩, ⟨Nat.zero_le _, ?_⟩⟩
          · show 256 * n ≤ (i 0).val; omega
          · show (i 0).val < 256 * n + 256; omega
          · show (i 1).val < 0 + 1024
            have h2 : (i 1).val < 1024 := (i 1).isLt
            omega
        rw [← Rect.map_emb_univ, Finset.mem_map] at hm
        obtain ⟨x, -, hx⟩ := hm
        exact ⟨x, hx⟩
      obtain ⟨x, rfl⟩ := hx
      exact View.read_slice_write_emb (v := M.view) _ f _ (Finset.mem_univ x)

end Steps

end Cert.KernelIdeal.Ring

end
-- ==== Proof.KI.LoadsA.lean ====
/-
The parts of the program, among the first nineteen, that only load projected rows: each returns its payloads of the blocks it loads,
and leaves the three buffers as they are.
-/
module

public import proofs.«01_k».proof.Proof.KI.Local

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Part 4 of the program, which only loads projected rows: what it returns. -/
theorem part4 {c : Dev nD} {Q K V : FVec F S1024x1024 .bf16} {Kt : _ → sProp (MT nD τ sig Unit (Elt F) ℕ UU ℕ)}
    (v90 : Vec F S256x128 .bf16) (v91 : Vec F S256x128 .bf16) :
    qkv c 1 1 Q K V ⊢ iprop((qkv c 1 1 Q K V -∗ Kt ⟨k0_pay15 v90 v91, k0_pay16 v90 v91 (blk S256x128.size 0 256 V), k0_pay18 (blk S256x128.size 0 384 Q) (blk S256x128.size 0 384 K), k0_pay19 (blk S256x128.size 0 384 Q) (blk S256x128.size 0 384 K) (blk S256x128.size 0 384 V), k0_pay21 (blk S256x128.size 0 512 Q) (blk S256x128.size 0 512 K), k0_pay22 (blk S256x128.size 0 512 Q) (blk S256x128.size 0 512 K) (blk S256x128.size 0 512 V), k0_pay23 (blk S256x128.size 0 640 Q) (blk S256x128.size 0 640 K), k0_pay24 (blk S256x128.size 0 640 Q) (blk S256x128.size 0 640 K)⟩)
      -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v90 v91) Kt) := by
  simp only [k0_part4_eq_skeleton]; unfold k0_part4_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 7 of the program, which only loads projected rows: what it returns. -/
theorem part7 {c : Dev nD} {Q K V : FVec F S1024x1024 .bf16} {Kt : _ → sProp (MT nD τ sig Unit (Elt F) ℕ UU ℕ)}
    (v86 : FVec F S256x1 .f32) (v89 : FVec F S256x128 .f32) (v95 : FVec F S256x1 .f32) (v98 : FVec F S256x128 .f32) (v104 : FVec F S256x1 .f32) (v107 : FVec F S256x128 .f32) (v183 : FVec F S256x1 .f32) (v184 : FVec F S256x256 .bf16) :
    qkv c 2 2 Q K V ⊢ iprop((qkv c 2 2 Q K V -∗ Kt ⟨k0_pay42 v89 v184 (blk S256x128.size 256 128 V), k0_pay43 v86 v183, k0_pay45 v98 (blk S256x128.size 0 256 Q) (blk S256x128.size 256 256 K) (blk S256x128.size 256 256 V), k0_pay46 v95 (blk S256x128.size 0 256 Q) (blk S256x128.size 256 256 K), k0_pay48 v107 (blk S256x128.size 0 384 Q) (blk S256x128.size 256 384 K) (blk S256x128.size 256 384 V), k0_pay49 v104 (blk S256x128.size 0 384 Q) (blk S256x128.size 256 384 K), k0_pay51 (blk S256x128.size 0 512 Q) (blk S256x128.size 256 512 K), k0_pay52 (blk S256x128.size 0 512 Q) (blk S256x128.size 256 512 K)⟩)
      -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v86 v89 v95 v98 v104 v107 v183 v184) Kt) := by
  simp only [k0_part7_eq_skeleton]; unfold k0_part7_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 8 of the program, which only loads projected rows: what it returns. -/
theorem part8 {c : Dev nD} {Q K V : FVec F S1024x1024 .bf16} {Kt : _ → sProp (MT nD τ sig Unit (Elt F) ℕ UU ℕ)}
    (v113 : FVec F S256x1 .f32) (v116 : FVec F S256x128 .f32) (v122 : FVec F S256x1 .f32) (v125 : FVec F S256x128 .f32) (v131 : FVec F S256x1 .f32) (v134 : FVec F S256x128 .f32) (v216 : FVec F S256x1 .f32) (v217 : FVec F S256x256 .bf16) :
    qkv c 2 2 Q K V ⊢ iprop((qkv c 2 2 Q K V -∗ Kt ⟨k0_pay53 v116 v217 (blk S256x128.size 256 512 V), k0_pay54 v113 v216, k0_pay56 v125 (blk S256x128.size 0 640 Q) (blk S256x128.size 256 640 K) (blk S256x128.size 256 640 V), k0_pay57 v122 (blk S256x128.size 0 640 Q) (blk S256x128.size 256 640 K), k0_pay59 v134 (blk S256x128.size 0 768 Q) (blk S256x128.size 256 768 K) (blk S256x128.size 256 768 V), k0_pay60 v131 (blk S256x128.size 0 768 Q) (blk S256x128.size 256 768 K), k0_pay62 (blk S256x128.size 0 896 Q) (blk S256x128.size 256 896 K), k0_pay63 (blk S256x128.size 0 896 Q) (blk S256x128.size 256 896 K)⟩)
      -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v113 v116 v122 v125 v131 v134 v216 v217) Kt) := by
  simp only [k0_part8_eq_skeleton]; unfold k0_part8_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 9 of the program, which only loads projected rows: what it returns. -/
theorem part9 {c : Dev nD} {Q K V : FVec F S1024x1024 .bf16} {Kt : _ → sProp (MT nD τ sig Unit (Elt F) ℕ UU ℕ)}
    (v140 : FVec F S256x1 .f32) (v143 : FVec F S256x128 .f32) (v249 : FVec F S256x1 .f32) (v250 : FVec F S256x256 .bf16) :
    qkv c 2 2 Q K V ⊢ iprop((qkv c 2 2 Q K V -∗ Kt ⟨k0_pay64 v143 v250 (blk S256x128.size 256 896 V), k0_pay65 v140 v249, k0_pay67 (blk S256x128.size 256 0 Q) (blk S512x128.size 0 0 K), k0_pay68 (blk S256x128.size 256 0 Q) (blk S512x128.size 0 0 K) (blk S512x128.size 0 0 V), k0_pay70 (blk S256x128.size 256 128 Q) (blk S512x128.size 0 128 K), k0_pay71 (blk S256x128.size 256 128 Q) (blk S512x128.size 0 128 K) (blk S512x128.size 0 128 V), k0_pay73 (blk S256x128.size 256 256 Q) (blk S512x128.size 0 256 K), k0_pay74 (blk S256x128.size 256 256 Q) (blk S512x128.size 0 256 K), (blk S512x128.size 0 256 V), (constant S256x128 .f32 0x00000000#32)⟩)
      -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v140 v143 v249 v250) Kt) := by
  simp only [k0_part9_eq_skeleton]; unfold k0_part9_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  iapply (ld (M := vM) (by decide)) $$ Hv; iintro Hv
  simp only [run, wp_ret]; imodintro
  iapply H
  isplitl [Hq]; · iexact Hq
  isplitl [Hk] <;> iassumption

/-- Part 10 of the program, which only loads projected rows: what it returns. -/
theorem part10 {c : Dev nD} {Q K V : FVec F S1024x1024 .bf16} {Kt : _ → sProp (MT nD τ sig Unit (Elt F) ℕ UU ℕ)}
    (v279 : FVec F S256x512 .bf16) (v280 : Vec F S512x128 .bf16) (cst_230 : FVec F S256x128 .f32) :
    qkv c 2 2 Q K V ⊢ iprop((qkv c 2 2 Q K V -∗ Kt ⟨k0_pay75 v279 v280 cst_230, k0_pay77 (blk S256x128.size 256 384 Q) (blk S512x128.size 0 384 K), k0_pay78 (blk S256x128.size 256 384 Q) (blk S512x128.size 0 384 K) (blk S512x128.size 0 384 V), k0_pay80 (blk S256x128.size 256 512 Q) (blk S512x128.size 0 512 K), k0_pay81 (blk S256x128.size 256 512 Q) (blk S512x128.size 0 512 K) (blk S512x128.size 0 512 V), k0_pay83 (blk S256x128.size 256 640 Q) (blk S512x128.size 0 640 K), k0_pay84 (blk S256x128.size 256 640 Q) (blk S512x128.size 0 640 K) (blk S512x128.size 0 640 V), (blk S256x128.size 256 768 Q)⟩)
      -∗ run c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v279 v280 cst_230) Kt) := by
  simp only [k0_part10_eq_skeleton]; unfold k0_part10_skel qkv
  simp only [Prog.lift, Prog.bind_op, Prog.bind_ret, Prog.pure_eq_ret]
  iintro ⟨Hq, Hk, Hv⟩ H
  iterate 3 ((iapply (ld (M := qM) (by decide)) $$ Hq; iintro Hq); (iapply (ld (M := kM) (by decide)) $$ Hk; iintro Hk); (iapply (ld (M := vM) (by decide)) $$ Hv; iintro Hv))
  iapply (ld (M := qM) (by decide)) $$ Hq; iintro Hq
  simp only [run, wp_ret]; imodintro
  iapply H
  isplitl [Hq]; · iexact Hq
  isplitl [Hk] <;> iassumption

/-- Part 13 of the program, which only loads projected rows: what it returns. -/
theorem part13 {c : Dev nD} {Q K V : FVec F S1024x1024 .bf16} {Kt : _ → sProp (MT nD τ sig Unit (Elt F) ℕ UU ℕ)}
    (v187 : FVec F S256x128 .f32) (v188 : FVec F S256x1 .f32) (v198 : FVec F S256x128 .f32) (v199 : FVec F S256x1 .f32) (v269 : FVec F S256x1 .f32) (v272 : FVec F S256x128 .f32) (v278 : FVec F S256x1 .f32) (v281 : FVec F S256x128 .f32) (v375 : Vec F S512x128 .bf16) :
    qkv c 3 3 Q K V ⊢ iprop((qkv c 3 3 Q K V -∗ Kt ⟨k0_pay106 v187 v375 (blk S256x128.size 512 128 K) (blk S256x128.size 512 128 V), k0_pay107 v188 v375 (blk S256x128.size 512 128 K), k0_pay108 v272 v375 (blk S256x128.size 512 128 K) (blk S256x128.size 512 128 V), k0_pay109 v269 v375 (blk S256x128.size 512 128 K), k0_pay113 v198 (blk S512x128.size 0 256 Q) (blk S256x128.size 512 256 K) (blk S256x128.size 512 256 V), k0_pay114 v199 (blk S512x128.size 0 256 Q) (blk S256x128.size 512 256 K), k0_pay115 v281 (blk S512x128.size 0 256 Q) (blk S256x128.size 512 256 K) (blk S256x128.size 512 256 V), k0_pay116 v278 (blk S512x128.size 0 256 Q) (blk S256x128.size 512 256 K), k0_pay117 (blk S512x128.size 0 384 Q) (blk S256x128.size 512 384 K), k0_pay118 (blk S512x128.size 0 384 Q) (blk S256x128.size 512 384 K)⟩)
      -∗ run c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v187 v188 v198 v199 v269 v272 v278 v281 v375) Kt) := by
  simp only [k0_part13_eq_skeleton]; unfold k0_part13_skel qkv
  simp only [Prog.lift, Prog.bind_op, Prog.bind_ret, Prog.pure_eq_ret]
  iintro ⟨Hq, Hk, Hv⟩ H
  iterate 2 ((iapply (ld (M := kM) (by decide)) $$ Hk; iintro Hk); (iapply (ld (M := vM) (by decide)) $$ Hv; iintro Hv); (iapply (ld (M := qM) (by decide)) $$ Hq; iintro Hq))
  iapply (ld (M := kM) (by decide)) $$ Hk; iintro Hk
  simp only [run, wp_ret]; imodintro
  iapply H
  isplitl [Hq]; · iexact Hq
  isplitl [Hk] <;> iassumption

/-- Part 14 of the program, which only loads projected rows: what it returns. -/
theorem part14 {c : Dev nD} {Q K V : FVec F S1024x1024 .bf16} {Kt : _ → sProp (MT nD τ sig Unit (Elt F) ℕ UU ℕ)}
    (v209 : FVec F S256x128 .f32) (v210 : FVec F S256x1 .f32) (v220 : FVec F S256x128 .f32) (v221 : FVec F S256x1 .f32) (v287 : FVec F S256x1 .f32) (v290 : FVec F S256x128 .f32) (v296 : FVec F S256x1 .f32) (v299 : FVec F S256x128 .f32) (v412 : FVec F S512x256 .f32) (v413 : FVec F S512 .f32) :
    qkv c 3 3 Q K V ⊢ iprop((qkv c 3 3 Q K V -∗ Kt ⟨k0_pay121 v209 v412 (blk S256x128.size 512 384 V), k0_pay122 v210 v413, k0_pay123 v290 v412 (blk S256x128.size 512 384 V), k0_pay124 v287 v413, k0_pay128 v220 (blk S512x128.size 0 512 Q) (blk S256x128.size 512 512 K) (blk S256x128.size 512 512 V), k0_pay129 v221 (blk S512x128.size 0 512 Q) (blk S256x128.size 512 512 K), k0_pay130 v299 (blk S512x128.size 0 512 Q) (blk S256x128.size 512 512 K) (blk S256x128.size 512 512 V), k0_pay131 v296 (blk S512x128.size 0 512 Q) (blk S256x128.size 512 512 K), k0_pay133 (blk S512x128.size 0 640 Q) (blk S256x128.size 512 640 K), k0_pay134 (blk S512x128.size 0 640 Q) (blk S256x128.size 512 640 K) (blk S256x128.size 512 640 V), k0_pay135 (blk S512x128.size 0 640 Q) (blk S256x128.size 512 640 K) (blk S256x128.size 512 640 V)⟩)
      -∗ run c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v209 v210 v220 v221 v287 v290 v296 v299 v412 v413) Kt) := by
  simp only [k0_part14_eq_skeleton]; unfold k0_part14_skel qkv
  simp only [Prog.lift, Prog.bind_op, Prog.bind_ret, Prog.pure_eq_ret]
  iintro ⟨Hq, Hk, Hv⟩ H
  iterate 2 ((iapply (ld (M := vM) (by decide)) $$ Hv; iintro Hv); (iapply (ld (M := qM) (by decide)) $$ Hq; iintro Hq); (iapply (ld (M := kM) (by decide)) $$ Hk; iintro Hk))
  iapply (ld (M := vM) (by decide)) $$ Hv; iintro Hv
  simp only [run, wp_ret]; imodintro
  iapply H
  isplitl [Hq]; · iexact Hq
  isplitl [Hk] <;> iassumption

/-- Part 15 of the program, which only loads projected rows: what it returns. -/
theorem part15 {c : Dev nD} {Q K V : FVec F S1024x1024 .bf16} {Kt : _ → sProp (MT nD τ sig Unit (Elt F) ℕ UU ℕ)}
    (v231 : FVec F S256x128 .f32) (v232 : FVec F S256x1 .f32) (v242 : FVec F S256x128 .f32) (v243 : FVec F S256x1 .f32) (v253 : FVec F S256x128 .f32) (v254 : FVec F S256x1 .f32) (v305 : FVec F S256x1 .f32) (v308 : FVec F S256x128 .f32) (v314 : FVec F S256x1 .f32) (v317 : FVec F S256x128 .f32) (v323 : FVec F S256x1 .f32) (v326 : FVec F S256x128 .f32) (v448 : FVec F S512x1 .f32) (v451 : FVec F S512x128 .f32) (v452 : FVec F S256x128 .f32) :
    qkv c 3 3 Q K V ⊢ iprop((qkv c 3 3 Q K V -∗ Kt ⟨k0_pay136 v231 v452, k0_pay137 v232 v448, k0_pay138 v308 v451, k0_pay139 v305 v448, k0_pay143 v242 (blk S512x128.size 0 768 Q) (blk S256x128.size 512 768 K) (blk S256x128.size 512 768 V), k0_pay144 v243 (blk S512x128.size 0 768 Q) (blk S256x128.size 512 768 K), k0_pay145 v317 (blk S512x128.size 0 768 Q) (blk S256x128.size 512 768 K) (blk S256x128.size 512 768 V), k0_pay146 v314 (blk S512x128.size 0 768 Q) (blk S256x128.size 512 768 K), k0_pay150 v253 (blk S512x128.size 0 896 Q) (blk S256x128.size 512 896 K) (blk S256x128.size 512 896 V), k0_pay151 v254 (blk S512x128.size 0 896 Q) (blk S256x128.size 512 896 K), k0_pay152 v326 (blk S512x128.size 0 896 Q) (blk S256x128.size 512 896 K) (blk S256x128.size 512 896 V), k0_pay153 v323 (blk S512x128.size 0 896 Q) (blk S256x128.size 512 896 K)⟩)
      -∗ run c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v231 v232 v242 v243 v253 v254 v305 v308 v314 v317 v323 v326 v448 v451 v452) Kt) := by
  simp only [k0_part15_eq_skeleton]; unfold k0_part15_skel qkv
  simp only [Prog.lift, Prog.bind_op, Prog.bind_ret, Prog.pure_eq_ret]
  iintro ⟨Hq, Hk, Hv⟩ H
  iterate 2 ((iapply (ld (M := qM) (by decide)) $$ Hq; iintro Hq); (iapply (ld (M := kM) (by decide)) $$ Hk; iintro Hk); (iapply (ld (M := vM) (by decide)) $$ Hv; iintro Hv))
  simp only [run, wp_ret]; imodintro
  iapply H
  isplitl [Hq]; · iexact Hq
  isplitl [Hk] <;> iassumption

/-- Part 16 of the program, which only loads projected rows: what it returns. -/
theorem part16 {c : Dev nD} {Q K V : FVec F S1024x1024 .bf16} {Kt : _ → sProp (MT nD τ sig Unit (Elt F) ℕ UU ℕ)}
     :
    qkv c 3 3 Q K V ⊢ iprop((qkv c 3 3 Q K V -∗ Kt ⟨k0_pay155 (blk S256x128.size 512 0 Q) (blk S768x128.size 0 0 K), k0_pay156 (blk S256x128.size 512 0 Q) (blk S768x128.size 0 0 K) (blk S768x128.size 0 0 V), k0_pay158 (blk S256x128.size 512 128 Q) (blk S768x128.size 0 128 K), k0_pay159 (blk S256x128.size 512 128 Q) (blk S768x128.size 0 128 K) (blk S768x128.size 0 128 V), k0_pay161 (blk S256x128.size 512 256 Q) (blk S768x128.size 0 256 K), k0_pay162 (blk S256x128.size 512 256 Q) (blk S768x128.size 0 256 K) (blk S768x128.size 0 256 V), (blk S256x128.size 512 384 Q), (blk S768x128.size 0 384 K), (constant S256x768 .f32 0x00000000#32)⟩)
      -∗ run c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ) Kt) := by
  simp only [k0_part16_eq_skeleton]; unfold k0_part16_skel qkv
  simp only [Prog.lift, Prog.bind_op, Prog.bind_ret, Prog.pure_eq_ret]
  iintro ⟨Hq, Hk, Hv⟩ H
  iterate 3 ((iapply (ld (M := qM) (by decide)) $$ Hq; iintro Hq); (iapply (ld (M := kM) (by decide)) $$ Hk; iintro Hk); (iapply (ld (M := vM) (by decide)) $$ Hv; iintro Hv))
  iapply (ld (M := qM) (by decide)) $$ Hq; iintro Hq
  iapply (ld (M := kM) (by decide)) $$ Hk; iintro Hk
  simp only [run, wp_ret]; imodintro
  iapply H
  isplitl [Hq]; · iexact Hq
  isplitl [Hk] <;> iassumption

/-- Part 17 of the program, which only loads projected rows: what it returns. -/
theorem part17 {c : Dev nD} {Q K V : FVec F S1024x1024 .bf16} {Kt : _ → sProp (MT nD τ sig Unit (Elt F) ℕ UU ℕ)}
    (v521 : Vec F S256x128 .bf16) (v522 : Vec F S768x128 .bf16) (cst_403 : FVec F S256x768 .f32) :
    qkv c 3 3 Q K V ⊢ iprop((qkv c 3 3 Q K V -∗ Kt ⟨k0_pay164 v521 v522 cst_403, k0_pay165 v521 v522 cst_403 (blk S768x128.size 0 384 V), k0_pay167 (blk S256x128.size 512 512 Q) (blk S768x128.size 0 512 K), k0_pay168 (blk S256x128.size 512 512 Q) (blk S768x128.size 0 512 K) (blk S768x128.size 0 512 V), k0_pay170 (blk S256x128.size 512 640 Q) (blk S768x128.size 0 640 K), k0_pay171 (blk S256x128.size 512 640 Q) (blk S768x128.size 0 640 K) (blk S768x128.size 0 640 V), k0_pay173 (blk S256x128.size 512 768 Q) (blk S768x128.size 0 768 K), k0_pay174 (blk S256x128.size 512 768 Q) (blk S768x128.size 0 768 K)⟩)
      -∗ run c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v521 v522 cst_403) Kt) := by
  simp only [k0_part17_eq_skeleton]; unfold k0_part17_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

end Cert.KernelIdeal.Ring

end
-- ==== Proof.KI.LoadsB.lean ====
/-
The parts of the program, from the twentieth on, that only load projected rows: each returns its payloads of the blocks it loads,
and leaves the three buffers as they are.
-/
module

public import proofs.«01_k».proof.Proof.KI.Local

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Part 20 of the program, which only loads projected rows: what it returns. -/
theorem part20 {c : Dev nD} {Q K V : FVec F S1024x1024 .bf16} {Kt : _ → sProp (MT nD τ sig Unit (Elt F) ℕ UU ℕ)}
    (v406 : FVec F S256x128 .f32) (v408 : FVec F S256x1 .f32) (v423 : FVec F S256x128 .f32) (v425 : FVec F S256x1 .f32) (v440 : FVec F S256x128 .f32) (v442 : FVec F S256x1 .f32) (v617 : FVec F S256x256 .f32) :
    qkv c 3 4 Q K V ⊢ iprop((qkv c 3 4 Q K V -∗ Kt ⟨k0_pay189 v406 v617 (blk S256x128.size 768 256 V), k0_pay190 v408 v617, k0_pay192 v423 (blk S256x128.size 256 384 Q) (blk S256x128.size 768 384 K) (blk S256x128.size 768 384 V), k0_pay193 v425 (blk S256x128.size 256 384 Q) (blk S256x128.size 768 384 K), k0_pay195 v440 (blk S256x128.size 256 512 Q) (blk S256x128.size 768 512 K) (blk S256x128.size 768 512 V), k0_pay196 v442 (blk S256x128.size 256 512 Q) (blk S256x128.size 768 512 K), k0_pay197 (blk S256x128.size 256 640 Q) (blk S256x128.size 768 640 K)⟩)
      -∗ run c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v406 v408 v423 v425 v440 v442 v617) Kt) := by
  simp only [k0_part20_eq_skeleton]; unfold k0_part20_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 21 of the program, which only loads projected rows: what it returns. -/
theorem part21 {c : Dev nD} {Q K V : FVec F S1024x1024 .bf16} {Kt : _ → sProp (MT nD τ sig Unit (Elt F) ℕ UU ℕ)}
    (v338 : FVec F S1024x1024 .bf16) (v457 : FVec F S256x128 .f32) (v459 : FVec F S256x1 .f32) (v474 : FVec F S256x128 .f32) (v476 : FVec F S256x1 .f32) (v491 : FVec F S256x128 .f32) (v493 : FVec F S256x1 .f32) (v599 : FVec F S256x128 .f32) (v602 : FVec F S256x1 .f32) (v650 : FVec F S256x256 .f32) :
    qkv c 3 4 Q K V ⊢ iprop((qkv c 3 4 Q K V -∗ Kt ⟨k0_pay198 v457 v650 (blk S256x128.size 768 640 V), k0_pay199 v459 v650, k0_pay201 v474 (blk S256x128.size 256 768 Q) (blk S256x128.size 768 768 K) (blk S256x128.size 768 768 V), k0_pay202 v476 (blk S256x128.size 256 768 Q) (blk S256x128.size 768 768 K), k0_pay204 v491 (blk S256x128.size 256 896 Q) (blk S256x128.size 768 896 K) (blk S256x128.size 768 896 V), k0_pay205 v493 (blk S256x128.size 256 896 Q) (blk S256x128.size 768 896 K), k0_pay206 (F := F), k0_pay207 v599 v602, k0_pay208 v338⟩)
      -∗ run c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v457 v459 v474 v476 v491 v493 v599 v602 v650) Kt) := by
  simp only [k0_part21_eq_skeleton]; unfold k0_part21_skel qkv
  simp only [Prog.lift, Prog.bind_op, Prog.bind_ret, Prog.pure_eq_ret]
  iintro ⟨Hq, Hk, Hv⟩ H
  iterate 2 ((iapply (ld (M := vM) (by decide)) $$ Hv; iintro Hv); (iapply (ld (M := qM) (by decide)) $$ Hq; iintro Hq); (iapply (ld (M := kM) (by decide)) $$ Hk; iintro Hk))
  iapply (ld (M := vM) (by decide)) $$ Hv; iintro Hv
  simp only [run, wp_ret]; imodintro
  iapply H
  isplitl [Hq]; · iexact Hq
  isplitl [Hk] <;> iassumption

/-- Part 22 of the program, which only loads projected rows: what it returns. -/
theorem part22 {c : Dev nD} {Q K V : FVec F S1024x1024 .bf16} {Kt : _ → sProp (MT nD τ sig Unit (Elt F) ℕ UU ℕ)}
    (v338 : FVec F S1024x1024 .bf16) (v610 : FVec F S256x128 .f32) (v613 : FVec F S256x1 .f32) (v621 : FVec F S256x128 .f32) (v624 : FVec F S256x1 .f32) (v632 : FVec F S256x128 .f32) (v635 : FVec F S256x1 .f32) (v643 : FVec F S256x128 .f32) (v646 : FVec F S256x1 .f32) (v654 : FVec F S256x128 .f32) (v657 : FVec F S256x1 .f32) (v665 : FVec F S256x128 .f32) (v668 : FVec F S256x1 .f32) (v680 : FVec F S256x1024 .f32) (v685 : FVec F S256x128 .bf16) (v686 : FVec F S128x1024 .bf16) :
    qkv c 3 4 Q K V ⊢ iprop((qkv c 3 4 Q K V -∗ Kt ⟨k0_pay209 v338 v610 v613 v621 v624 v632 v635 v643 v646 v654 v657 v680 v685 v686, k0_pay210 v665 v668, k0_pay211 v338⟩)
      -∗ run c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v610 v613 v621 v624 v632 v635 v643 v646 v654 v657 v665 v668 v680 v685 v686) Kt) := by
  simp only [k0_part22_eq_skeleton]; unfold k0_part22_skel qkv
  simp only [Prog.lift, Prog.bind_op, Prog.bind_ret, Prog.pure_eq_ret]
  iintro ⟨Hq, Hk, Hv⟩ H

  simp only [run, wp_ret]; imodintro
  iapply H
  isplitl [Hq]; · iexact Hq
  isplitl [Hk] <;> iassumption

/-- Part 24 of the program, which only loads projected rows: what it returns. -/
theorem part24 {c : Dev nD} {Q K V : FVec F S1024x1024 .bf16} {Kt : _ → sProp (MT nD τ sig Unit (Elt F) ℕ UU ℕ)}
    (v508 : FVec F S256x1 .f32) (v511 : FVec F S256x128 .f32) (v517 : FVec F S256x1 .f32) (v520 : FVec F S256x128 .f32) (v526 : FVec F S256x1 .f32) (v529 : FVec F S256x128 .f32) (v769 : Vec F S256x128 .bf16) :
    qkv c 3 4 Q K V ⊢ iprop((qkv c 3 4 Q K V -∗ Kt ⟨k0_pay217 v511 v769 (blk S256x128.size 768 128 K) (blk S256x128.size 768 128 V), k0_pay218 v508 v769 (blk S256x128.size 768 128 K), k0_pay220 v520 (blk S256x128.size 512 256 Q) (blk S256x128.size 768 256 K) (blk S256x128.size 768 256 V), k0_pay221 v517 (blk S256x128.size 512 256 Q) (blk S256x128.size 768 256 K), k0_pay223 v529 (blk S256x128.size 512 384 Q) (blk S256x128.size 768 384 K) (blk S256x128.size 768 384 V), k0_pay224 v526 (blk S256x128.size 512 384 Q) (blk S256x128.size 768 384 K), (blk S256x128.size 512 512 Q)⟩)
      -∗ run c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v508 v511 v517 v520 v526 v529 v769) Kt) := by
  simp only [k0_part24_eq_skeleton]; unfold k0_part24_skel qkv
  simp only [Prog.lift, Prog.bind_op, Prog.bind_ret, Prog.pure_eq_ret]
  iintro ⟨Hq, Hk, Hv⟩ H
  iterate 3 ((iapply (ld (M := kM) (by decide)) $$ Hk; iintro Hk); (iapply (ld (M := vM) (by decide)) $$ Hv; iintro Hv); (iapply (ld (M := qM) (by decide)) $$ Hq; iintro Hq))
  simp only [run, wp_ret]; imodintro
  iapply H
  isplitl [Hq]; · iexact Hq
  isplitl [Hk] <;> iassumption

/-- Part 25 of the program, which only loads projected rows: what it returns. -/
theorem part25 {c : Dev nD} {Q K V : FVec F S1024x1024 .bf16} {Kt : _ → sProp (MT nD τ sig Unit (Elt F) ℕ UU ℕ)}
    (v535 : FVec F S256x1 .f32) (v538 : FVec F S256x128 .f32) (v544 : FVec F S256x1 .f32) (v547 : FVec F S256x128 .f32) (v553 : FVec F S256x1 .f32) (v556 : FVec F S256x128 .f32) (v802 : Vec F S256x128 .bf16) :
    qkv c 3 4 Q K V ⊢ iprop((qkv c 3 4 Q K V -∗ Kt ⟨k0_pay226 v538 v802 (blk S256x128.size 768 512 K) (blk S256x128.size 768 512 V), k0_pay227 v535 v802 (blk S256x128.size 768 512 K), k0_pay229 v547 (blk S256x128.size 512 640 Q) (blk S256x128.size 768 640 K) (blk S256x128.size 768 640 V), k0_pay230 v544 (blk S256x128.size 512 640 Q) (blk S256x128.size 768 640 K), k0_pay232 v556 (blk S256x128.size 512 768 Q) (blk S256x128.size 768 768 K) (blk S256x128.size 768 768 V), k0_pay233 v553 (blk S256x128.size 512 768 Q) (blk S256x128.size 768 768 K), (blk S256x128.size 512 896 Q)⟩)
      -∗ run c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v535 v538 v544 v547 v553 v556 v802) Kt) := by
  simp only [k0_part25_eq_skeleton]; unfold k0_part25_skel qkv
  simp only [Prog.lift, Prog.bind_op, Prog.bind_ret, Prog.pure_eq_ret]
  iintro ⟨Hq, Hk, Hv⟩ H
  iterate 3 ((iapply (ld (M := kM) (by decide)) $$ Hk; iintro Hk); (iapply (ld (M := vM) (by decide)) $$ Hv; iintro Hv); (iapply (ld (M := qM) (by decide)) $$ Hq; iintro Hq))
  simp only [run, wp_ret]; imodintro
  iapply H
  isplitl [Hq]; · iexact Hq
  isplitl [Hk] <;> iassumption

/-- Part 26 of the program, which only loads projected rows: what it returns. -/
theorem part26 {c : Dev nD} {Q K V : FVec F S1024x1024 .bf16} {Kt : _ → sProp (MT nD τ sig Unit (Elt F) ℕ UU ℕ)}
    (v338 : FVec F S1024x1024 .bf16) (v562 : FVec F S256x1 .f32) (v565 : FVec F S256x128 .f32) (v765 : FVec F S256x128 .f32) (v768 : FVec F S256x1 .f32) (v776 : FVec F S256x128 .f32) (v779 : FVec F S256x1 .f32) (v787 : FVec F S256x128 .f32) (v790 : FVec F S256x1 .f32) (v798 : FVec F S256x128 .f32) (v801 : FVec F S256x1 .f32) (v835 : Vec F S256x128 .bf16) :
    qkv c 3 4 Q K V ⊢ iprop((qkv c 3 4 Q K V -∗ Kt ⟨k0_pay235 v565 v835 (blk S256x128.size 768 896 K) (blk S256x128.size 768 896 V), k0_pay236 v562 v835 (blk S256x128.size 768 896 K), k0_pay237 v338 v765 v768 v776 v779 v787 v790 v798 v801, (Scalar.ofBits .f32 0x3F800000#32)⟩)
      -∗ run c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v562 v565 v765 v768 v776 v779 v787 v790 v798 v801 v835) Kt) := by
  simp only [k0_part26_eq_skeleton]; unfold k0_part26_skel qkv
  simp only [Prog.lift, Prog.bind_op, Prog.bind_ret, Prog.pure_eq_ret]
  iintro ⟨Hq, Hk, Hv⟩ H
  iapply (ld (M := kM) (by decide)) $$ Hk; iintro Hk
  iapply (ld (M := vM) (by decide)) $$ Hv; iintro Hv
  simp only [run, wp_ret]; imodintro
  iapply H
  isplitl [Hq]; · iexact Hq
  isplitl [Hk] <;> iassumption

/-- Part 29 of the program, which only loads projected rows: what it returns. -/
theorem part29 {c : Dev nD} {Q K V : FVec F S1024x1024 .bf16} {Kt : _ → sProp (MT nD τ sig Unit (Elt F) ℕ UU ℕ)}
    (v950 : Vec F S256x128 .bf16) (v951 : Vec F S1024x128 .bf16) :
    qkv c 4 4 Q K V ⊢ iprop((qkv c 4 4 Q K V -∗ Kt ⟨k0_pay247 v950 v951, k0_pay248 v950 v951 (blk S1024x128.size 0 256 V), k0_pay250 (blk S256x128.size 768 384 Q) (blk S1024x128.size 0 384 K), k0_pay251 (blk S256x128.size 768 384 Q) (blk S1024x128.size 0 384 K) (blk S1024x128.size 0 384 V), k0_pay253 (blk S256x128.size 768 512 Q) (blk S1024x128.size 0 512 K), k0_pay254 (blk S256x128.size 768 512 Q) (blk S1024x128.size 0 512 K) (blk S1024x128.size 0 512 V), k0_pay255 (blk S256x128.size 768 640 Q) (blk S1024x128.size 0 640 K), k0_pay256 (blk S256x128.size 768 640 Q) (blk S1024x128.size 0 640 K)⟩)
      -∗ run c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v950 v951) Kt) := by
  simp only [k0_part29_eq_skeleton]; unfold k0_part29_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 30 of the program, which only loads projected rows: what it returns. -/
theorem part30 {c : Dev nD} {Q K V : FVec F S1024x1024 .bf16} {Kt : _ → sProp (MT nD τ sig Unit (Elt F) ℕ UU ℕ)}
    (v338 : FVec F S1024x1024 .bf16) (v937 : FVec F S256x1 .f32) (v940 : FVec F S256x128 .f32) (v946 : FVec F S256x1 .f32) (v949 : FVec F S256x128 .f32) (v980 : FVec F S256x1024 .f32) :
    qkv c 4 4 Q K V ⊢ iprop((qkv c 4 4 Q K V -∗ Kt ⟨k0_pay257 v980 (blk S1024x128.size 0 640 V), k0_pay259 (blk S256x128.size 768 768 Q) (blk S1024x128.size 0 768 K), k0_pay260 (blk S256x128.size 768 768 Q) (blk S1024x128.size 0 768 K) (blk S1024x128.size 0 768 V), k0_pay262 (blk S256x128.size 768 896 Q) (blk S1024x128.size 0 896 K), k0_pay263 (blk S256x128.size 768 896 Q) (blk S1024x128.size 0 896 K) (blk S1024x128.size 0 896 V), k0_pay264 v338 v937 v940, k0_pay265 v946 v949⟩)
      -∗ run c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v937 v940 v946 v949 v980) Kt) := by
  simp only [k0_part30_eq_skeleton]; unfold k0_part30_skel qkv
  simp only [Prog.lift, Prog.bind_op, Prog.bind_ret, Prog.pure_eq_ret]
  iintro ⟨Hq, Hk, Hv⟩ H
  iterate 2 ((iapply (ld (M := vM) (by decide)) $$ Hv; iintro Hv); (iapply (ld (M := qM) (by decide)) $$ Hq; iintro Hq); (iapply (ld (M := kM) (by decide)) $$ Hk; iintro Hk))
  iapply (ld (M := vM) (by decide)) $$ Hv; iintro Hv
  simp only [run, wp_ret]; imodintro
  iapply H
  isplitl [Hq]; · iexact Hq
  isplitl [Hk] <;> iassumption

/-- Part 31 of the program, which only loads projected rows: what it returns. -/
theorem part31 {c : Dev nD} {Q K V : FVec F S1024x1024 .bf16} {Kt : _ → sProp (MT nD τ sig Unit (Elt F) ℕ UU ℕ)}
    (v338 : FVec F S1024x1024 .bf16) (v955 : FVec F S256x1 .f32) (v958 : FVec F S256x128 .f32) (v964 : FVec F S256x1 .f32) (v967 : FVec F S256x128 .f32) (v973 : FVec F S256x1 .f32) (v976 : FVec F S256x128 .f32) (v982 : FVec F S256x1 .f32) (v985 : FVec F S256x128 .f32) (v991 : FVec F S256x1 .f32) (v994 : FVec F S256x128 .f32) (v1000 : FVec F S256x1 .f32) (v1003 : FVec F S256x128 .f32) (v1012 : FVec F S256x1024 .f32) (v1017 : FVec F S256x128 .bf16) :
    qkv c 4 4 Q K V ⊢ iprop((qkv c 4 4 Q K V -∗ Kt ⟨k0_pay266 v338 v955 v958 v964 v967 v973 v976 v982 v985 v991 v994 v1012 v1017, k0_pay267 v1000 v1003⟩)
      -∗ run c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v955 v958 v964 v967 v973 v976 v982 v985 v991 v994 v1000 v1003 v1012 v1017) Kt) := by
  simp only [k0_part31_eq_skeleton]; unfold k0_part31_skel qkv
  simp only [Prog.lift, Prog.bind_op, Prog.bind_ret, Prog.pure_eq_ret]
  iintro ⟨Hq, Hk, Hv⟩ H

  simp only [run, wp_ret]; imodintro
  iapply H
  isplitl [Hq]; · iexact Hq
  isplitl [Hk] <;> iassumption

/-- Part 33 of the program, which only loads projected rows: what it returns. -/
theorem part33 {c : Dev nD} {Q K V : FVec F S1024x1024 .bf16} {Kt : _ → sProp (MT nD τ sig Unit (Elt F) ℕ UU ℕ)}
    (v385 : FVec F S256x128 .f32) (v387 : FVec F S256x1 .f32) (v402 : FVec F S256x128 .f32) (v404 : FVec F S256x1 .f32) (v419 : FVec F S256x128 .f32) (v421 : FVec F S256x1 .f32) (v1096 : FVec F S256x256 .f32) (v1097 : FVec F S256x256 .bf16) :
    qkv c 4 4 Q K V ⊢ iprop((qkv c 4 4 Q K V -∗ Kt ⟨k0_pay274 v385 v1097 (blk S256x128.size 768 128 V), k0_pay275 v387 v1096, k0_pay277 v402 (blk S256x128.size 0 256 Q) (blk S256x128.size 768 256 K) (blk S256x128.size 768 256 V), k0_pay278 v404 (blk S256x128.size 0 256 Q) (blk S256x128.size 768 256 K), k0_pay280 v419 (blk S256x128.size 0 384 Q) (blk S256x128.size 768 384 K) (blk S256x128.size 768 384 V), k0_pay281 v421 (blk S256x128.size 0 384 Q) (blk S256x128.size 768 384 K), k0_pay282 (blk S256x128.size 0 512 Q) (blk S256x128.size 768 512 K), k0_pay283 (blk S256x128.size 0 512 Q) (blk S256x128.size 768 512 K)⟩)
      -∗ run c (k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v385 v387 v402 v404 v419 v421 v1096 v1097) Kt) := by
  simp only [k0_part33_eq_skeleton]; unfold k0_part33_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 34 of the program, which only loads projected rows: what it returns. -/
theorem part34 {c : Dev nD} {Q K V : FVec F S1024x1024 .bf16} {Kt : _ → sProp (MT nD τ sig Unit (Elt F) ℕ UU ℕ)}
    (v436 : FVec F S256x128 .f32) (v438 : FVec F S256x1 .f32) (v453 : FVec F S256x128 .f32) (v455 : FVec F S256x1 .f32) (v470 : FVec F S256x128 .f32) (v472 : FVec F S256x1 .f32) (v1129 : FVec F S256x256 .f32) (v1130 : FVec F S256x256 .bf16) :
    qkv c 4 4 Q K V ⊢ iprop((qkv c 4 4 Q K V -∗ Kt ⟨k0_pay284 v436 v1130 (blk S256x128.size 768 512 V), k0_pay285 v438 v1129, k0_pay287 v453 (blk S256x128.size 0 640 Q) (blk S256x128.size 768 640 K) (blk S256x128.size 768 640 V), k0_pay288 v455 (blk S256x128.size 0 640 Q) (blk S256x128.size 768 640 K), k0_pay290 v470 (blk S256x128.size 0 768 Q) (blk S256x128.size 768 768 K) (blk S256x128.size 768 768 V), k0_pay291 v472 (blk S256x128.size 0 768 Q) (blk S256x128.size 768 768 K), k0_pay292 (blk S256x128.size 0 896 Q) (blk S256x128.size 768 896 K), k0_pay293 (blk S256x128.size 0 896 Q) (blk S256x128.size 768 896 K)⟩)
      -∗ run c (k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v436 v438 v453 v455 v470 v472 v1129 v1130) Kt) := by
  simp only [k0_part34_eq_skeleton]; unfold k0_part34_skel qkv
  simp only [Prog.lift, Prog.bind_op, Prog.bind_ret, Prog.pure_eq_ret]
  iintro ⟨Hq, Hk, Hv⟩ H
  iterate 3 ((iapply (ld (M := vM) (by decide)) $$ Hv; iintro Hv); (iapply (ld (M := qM) (by decide)) $$ Hq; iintro Hq); (iapply (ld (M := kM) (by decide)) $$ Hk; iintro Hk))
  simp only [run, wp_ret]; imodintro
  iapply H
  isplitl [Hq]; · iexact Hq
  isplitl [Hk] <;> iassumption

/-- Part 35 of the program, which only loads projected rows: what it returns. -/
theorem part35 {c : Dev nD} {Q K V : FVec F S1024x1024 .bf16} {Kt : _ → sProp (MT nD τ sig Unit (Elt F) ℕ UU ℕ)}
    (v338 : FVec F S1024x1024 .bf16) (v487 : FVec F S256x128 .f32) (v489 : FVec F S256x1 .f32) (v1089 : FVec F S256x128 .f32) (v1092 : FVec F S256x1 .f32) (v1100 : FVec F S256x128 .f32) (v1103 : FVec F S256x1 .f32) (v1111 : FVec F S256x128 .f32) (v1114 : FVec F S256x1 .f32) (v1122 : FVec F S256x128 .f32) (v1125 : FVec F S256x1 .f32) (v1133 : FVec F S256x128 .f32) (v1136 : FVec F S256x1 .f32) (v1162 : FVec F S256x256 .f32) (v1163 : FVec F S256x256 .bf16) :
    qkv c 4 4 Q K V ⊢ iprop((qkv c 4 4 Q K V -∗ Kt ⟨k0_pay294 v487 v1163 (blk S256x128.size 768 896 V), k0_pay295 v489 v1162, k0_pay296 v338 v1089 v1092 v1100 v1103 v1111 v1114 v1122 v1125 v1133 v1136⟩)
      -∗ run c (k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v338 v487 v489 v1089 v1092 v1100 v1103 v1111 v1114 v1122 v1125 v1133 v1136 v1162 v1163) Kt) := by
  simp only [k0_part35_eq_skeleton]; unfold k0_part35_skel qkv
  simp only [Prog.lift, Prog.bind_op, Prog.bind_ret, Prog.pure_eq_ret]
  iintro ⟨Hq, Hk, Hv⟩ H
  iapply (ld (M := vM) (by decide)) $$ Hv; iintro Hv
  simp only [run, wp_ret]; imodintro
  iapply H
  isplitl [Hq]; · iexact Hq
  isplitl [Hk] <;> iassumption

end Cert.KernelIdeal.Ring

end
-- ==== Proof.KI.Whole.lean ====
/-
Loads and stores of what a device holds of a buffer, and the buffers of the exchange as such.
-/
module

public import proofs.«01_k».proof.Proof.KI.Local

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The elements of device `c`'s memref `M`, held at share `π` with the contents `f`. -/
def mAt {s : Shape} {e : EltTy} (c : Dev nD) (M : Memref sig .tc .vmem s e) (π : PosShare TreeShare) (f : Buf (Elt F) (M.view.loc (c : Thread nD τ))) :
    sProp (MT nD τ sig Unit (Elt F) ℕ UU ℕ) :=
  M.view.loc (c : Thread nD τ) ↦[M.view.set]{π} f

/-- The offset at the origin. -/
theorem off00 : (![0, 0] : Fin 2 → ℕ) = fun _ => 0 := by decide

section Steps
variable {c : Dev nD} {π : PosShare TreeShare} {s : Shape} {e : EltTy}

/-- A load reads what is held. -/
theorem ldm {M : Memref sig .tc .vmem s e} {f : Buf (Elt F) (M.view.loc (c : Thread nD τ))} {r : LoadRect s} {w : r.shape.Idx → Elt F e}
    (hw : M.view.readAt (Elt F) r f = w) {α : Type} {Kt : α → sProp (MT nD τ sig Unit (Elt F) ℕ UU ℕ)} {hl : M.view.LoadsAt r}
    {k : (r.shape.Idx → Elt F e) → Prog (TpuEff nD τ sig (Elt F) Λ₀ .tc) α} :
    mAt c M π f ⊢ iprop((mAt c M π f -∗ run c (k w) Kt) -∗ run c (.op (.load M r hl) k) Kt) := by
  unfold mAt
  iintro H Hk
  iapply (wp_load 𝒱₀ (c : Thread nD τ) none Set.univ (m := M) (View.setOn_subset_set _ _)) $$ H
  iintro H
  rw [hw]
  iapply Hk
  iexact H

/-- A store leaves what was stored. -/
theorem stm {M : Memref sig .tc .vmem s e} {f g : Buf (Elt F) (M.view.loc (c : Thread nD τ))} {r : Rect s} {w : r.shape.Idx → Elt F e}
    (hw : (M.access r).write (Elt F) f w Finset.univ = g) {α : Type} {Kt : α → sProp (MT nD τ sig Unit (Elt F) ℕ UU ℕ)}
    {hx : (M.access r).Stores Finset.univ} {hm : (Finset.univ : Finset r.shape.Idx) = Finset.univ ∨ ∀ a, r.stride a = 1}
    {k : PUnit → Prog (TpuEff nD τ sig (Elt F) Λ₀ .tc) α} :
    mAt c M fullShare f ⊢ iprop((mAt c M fullShare g -∗ run c (k ⟨⟩) Kt) -∗ run c (.op (.store M r w Finset.univ hx hm) k) Kt) := by
  unfold mAt
  iintro H Hk
  iapply (wp_store 𝒱₀ (c : Thread nD τ) none Set.univ (m := M) (r := r) (Mk := Finset.univ) (View.set_slice_subset _ _)) $$ H
  iintro H
  rw [hw]
  iapply Hk
  iexact H

end Steps

/-! ## The staged arrays and the four buffers of the exchange -/

/-- The staged query weights. -/
abbrev wqM : BigM := Memref.whole cc0_stg1_0
/-- The staged output weights. -/
abbrev woM : BigM := Memref.whole cc0_stg2_0
/-- The staged key weights. -/
abbrev wkM : BigM := Memref.whole cc0_stg3_0
/-- The staged value weights. -/
abbrev wvM : BigM := Memref.whole cc0_stg4_0
/-- The staged result. -/
abbrev oM : Memref sig .tc .vmem S256x1024 .f32 := Memref.whole cc0_stg5_0

section Whole
variable (inb : ∀ a, (![0, 0] : Fin 2 → ℕ) a + S256x1024.size a ≤ S256x1024.size a) (inb' : ∀ a, (![0, 0] : Fin 2 → ℕ) a + S1024x1024.size a ≤ S1024x1024.size a)

omit [FloatOps F] [Named F] in
/-- A load of the whole staged chunk reads its contents. -/
theorem rdX (f) : xM.view.readAt (Elt F) (Rect.unit (s := S256x1024) ![0, 0] S256x1024.size inb).toLoadRect f = f :=
  Memref.readAt_unit_zero (Elt F) cc0_stg0_0 off00 inb f
omit [FloatOps F] [Named F] in
/-- So does a load of the whole of buffer 0; -/
theorem rd0 (f) : x0M.view.readAt (Elt F) (Rect.unit (s := S256x1024) ![0, 0] S256x1024.size inb).toLoadRect f = f :=
  Memref.readAt_unit_zero (Elt F) cc0_scratch0 off00 inb f
omit [FloatOps F] [Named F] in
/-- of buffer 1; -/
theorem rd1 (f) : x1M.view.readAt (Elt F) (Rect.unit (s := S256x1024) ![0, 0] S256x1024.size inb).toLoadRect f = f :=
  Memref.readAt_unit_zero (Elt F) cc0_scratch1 off00 inb f
omit [FloatOps F] [Named F] in
/-- of buffer 2; -/
theorem rd2 (f) : x2M.view.readAt (Elt F) (Rect.unit (s := S256x1024) ![0, 0] S256x1024.size inb).toLoadRect f = f :=
  Memref.readAt_unit_zero (Elt F) cc0_scratch2 off00 inb f
omit [FloatOps F] [Named F] in
/-- of buffer 3; -/
theorem rd3 (f) : x3M.view.readAt (Elt F) (Rect.unit (s := S256x1024) ![0, 0] S256x1024.size inb).toLoadRect f = f :=
  Memref.readAt_unit_zero (Elt F) cc0_scratch3 off00 inb f
omit [FloatOps F] [Named F] in
/-- of the query weights; -/
theorem rdWq (f) : wqM.view.readAt (Elt F) (Rect.unit (s := S1024x1024) ![0, 0] S1024x1024.size inb').toLoadRect f = f :=
  Memref.readAt_unit_zero (Elt F) cc0_stg1_0 off00 inb' f
omit [FloatOps F] [Named F] in
/-- of the output weights; -/
theorem rdWo (f) : woM.view.readAt (Elt F) (Rect.unit (s := S1024x1024) ![0, 0] S1024x1024.size inb').toLoadRect f = f :=
  Memref.readAt_unit_zero (Elt F) cc0_stg2_0 off00 inb' f
omit [FloatOps F] [Named F] in
/-- of the key weights; -/
theorem rdWk (f) : wkM.view.readAt (Elt F) (Rect.unit (s := S1024x1024) ![0, 0] S1024x1024.size inb').toLoadRect f = f :=
  Memref.readAt_unit_zero (Elt F) cc0_stg3_0 off00 inb' f
omit [FloatOps F] [Named F] in
/-- of the value weights. -/
theorem rdWv (f) : wvM.view.readAt (Elt F) (Rect.unit (s := S1024x1024) ![0, 0] S1024x1024.size inb').toLoadRect f = f :=
  Memref.readAt_unit_zero (Elt F) cc0_stg4_0 off00 inb' f
omit [FloatOps F] [Named F] in
/-- A store over the whole of buffer 0 leaves what is stored. -/
theorem wr0 (f w) : (x0M.access (Rect.unit (s := S256x1024) ![0, 0] S256x1024.size inb)).write (Elt F) f w Finset.univ = w :=
  Memref.write_access_unit_zero_univ (Elt F) cc0_scratch0 off00 inb f w
omit [FloatOps F] [Named F] in
/-- So does a store over the whole result. -/
theorem wrO (f w) : (oM.access (Rect.unit (s := S256x1024) ![0, 0] S256x1024.size inb)).write (Elt F) f w Finset.univ = w :=
  Memref.write_access_unit_zero_univ (Elt F) cc0_stg5_0 off00 inb f w

end Whole

omit [FloatOps F] [Named F] in
/-- What is held of buffer 0, in the general form. -/
theorem at0_eq (c : Dev nD) (π : PosShare TreeShare) (f) : at0 (F := F) c π f = mAt c x0M π f := rfl
omit [FloatOps F] [Named F] in
/-- The same of buffer 1. -/
theorem at1_eq (c : Dev nD) (f) : at1 (F := F) c f = mAt c x1M fullShare f := rfl
omit [FloatOps F] [Named F] in
/-- The same of buffer 2. -/
theorem at2_eq (c : Dev nD) (π : PosShare TreeShare) (f) : at2 (F := F) c π f = mAt c x2M π f := rfl
omit [FloatOps F] [Named F] in
/-- The same of buffer 3. -/
theorem at3_eq (c : Dev nD) (f) : at3 (F := F) c f = mAt c x3M fullShare f := rfl
omit [FloatOps F] [Named F] in
/-- The same of a slab of finished chunks. -/
theorem atY_eq (c : Dev nD) (u) (f) : atY (F := F) c u f = mAt c (ysl u) fullShare f := rfl
omit [FloatOps F] [Named F] in
/-- The same of a slab of the result buffer. -/
theorem atR_eq (c p : Dev nD) (f) : atR (F := F) c p f = mAt c (rbl p) fullShare f := rfl
omit [FloatOps F] [Named F] in
/-- What is held at a share is held by halves. -/
theorem mAt_halves {s : Shape} {e : EltTy} (c : Dev nD) (M : Memref sig .tc .vmem s e) (π : PosShare TreeShare) (f) :
    mAt (F := F) c M π f ⊣⊢ iprop(mAt c M π.left f ∗ mAt c M π.right f) := by
  unfold mAt; exact pointsTo_share (PosShare.mem_left_op_right π)

end Cert.KernelIdeal.Ring

end
-- ==== Proof.KI.Steps.lean ====
/-
The steps by which the devices talk to each other, each as one rule: a signal to a neighbour, the wait for both neighbours,
the start of a copy, the wait for one. The cells' invariants are shared by all devices (`recs`).
-/
module

public import proofs.«01_k».proof.Proof.KI.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The records -/

/-- Every cell of the exchange carries its invariant, at some name, and has reached its round. -/
def recs (I : Ins F) : sProp 𝕄 :=
  bigSep (Finset.univ : Finset (Dev nD × Fin 14)) fun ck => iprop(∃ κ, cellInv ER (sched I) κ (kcell ck) ∗ reached ER (kcell ck) 0)

/-- The records may be used any number of times. -/
instance recs_persistent (I : Ins F) : BI.Persistent (recs I) := by unfold recs; infer_instance

section Recs
variable (I : Ins F)

/-- The record of one cell. -/
theorem recs_at (ck : Dev nD × Fin 14) : recs I ⊢ iprop(∃ κ, cellInv ER (sched I) κ (kcell ck) ∗ reached ER (kcell ck) 0) := by
  unfold recs
  exact bigSep_elim (Finset.mem_univ ck)
/-- The record of a barrier cell. -/
theorem recs_bar (c : Dev nD) : recs I ⊢ iprop(∃ κ, cellInv ER (sched I) κ (barCell c) ∗ reached ER (barCell c) 0) := recs_at I (c, 0)
/-- The record of a copy's cell. -/
theorem recs_dma (c : Dev nD) (q : DmaSem sig) (hq : 6 ≤ q.val) :
    recs I ⊢ iprop(∃ κ, cellInv ER (sched I) κ (dCell c q) ∗ reached ER (dCell c q) 0) := by
  have h19 : q.val < 19 := q.isLt
  have h := recs_at I (c, ⟨q.val - 6 + 1, by omega⟩)
  have e : kcell (c, ⟨q.val - 6 + 1, by omega⟩) = dCell c q := by
    show ((c : Thread nD τ), SemLoc.dma (⟨6 + (q.val - 6), _⟩ : DmaSem sig)) = _
    have : (⟨6 + (q.val - 6), by show _ < 19; omega⟩ : DmaSem sig) = q := Fin.ext (by show 6 + (q.val - 6) = q.val; omega)
    rw [this]
  rw [e] at h
  exact h

end Recs

/-- Device `c` owes `O`, whatever it has waited on. -/
def debt (c : Dev nD) (O : CellTallies nD τ sig Unit) : sProp 𝕄 := iprop(∃ W, owes (c : Thread nD τ) O W)

section Steps
variable (I : Ins F) {c d n : Dev nD}

/-- The two payloads of a barrier cell. -/
theorem pay_bar (c : Dev nD) (b : Bool) : (bif b then barNxt c else barPrv c : sProp (MT nD τ sig Unit (Elt F) ℕ UU ℕ)) = (sched I).payload (barCell c) 0 b := rfl

/-- A signal to a neighbour's barrier semaphore, handing over the payload of one of its two duties. -/
theorem signal_step {α : Type} {Kt : α → sProp (MT nD τ sig Unit (Elt F) ℕ UU ℕ)} (hn : n = d) (b : Bool) {O O' : CellTallies nD τ sig Unit}
    (hO : O' = O + tallyAt (barCell d) () 1) {k : PUnit → Prog (TpuEff nD τ sig (Elt F) Λ₀ .tc) α} :
    iprop(recs I ∗ debt c O' ∗ dutyTok ER (barCell d) 0 b ∗ (bif b then barNxt d else barPrv d))
      ⊢ iprop((debt c O -∗ run c (k ⟨⟩) Kt) -∗ run c (.op (.semSignal (n : Thread nD τ) barS 1) k) Kt) := by
  subst hn
  unfold debt
  iintro ⟨#HR, ⟨%W, HO⟩, Ht, Hp⟩ Hk
  ihave HI := (recs_bar I n) $$ HR
  icases HI with ⟨%κ, #HI, #Hr⟩
  iapply (Rounds.wp_signal 𝒱₀ ER (sched I) (c : Thread nD τ) none (dst := (n : Thread nD τ)) (κ := κ)
      (d := b) (by rw [duties_bar]; exact Finset.mem_univ _) (amount_bar I n b) () O hO) $$ [HO Ht Hp]
  · isplitr; · iexact HI
    isplitl [HO]; · iexact HO
    isplitl [Ht]; · iexact Ht
    isplitl [Hp]; · iapply (Entails.of_eq (pay_bar I n b)); iexact Hp
    iexact Hr
  iintro HO
  iapply Hk
  iexists W
  iexact HO

/-- The wait for both neighbours' signals: their payloads come with it, and the barrier cell closes. -/
theorem wait_bar_step {α : Type} {Kt : α → sProp (MT nD τ sig Unit (Elt F) ℕ UU ℕ)} {O : CellTallies nD τ sig Unit} (hO : Above 1 O)
    {k : PUnit → Prog (TpuEff nD τ sig (Elt F) Λ₀ .tc) α} :
    iprop(recs I ∗ cred (tallyAt (barCell c) () 2) ∗ debt c O ∗ levAts L lv ∗ atPos ER (barCell c) 0 ∅ 0)
      ⊢ iprop(((debt c O ∗ semVal (barCell c) 0 ∗ barPrv c ∗ barNxt c) -∗ run c (k ⟨⟩) Kt) -∗ run c (.op (.semWait barS 2) k) Kt) := by
  unfold debt
  iintro ⟨#HR, Hc, ⟨%W, HO⟩, #Hlev, Hat⟩ Hk
  ihave HI := (recs_bar I c) $$ HR
  icases HI with ⟨%κ, #HI, #Hr⟩
  iapply (Rounds.wp_wait_rest_token 𝒱₀ ER (sched I) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_above c (.reg barS) O hO); iexact Hlev
    iexact Hat
  iintro ⟨HO, Hat, -, Hpay⟩
  ihave Hp := (Entails.of_eq (rest_bar I c)) $$ Hpay
  imod (Rounds.cell_close ER (sched I) (Set.mem_univ κ) (fun h => h) (R := 0 + 1) (duties_later I (barCell c))) $$ [Hat] with Hz
  · isplitr; · iexact HI
    iexact Hat
  iapply Hk
  isplitl [HO]; · iexists _; iexact HO
  isplitl [Hz]; · iexact Hz
  iexact Hp

/-- The wait for a copy: its payload comes with it, and the cell closes. -/
theorem wait_dma_step {α : Type} {Kt : α → sProp (MT nD τ sig Unit (Elt F) ℕ UU ℕ)} {s : DmaSem sig} (q : DmaSem sig) (hs : s = q) (hq : 6 ≤ q.val) (hc : q.val ≠ 15 + c.val)
    {O : CellTallies nD τ sig Unit} (hO : Above (lv (dCell c q) ()) O)
    {srcM dstM : Memref sig .tc .vmem S256x1024 .bf16} {hsrc : srcM.view.WordExact} {hdst : dstM.view.WordExact}
    (hN : dstM.view.dmaCredit = N)
    {k : PUnit → Prog (TpuEff nD τ sig (Elt F) Λ₀ .tc) α} :
    iprop(recs I ∗ cred (tallyAt (dCell c q) () N) ∗ debt c O ∗ levAts L lv ∗ atPos ER (dCell c q) 0 ∅ 0)
      ⊢ iprop(((debt c O ∗ semVal (dCell c q) 0 ∗ dmaPay I c q.val) -∗ run c (k ⟨⟩) Kt)
        -∗ run c (.op (.waitDma2 s srcM dstM hsrc hdst) k) Kt) := by
  subst hs
  unfold debt
  iintro ⟨#HR, Hc, ⟨%W, HO⟩, #Hlev, Hat⟩ Hk
  ihave HI := (recs_dma I c s hq) $$ HR
  icases HI with ⟨%κ, #HI, #Hr⟩
  rw [← hN]
  iapply (Rounds.wp_wait_rest_token 𝒱₀ ER (sched I) (c : Thread nD τ) none (κ := κ)
      (wpE_waitDma2_eq 𝒱₀ (c : Thread nD τ) none Set.univ) (Set.mem_univ _) () (O := O) (W := W) (R := 0) (m := 0) (T := ∅)
      (by rw [Nat.zero_add, expect_dma I c s hq hc, hN])) $$ [Hc HO Hat]
  · isplitr; · iexact HI
    isplitl [Hc]; · iexact Hc
    isplitl [HO]; · iexact HO
    isplitr; · iapply (mayWait_above c (.dma s) O hO); iexact Hlev
    iexact Hat
  iintro ⟨HO, Hat, -, Hpay⟩
  ihave Hp := (Entails.of_eq (rest_dma I c s hq hc)) $$ Hpay
  imod (Rounds.cell_close ER (sched I) (Set.mem_univ κ) (fun h => h) (R := 0 + 1) (duties_later I (dCell c s))) $$ [Hat] with Hz
  · isplitr; · iexact HI
    iexact Hat
  iapply Hk
  isplitl [HO]; · iexists _; iexact HO
  isplitl [Hz]; · iexact Hz
  iexact Hp

/-- A copy to device `d`: the source's share is lent to the sending end; the target's elements, rewritten, and `R` go to the receiving end. -/
theorem send_step {α : Type} {Kt : α → sProp (MT nD τ sig Unit (Elt F) ℕ UU ℕ)} (hn : n = d) {s₁ s₂ : DmaSem sig} (q₁ q₂ : DmaSem sig) (h₁ : s₁ = q₁) (h₂ : s₂ = q₂)
    (hq₁ : 6 ≤ q₁.val) (hc₁ : q₁.val ≠ 15 + c.val) (hq₂ : 6 ≤ q₂.val) (hc₂ : q₂.val ≠ 15 + d.val)
    {srcM dstM : Memref sig .tc .vmem S256x1024 .bf16} {hsc : dstM.view.ref.isScScratch = false}
    {hsrc : srcM.view.WordExact} {hdst : dstM.view.WordExact}
    {hsem : DmaTarget.Typed .vmem (.dma s₂) (.remote (Dev.tc n : Thread nD τ) dstM (.dma s₁) hsc)}
    (hN : dstM.view.dmaCredit = N) {π : PosShare TreeShare}
    (fs : Buf (Elt F) (srcM.view.loc (c : Thread nD τ))) (fd : Buf (Elt F) (dstM.view.loc (d : Thread nD τ)))
    (R : sProp (MT nD τ sig Unit (Elt F) ℕ UU ℕ))
    {O O' : CellTallies nD τ sig Unit} (hO : O' = O + tallyAt (dCell d q₂) () N)
    (hp₁ : mAt c srcM π fs ⊢ dmaPay I c q₁.val)
    (hp₂ : iprop(mAt d dstM fullShare (dstM.view.write (Elt F) fd (srcM.view.read (Elt F) fs) Finset.univ) ∗ R)
      ⊢ dmaPay I d q₂.val)
    {k : PUnit → Prog (TpuEff nD τ sig (Elt F) Λ₀ .tc) α} :
    iprop(recs I ∗ mAt c srcM π fs ∗ mAt d dstM fullShare fd ∗ R
        ∗ debt c O' ∗ dutyTok ER (dCell c q₁) 0 false ∗ dutyTok ER (dCell d q₂) 0 false)
      ⊢ iprop(((cred (tallyAt (dCell c q₁) () N) ∗ debt c O) -∗ run c (k ⟨⟩) Kt)
        -∗ run c (.op (.enqueueDma srcM (.remote (Dev.tc n : Thread nD τ) dstM (.dma s₁) hsc) (.dma s₂) hsrc hdst hsem) k) Kt) := by
  subst hn; subst h₁; subst h₂
  unfold debt
  unfold mAt at hp₁ hp₂ ⊢
  iintro ⟨#HR, Hs, Hd, HF, ⟨%W, HO⟩, Ht₁, Ht₂⟩ Hk
  ihave HI := (recs_dma I c s₁ hq₁) $$ HR
  icases HI with ⟨%κ₁, #HI₁, #Hr₁⟩
  ihave HI := (recs_dma I n s₂ hq₂) $$ HR
  icases HI with ⟨%κ₂, #HI₂, #Hr₂⟩
  iapply (Rounds.wp_send_pointsTo_with 𝒱₀ ER (sched I) (c : Thread nD τ) none (sS := .dma s₁) (sem := .dma s₂) (κ₁ := κ₁) (κ₂ := κ₂) (fd := fd) (F := R)
    (r₁ := 0) (r₂ := 0) (d₁ := false) (d₂ := false)
    (by rw [duties_dma I c s₁ hq₁ hc₁]; exact Finset.mem_singleton_self _) (by rw [duties_dma I n s₂ hq₂ hc₂]; exact Finset.mem_singleton_self _)
    () () N hN (amount_dma I c s₁ false) (amount_dma I n s₂ false) O hO (W := W) hp₁ hp₂) $$ [Hs Hd HF HO Ht₁ Ht₂]
  · isplitr; · iexact HI₁
    isplitr; · iexact HI₂
    isplitl [Hs]; · iexact Hs
    isplitl [Hd HF]
    · isplitl [Hd] <;> iassumption
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W
  iexact HO

end Steps

end Cert.KernelIdeal.Ring

end
-- ==== Proof.KI.Fills.lean ====
/-
What the kernel stores into its buffers of projected rows is what these are to hold.
-/
module

public import proofs.«01_k».proof.Proof.KI.Local
public import Idealize.ShloMosaic.Lib.Pipeline.Value

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-- A semaphore numbered below 15 is none of the reduce-scatter's receiving ones. -/
theorem ne_rsq (q : DmaSem sig) (c : Dev nD) (h : q.val < 15) : q.val ≠ 15 + c.val := by omega

/-! ## What is stored into the projected rows -/

section Fills
variable (I : Ins F) (c : Dev nD)

/-- The first projected queries, as computed and as stored. -/
theorem pay5_eq (w : Vec F S1024x1024 .bf16) (x : Vec F S256x1024 .bf16) : k0_pay32 (k0_pay2 w) x = k0_pay5 w x := by
  simp only [k0_pay5, shapeCast_self]; rfl
/-- The second projected queries are stored as they are. -/
theorem pay33_eq (w : FVec F S256x1024 .bf16) : w = k0_pay33 w := by
  simp only [k0_pay33, shapeCast_self]
/-- The third projected queries, as computed and as stored. -/
theorem pay93_eq (w : FVec F S1024x1024 .bf16) (x : Vec F S256x1024 .bf16) : k0_pay32 w x = k0_pay93 (k0_pay92 w x) := by
  simp only [k0_pay93, shapeCast_self]; rfl
/-- The fourth projected queries, as computed and as stored. -/
theorem pay239_eq (w : FVec F S1024x1024 .bf16) (x : Vec F S256x1024 .bf16) : k0_pay32 w x = k0_pay239 w x := by
  simp only [k0_pay239, shapeCast_self]; rfl

variable {off : Fin 2 → ℕ}

/-- The rows of chunk `t` of the queries are the projection of the chunk that came in place `t`. -/
theorem fillQ (t : Fin 4) (ho : off = ![256 * t.val, 0]) (inb : ∀ a, off a + S256x1024.size a ≤ S1024x1024.size a) :
    rd (Rect.unit (s := S1024x1024) off S256x1024.size inb) (qOn I c) = k0_pay32 (k0_pay2 (I.WQ c)) (xc I (src c t)) := by
  unfold qOn qOf; exact rd_rows4 _ t ho inb
/-- Chunk 0 of the queries comes from the device's own chunk. -/
theorem fillQ0 (ho : off = ![256 * (0 : Fin 4).val, 0]) (inb : ∀ a, off a + S256x1024.size a ≤ S1024x1024.size a) :
    rd (Rect.unit (s := S1024x1024) off S256x1024.size inb) (qOn I c) = k0_pay5 (I.WQ c) (xc I c) :=
  (fillQ I c 0 ho inb).trans (pay5_eq _ _)
/-- Chunk 1 of the queries comes from the chunk of the device before. -/
theorem fillQ1 (ho : off = ![256 * (1 : Fin 4).val, 0]) (inb : ∀ a, off a + S256x1024.size a ≤ S1024x1024.size a) :
    rd (Rect.unit (s := S1024x1024) off S256x1024.size inb) (qOn I c) = k0_pay33 (k0_pay32 (k0_pay2 (I.WQ c)) (xc I (prv c))) :=
  (fillQ I c 1 ho inb).trans (pay33_eq _)
/-- Chunk 2 of the queries comes from the chunk of the device after. -/
theorem fillQ2 (ho : off = ![256 * (2 : Fin 4).val, 0]) (inb : ∀ a, off a + S256x1024.size a ≤ S1024x1024.size a) :
    rd (Rect.unit (s := S1024x1024) off S256x1024.size inb) (qOn I c) = k0_pay93 (k0_pay92 (k0_pay2 (I.WQ c)) (xc I (nxt c))) :=
  (fillQ I c 2 ho inb).trans (pay93_eq _ _)
/-- Chunk 3 of the queries comes from the chunk of the opposite device. -/
theorem fillQ3 (ho : off = ![256 * (3 : Fin 4).val, 0]) (inb : ∀ a, off a + S256x1024.size a ≤ S1024x1024.size a) :
    rd (Rect.unit (s := S1024x1024) off S256x1024.size inb) (qOn I c) = k0_pay239 (k0_pay2 (I.WQ c)) (xc I (opp c)) :=
  (fillQ I c 3 ho inb).trans (pay239_eq _ _)
/-- The rows of chunk `t` of the keys are the projection of the chunk that came in place `t`. -/
theorem fillK (t : Fin 4) (ho : off = ![256 * t.val, 0]) (inb : ∀ a, off a + S256x1024.size a ≤ S1024x1024.size a) :
    rd (Rect.unit (s := S1024x1024) off S256x1024.size inb) (kOn I c) = k0_pay6 (k0_pay3 (I.WK c)) (xc I (src c t)) := by
  unfold kOn kOf; exact rd_rows4 _ t ho inb
/-- The rows of chunk `t` of the values are the projection of the chunk that came in place `t`. -/
theorem fillV (t : Fin 4) (ho : off = ![256 * t.val, 0]) (inb : ∀ a, off a + S256x1024.size a ≤ S1024x1024.size a) :
    rd (Rect.unit (s := S1024x1024) off S256x1024.size inb) (vOn I c) = k0_pay6 (k0_pay4 (I.WV c)) (xc I (src c t)) := by
  unfold vOn kOf; exact rd_rows4 _ t ho inb

end Fills

end Cert.KernelIdeal.Ring

end
-- ==== Proof.KI.Begin.lean ====
/-
The beginning of the program: the handshake, and the copies of the device's chunk to its neighbours.
-/
module

public import proofs.«01_k».proof.Proof.KI.Steps
public import proofs.«01_k».proof.Proof.KI.Fills

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-! ## What the copies of chunks leave -/

section Pays
variable (I : Ins F) (c : Dev nD)

/-- The landing of device `c`'s chunk at the device after it is what that device's first receive semaphore hands over. -/
theorem pay_R (f1) : iprop(mAt (nxt c) x1M fullShare (x1M.view.write (Elt F) f1 (x0M.view.read (Elt F) (xc I c)) Finset.univ) ∗ emp)
    ⊢ dmaPay I (nxt c) 9 := by
  show _ ⊢ at1 (nxt c) (xc I (prv (nxt c)))
  rw [prv_nxt, View.read_whole, View.write_whole_univ]
  rw [at1_eq]
  iintro ⟨H, -⟩
  iexact H

/-- The landing of device `c`'s chunk at the device before it is what that device's second receive semaphore hands over. -/
theorem pay_L (f2) : iprop(mAt (prv c) x2M fullShare (x2M.view.write (Elt F) f2 (x0M.view.read (Elt F) (xc I c)) Finset.univ) ∗ emp)
    ⊢ dmaPay I (prv c) 10 := by
  show _ ⊢ at2 (prv c) fullShare (xc I (nxt (prv c)))
  rw [nxt_prv, View.read_whole, View.write_whole_univ]
  rw [at2_eq]
  iintro ⟨H, -⟩
  iexact H

/-- The landing of the relayed chunk, with the slab two places on, is what the third receive semaphore of the device before `c` hands over. -/
theorem pay_D (f3) : iprop(mAt (prv c) x3M fullShare (x3M.view.write (Elt F) f3 (x2M.view.read (Elt F) (xc I (nxt c))) Finset.univ)
      ∗ (∃ f, atR (nxt c) (prv c) f))
    ⊢ dmaPay I (prv c) 11 := by
  show _ ⊢ iprop(at3 (prv c) (xc I (opp (prv c))) ∗ ∃ f, atR (opp (prv c)) (prv c) f)
  rw [opp_prv, View.read_whole, View.write_whole_univ]
  rw [at3_eq]

end Pays

section Start
variable (I : Ins F) {c : Dev nD}

omit [FloatOps F] [Named F] in
/-- What device `c` gives to the device before it: a buffer and two slabs of its own. -/
theorem barNxt_prv (c : Dev nD) : (barNxt (prv c) : sProp (MT nD τ sig Unit (Elt F) ℕ UU ℕ))
    = iprop((∃ f, at1 c f) ∗ (∃ f, atR c (prv c) f) ∗ (∃ f, atR c (opp c) f)) := by
  unfold barNxt; rw [nxt_prv, prv_prv]
omit [FloatOps F] [Named F] in
/-- What device `c` gives to the device after it: two buffers and a slab of its own. -/
theorem barPrv_nxt (c : Dev nD) : (barPrv (nxt c) : sProp (MT nD τ sig Unit (Elt F) ℕ UU ℕ))
    = iprop((∃ f, at2 c fullShare f) ∗ (∃ f, at3 c f) ∗ (∃ f, atR c (nxt c) f)) := by
  unfold barPrv; rw [prv_nxt]

omit [FloatOps F] [Named F] in
/-- The signal from the device after `c` carries the second payload. -/
theorem bar_true (d : Dev nD) : (bif true then barNxt d else barPrv d : sProp (MT nD τ sig Unit (Elt F) ℕ UU ℕ)) = barNxt d := rfl
omit [FloatOps F] [Named F] in
/-- The signal from the device before `c` carries the first payload. -/
theorem bar_false (d : Dev nD) : (bif false then barNxt d else barPrv d : sProp (MT nD τ sig Unit (Elt F) ℕ UU ℕ)) = barPrv d := rfl

/-- The place of the device on the ring, as the program computes it. -/
def word (c : Dev nD) : BitVec 32 := Scalar.remsi (Scalar.divsi (Dev.word c) 1#32) 4#32

/-- Part 1 of the program, the handshake: the device hands its buffers to its neighbours and receives theirs. -/
theorem part1 {Kt : _ → sProp (MT nD τ sig Unit (Elt F) ℕ UU ℕ)} :
    iprop(recs I ∗ levAts L lv ∗ debt c (O0 c) ∗ dutyTok ER (barCell (prv c)) 0 true ∗ dutyTok ER (barCell (nxt c)) 0 false
        ∗ cred (tallyAt (barCell c) () 2) ∗ atPos ER (barCell c) 0 ∅ 0
        ∗ barNxt (prv c) ∗ barPrv (nxt c))
      ⊢ iprop((∀ v w, (debt c (O1 c) ∗ semVal (barCell c) 0 ∗ barPrv c ∗ barNxt c) -∗ Kt ⟨c, word c, v, w⟩)
        -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Kt) := by
  simp only [k0_part1_eq_skeleton]; unfold k0_part1_skel word
  simp only [semSignalWord, semWaitWord, Prog.lift, Prog.bind_op, Prog.bind_ret, Prog.pure_eq_ret, run, wp_deviceId]
  iintro ⟨#HR, #Hlev, HO, Ht1, Ht2, Hc, Hat, Hp1, Hp2⟩ H
  iapply (signal_step I (dev1_eq c) true (O := O0' c) rfl) $$ [HO Ht1 Hp1]
  · isplitr; · iexact HR
    isplitl [HO]; · iexact HO
    isplitl [Ht1]; · iexact Ht1
    iapply (Entails.of_eq (bar_true _).symm); iexact Hp1
  iintro HO
  iapply (signal_step I (dev2_eq c) false (O := O1 c) rfl) $$ [HO Ht2 Hp2]
  · isplitr; · iexact HR
    isplitl [HO]; · iexact HO
    isplitl [Ht2]; · iexact Ht2
    iapply (Entails.of_eq (bar_false _).symm); iexact Hp2
  iintro HO
  iapply (wait_bar_step I (above_O1 c 1 (by decide))) $$ [HO Hc Hat]
  · isplitr; · iexact HR
    isplitl [Hc]; · iexact Hc
    isplitl [HO]; · iexact HO
    isplitr; · iexact Hlev
    iexact Hat
  iintro Hres
  simp only [run, wp_ret]; imodintro
  iapply H
  iexact Hres

/-- Part 2: the device starts the copies of its chunk to both neighbours, and projects its own queries. -/
theorem part2 {Kt : _ → sProp (MT nD τ sig Unit (Elt F) ℕ UU ℕ)} (v w : BitVec 32) :
    iprop(recs I ∗ debt c (O1 c)
        ∗ dutyTok ER (dCell c 6) 0 false ∗ dutyTok ER (dCell (nxt c) 9) 0 false ∗ dutyTok ER (dCell c 7) 0 false ∗ dutyTok ER (dCell (prv c) 10) 0 false
        ∗ mAt c xM fullShare (I.X c) ∗ (∃ f, at0 c fullShare f) ∗ (∃ f, at1 (nxt c) f) ∗ (∃ f, at2 (prv c) fullShare f)
        ∗ mAt c wqM fullShare (I.WQ c) ∗ mAt c wkM fullShare (I.WK c) ∗ mAt c wvM fullShare (I.WV c) ∗ held c qM 0 (qOn I c))
      ⊢ iprop(((debt c (O3 c) ∗ cred (tallyAt (dCell c 6) () N) ∗ cred (tallyAt (dCell c 7) () N) ∗ mAt c xM fullShare (I.X c) ∗ at0 c πrr (xc I c)
            ∗ mAt c wqM fullShare (I.WQ c) ∗ mAt c wkM fullShare (I.WK c) ∗ mAt c wvM fullShare (I.WV c) ∗ held c qM 1 (qOn I c))
          -∗ Kt ⟨k0_pay2 (I.WQ c), k0_pay3 (I.WK c), k0_pay4 (I.WV c), xc I c⟩)
        -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v w) Kt) := by
  simp only [k0_part2_eq_skeleton]; unfold k0_part2_skel
  simp only [Prog.lift, Prog.bind_op, Prog.bind_ret, Prog.pure_eq_ret, at0_eq, at1_eq, at2_eq]
  iintro ⟨#HR, HO, Ht6, Ht9, Ht7, Ht10, Hx, ⟨%f0, Hx0⟩, ⟨%f1, Hx1⟩, ⟨%f2, Hx2⟩, Hwq, Hwk, Hwv, Hq⟩ H
  iapply (ldm (M := xM) (rdX _ _)) $$ Hx; iintro Hx
  iapply (ldm (M := x0M) (rd0 _ _)) $$ Hx0; iintro Hx0
  iapply (stm (M := x0M) (g := xc I c) (wr0 _ _ _)) $$ Hx0; iintro Hx0
  ihave Hx0 := (mAt_halves c x0M fullShare _).1 $$ Hx0
  icases Hx0 with ⟨Hx0l, Hx0⟩
  ihave Hx0 := (mAt_halves c x0M fullShare.right _).1 $$ Hx0
  icases Hx0 with ⟨Hx0m, Hx0⟩
  iapply (send_step I (dev3_eq c) 6 9 rfl rfl (by decide) (ne_rsq _ _ (by decide)) (by decide) (ne_rsq _ _ (by decide)) (srcM := x0M) (dstM := x1M) rfl
    (xc I c) f1 iprop(emp) (O := O2 c) rfl (Entails.of_eq rfl) (pay_R I c f1)) $$ [HO Ht6 Ht9 Hx0l Hx1]
  · isplitr; · iexact HR
    isplitl [Hx0l]; · iexact Hx0l
    isplitl [Hx1]; · iexact Hx1
    isplitr; · iempintro
    isplitl [HO]; · iexact HO
    isplitl [Ht6] <;> iassumption
  iintro ⟨Hc6, HO⟩
  iapply (send_step I (dev4_eq c) 7 10 rfl rfl (by decide) (ne_rsq _ _ (by decide)) (by decide) (ne_rsq _ _ (by decide)) (srcM := x0M) (dstM := x2M) rfl
    (xc I c) f2 iprop(emp) (O := O3 c) rfl (Entails.of_eq rfl) (pay_L I c f2)) $$ [HO Ht7 Ht10 Hx0m Hx2]
  · isplitr; · iexact HR
    isplitl [Hx0m]; · iexact Hx0m
    isplitl [Hx2]; · iexact Hx2
    isplitr; · iempintro
    isplitl [HO]; · iexact HO
    isplitl [Ht7] <;> iassumption
  iintro ⟨Hc7, HO⟩
  iapply (ldm (M := wqM) (rdWq _ _)) $$ Hwq; iintro Hwq
  iapply (ldm (M := wkM) (rdWk _ _)) $$ Hwk; iintro Hwk
  iapply (ldm (M := wvM) (rdWv _ _)) $$ Hwv; iintro Hwv
  iapply (ldm (M := x0M) (rd0 _ _)) $$ Hx0; iintro Hx0
  iapply (ldx (M := qM)) $$ Hq; iintro %x Hq
  iapply (st (M := qM) (n := 0) rfl (fillQ0 I c rfl _)) $$ Hq; iintro Hq
  iapply (ldm (M := x0M) (rd0 _ _)) $$ Hx0; iintro Hx0
  simp only [run, wp_ret]; imodintro
  iapply H
  isplitl [HO]; · iexact HO
  isplitl [Hc6]; · iexact Hc6
  isplitl [Hc7]; · iexact Hc7
  isplitl [Hx]; · iexact Hx
  isplitl [Hx0]; · iexact Hx0
  isplitl [Hwq]; · iexact Hwq
  isplitl [Hwk]; · iexact Hwk
  isplitl [Hwv] <;> iassumption

end Start

end Cert.KernelIdeal.Ring

end
-- ==== Proof.KI.Mixed.lean ====
/-
The parts of the program that wait for a chunk, pass it on, or store its projected rows.
-/
module

public import proofs.«01_k».proof.Proof.KI.Begin

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

section Got
variable (I : Ins F) (c : Dev nD)
/-- The first receive semaphore hands over the chunk of the device before. -/
theorem got9 : dmaPay I c (9 : DmaSem sig).val = mAt c x1M fullShare (xc I (prv c)) := rfl
/-- The second hands over the chunk of the device after. -/
theorem got10 : dmaPay I c (10 : DmaSem sig).val = mAt c x2M fullShare (xc I (nxt c)) := rfl
/-- The third hands over the chunk of the opposite device, and that device's slab for `c`. -/
theorem got11 : dmaPay I c (11 : DmaSem sig).val = iprop(mAt c x3M fullShare (xc I (opp c)) ∗ ∃ f, atR (opp c) c f) := rfl
end Got

section Mixed
variable (I : Ins F) {c : Dev nD}

/-- Part 3 of the program: the keys and values of the own chunk are stored, the first heads begun. -/
theorem part3 {Kt : _ → sProp (MT nD τ sig Unit (Elt F) ℕ UU ℕ)}  :
    iprop(held c qM 1 (qOn I c)
        ∗ held c kM 0 (kOn I c)
        ∗ held c vM 0 (vOn I c))
      ⊢ iprop(((held c qM 1 (qOn I c)
        ∗ held c kM 1 (kOn I c)
        ∗ held c vM 1 (vOn I c)) -∗ Kt ⟨k0_pay9 (blk S256x128.size 0 0 (qOn I c)) (blk S256x128.size 0 0 (kOn I c)), k0_pay10 (blk S256x128.size 0 0 (qOn I c)) (blk S256x128.size 0 0 (kOn I c)) (blk S256x128.size 0 0 (vOn I c)), k0_pay12 (blk S256x128.size 0 128 (qOn I c)) (blk S256x128.size 0 128 (kOn I c)), k0_pay13 (blk S256x128.size 0 128 (qOn I c)) (blk S256x128.size 0 128 (kOn I c)) (blk S256x128.size 0 128 (vOn I c)), (blk S256x128.size 0 256 (qOn I c)), (blk S256x128.size 0 256 (kOn I c))⟩)
        -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay3 (I.WK c)) (k0_pay4 (I.WV c)) (xc I c)) Kt) := by
  simp only [k0_part3_eq_skeleton]; unfold k0_part3_skel
  simp only [Prog.lift, Prog.bind_op, Prog.bind_ret, Prog.pure_eq_ret, at0_eq, at1_eq, at2_eq, at3_eq]
  iintro ⟨Hq, Hk, Hv⟩ H
  iapply (ldx (M := kM)) $$ Hk; iintro %v64 Hk
  iapply (st (M := kM) (n := 0) rfl (fillK I c 0 rfl _)) $$ Hk; iintro Hk
  iapply (ldx (M := vM)) $$ Hv; iintro %v69 Hv
  iapply (st (M := vM) (n := 0) rfl (fillV I c 0 rfl _)) $$ Hv; iintro Hv
  iterate 2 ((iapply (ld (M := qM) (by decide)) $$ Hq; iintro Hq); (iapply (ld (M := kM) (by decide)) $$ Hk; iintro Hk); (iapply (ld (M := vM) (by decide)) $$ Hv; iintro Hv))
  iapply (ld (M := qM) (by decide)) $$ Hq; iintro Hq
  iapply (ld (M := kM) (by decide)) $$ Hk; iintro Hk
  simp only [run, wp_ret]; imodintro
  iapply H
  isplitl [Hq]; · iexact Hq
  isplitl [Hk]; · iexact Hk
  iexact Hv

/-- Part 5 of the program: the wait for the chunk of the device before. -/
theorem part5 {Kt : _ → sProp (MT nD τ sig Unit (Elt F) ℕ UU ℕ)} (v24 : BitVec 32) (v120 : FVec F S256x256 .f32) :
    iprop(recs I
        ∗ levAts L lv
        ∗ debt c (O3 c)
        ∗ cred (tallyAt (dCell c 9) () N)
        ∗ atPos ER (dCell c 9) 0 ∅ 0
        ∗ held c qM 1 (qOn I c)
        ∗ held c kM 1 (kOn I c)
        ∗ held c vM 1 (vOn I c))
      ⊢ iprop(((debt c (O3 c)
        ∗ semVal (dCell c 9) 0
        ∗ at1 c (xc I (prv c))
        ∗ held c qM 1 (qOn I c)
        ∗ held c kM 1 (kOn I c)
        ∗ held c vM 1 (vOn I c)) -∗ Kt ⟨k0_pay25 v120 (blk S256x128.size 0 640 (vOn I c)), k0_pay27 (blk S256x128.size 0 768 (qOn I c)) (blk S256x128.size 0 768 (kOn I c)), k0_pay28 (blk S256x128.size 0 768 (qOn I c)) (blk S256x128.size 0 768 (kOn I c)) (blk S256x128.size 0 768 (vOn I c)), k0_pay30 (blk S256x128.size 0 896 (qOn I c)) (blk S256x128.size 0 896 (kOn I c)), k0_pay31 (blk S256x128.size 0 896 (qOn I c)) (blk S256x128.size 0 896 (kOn I c)) (blk S256x128.size 0 896 (vOn I c)), k0_pay32 (k0_pay2 (I.WQ c)) (xc I (prv c))⟩)
        -∗ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v24 (k0_pay2 (I.WQ c)) v120) Kt) := by
  simp only [k0_part5_eq_skeleton]; unfold k0_part5_skel
  simp only [Prog.lift, Prog.bind_op, Prog.bind_ret, Prog.pure_eq_ret, at0_eq, at1_eq, at2_eq, at3_eq]
  iintro ⟨#HR, #Hlev, HO, Hc9, Ha9, Hq, Hk, Hv⟩ H
  iterate 2 ((iapply (ld (M := vM) (by decide)) $$ Hv; iintro Hv); (iapply (ld (M := qM) (by decide)) $$ Hq; iintro Hq); (iapply (ld (M := kM) (by decide)) $$ Hk; iintro Hk))
  iapply (ld (M := vM) (by decide)) $$ Hv; iintro Hv
  iapply (wait_dma_step I 9 rfl (by decide) (ne_rsq _ _ (by decide)) (above_O3 c 2 (by decide)) (srcM := x0M) (dstM := x1M) rfl) $$ [HO Hc9 Ha9]
  · isplitr; · iexact HR
    isplitl [Hc9]; · iexact Hc9
    isplitl [HO]; · iexact HO
    isplitr; · iexact Hlev
    iexact Ha9
  iintro ⟨HO, Hz9, Hx1⟩
  ihave Hx1 := (Entails.of_eq (got9 I c)) $$ Hx1
  iapply (ldm (M := x1M) (rd1 _ _)) $$ Hx1; iintro Hx1
  simp only [run, wp_ret]; imodintro
  iapply H
  isplitl [HO]; · iexact HO
  isplitl [Hz9]; · iexact Hz9
  isplitl [Hx1]; · iexact Hx1
  isplitl [Hq]; · iexact Hq
  isplitl [Hk]; · iexact Hk
  iexact Hv

/-- Part 6 of the program: its queries, keys and values are stored. -/
theorem part6 {Kt : _ → sProp (MT nD τ sig Unit (Elt F) ℕ UU ℕ)} (v77 : FVec F S256x1 .f32) (v80 : FVec F S256x128 .f32) :
    iprop(at1 c (xc I (prv c))
        ∗ held c qM 1 (qOn I c)
        ∗ held c kM 1 (kOn I c)
        ∗ held c vM 1 (vOn I c))
      ⊢ iprop(((at1 c (xc I (prv c))
        ∗ held c qM 2 (qOn I c)
        ∗ held c kM 2 (kOn I c)
        ∗ held c vM 2 (vOn I c)) -∗ Kt ⟨k0_pay37 v80 (blk S256x128.size 0 0 (qOn I c)) (blk S256x128.size 256 0 (kOn I c)) (blk S256x128.size 256 0 (vOn I c)), k0_pay38 v77 (blk S256x128.size 0 0 (qOn I c)) (blk S256x128.size 256 0 (kOn I c)), k0_pay40 (blk S256x128.size 0 128 (qOn I c)) (blk S256x128.size 256 128 (kOn I c)), k0_pay41 (blk S256x128.size 0 128 (qOn I c)) (blk S256x128.size 256 128 (kOn I c))⟩)
        -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay3 (I.WK c)) (k0_pay4 (I.WV c)) v77 v80 (k0_pay32 (k0_pay2 (I.WQ c)) (xc I (prv c)))) Kt) := by
  simp only [k0_part6_eq_skeleton]; unfold k0_part6_skel
  simp only [Prog.lift, Prog.bind_op, Prog.bind_ret, Prog.pure_eq_ret, at0_eq, at1_eq, at2_eq, at3_eq]
  iintro ⟨Hx1, Hq, Hk, Hv⟩ H
  iapply (ldx (M := qM)) $$ Hq; iintro %v153 Hq
  iapply (st (M := qM) (n := 1) rfl (fillQ1 I c rfl _)) $$ Hq; iintro Hq
  iapply (ldm (M := x1M) (rd1 _ _)) $$ Hx1; iintro Hx1
  iapply (ldx (M := kM)) $$ Hk; iintro %v159 Hk
  iapply (st (M := kM) (n := 1) rfl (fillK I c 1 rfl _)) $$ Hk; iintro Hk
  iapply (ldx (M := vM)) $$ Hv; iintro %v164 Hv
  iapply (st (M := vM) (n := 1) rfl (fillV I c 1 rfl _)) $$ Hv; iintro Hv
  iapply (ld (M := qM) (by decide)) $$ Hq; iintro Hq
  iapply (ld (M := kM) (by decide)) $$ Hk; iintro Hk
  iapply (ld (M := vM) (by decide)) $$ Hv; iintro Hv
  iapply (ld (M := qM) (by decide)) $$ Hq; iintro Hq
  iapply (ld (M := kM) (by decide)) $$ Hk; iintro Hk
  simp only [run, wp_ret]; imodintro
  iapply H
  isplitl [Hx1]; · iexact Hx1
  isplitl [Hq]; · iexact Hq
  isplitl [Hk]; · iexact Hk
  iexact Hv

/-- Part 11 of the program: the wait for the chunk of the device after, which is passed on to the device before. -/
theorem part11 {Kt : _ → sProp (MT nD τ sig Unit (Elt F) ℕ UU ℕ)} (v13 : BitVec 32) (v309 : Vec F S256x128 .bf16) :
    iprop(recs I
        ∗ levAts L lv
        ∗ debt c (O3 c)
        ∗ cred (tallyAt (dCell c 10) () N)
        ∗ atPos ER (dCell c 10) 0 ∅ 0
        ∗ dutyTok ER (dCell c 8) 0 false
        ∗ dutyTok ER (dCell (prv c) 11) 0 false
        ∗ (∃ f, at3 (prv c) f)
        ∗ (∃ f, atR (nxt c) (prv c) f)
        ∗ mAt c woM fullShare (I.WO c)
        ∗ held c qM 2 (qOn I c)
        ∗ held c kM 2 (kOn I c)
        ∗ held c vM 2 (vOn I c))
      ⊢ iprop(((debt c (O4 c)
        ∗ semVal (dCell c 10) 0
        ∗ cred (tallyAt (dCell c 8) () N)
        ∗ at2 c πr (xc I (nxt c))
        ∗ mAt c woM fullShare (I.WO c)
        ∗ held c qM 2 (qOn I c)
        ∗ held c kM 2 (kOn I c)
        ∗ held c vM 2 (vOn I c)) -∗ Kt ⟨k0_pay86 v309 (blk S512x128.size 0 768 (kOn I c)), k0_pay87 v309 (blk S512x128.size 0 768 (kOn I c)) (blk S512x128.size 0 768 (vOn I c)), k0_pay89 (blk S256x128.size 256 896 (qOn I c)) (blk S512x128.size 0 896 (kOn I c)), k0_pay90 (blk S256x128.size 256 896 (qOn I c)) (blk S512x128.size 0 896 (kOn I c)) (blk S512x128.size 0 896 (vOn I c)), k0_pay91 (I.WO c), k0_pay92 (k0_pay2 (I.WQ c)) (xc I (nxt c))⟩)
        -∗ run c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v13 (k0_pay2 (I.WQ c)) v309) Kt) := by
  simp only [k0_part11_eq_skeleton]; unfold k0_part11_skel
  simp only [Prog.lift, Prog.bind_op, Prog.bind_ret, Prog.pure_eq_ret, at0_eq, at1_eq, at2_eq, at3_eq]
  iintro ⟨#HR, #Hlev, HO, Hc10, Ha10, Ht8, Ht11, Hx3, Hr, Hwo, Hq, Hk, Hv⟩ H
  iapply (ld (M := kM) (by decide)) $$ Hk; iintro Hk
  iapply (ld (M := vM) (by decide)) $$ Hv; iintro Hv
  iapply (ld (M := qM) (by decide)) $$ Hq; iintro Hq
  iapply (ld (M := kM) (by decide)) $$ Hk; iintro Hk
  iapply (ld (M := vM) (by decide)) $$ Hv; iintro Hv
  iapply (wait_dma_step I 10 rfl (by decide) (ne_rsq _ _ (by decide)) (above_O3 c 2 (by decide)) (srcM := x0M) (dstM := x2M) rfl) $$ [HO Hc10 Ha10]
  · isplitr; · iexact HR
    isplitl [Hc10]; · iexact Hc10
    isplitl [HO]; · iexact HO
    isplitr; · iexact Hlev
    iexact Ha10
  iintro ⟨HO, Hz10, Hx2⟩
  ihave Hx2 := (Entails.of_eq (got10 I c)) $$ Hx2
  ihave Hx2 := (mAt_halves c x2M fullShare _).1 $$ Hx2
  icases Hx2 with ⟨Hx2l, Hx2⟩
  icases Hx3 with ⟨%f3, Hx3⟩
  iapply (send_step I (dev5_eq c) 8 11 rfl rfl (by decide) (ne_rsq _ _ (by decide)) (by decide) (ne_rsq _ _ (by decide)) (srcM := x2M) (dstM := x3M) rfl
    (xc I (nxt c)) f3 iprop(∃ f, atR (nxt c) (prv c) f) (O := O4 c) rfl (Entails.of_eq rfl) (pay_D I c f3)) $$ [HO Ht8 Ht11 Hx2l Hx3 Hr]
  · isplitr; · iexact HR
    isplitl [Hx2l]; · iexact Hx2l
    isplitl [Hx3]; · iexact Hx3
    isplitl [Hr]; · iexact Hr
    isplitl [HO]; · iexact HO
    isplitl [Ht8] <;> iassumption
  iintro ⟨Hc8, HO⟩
  iapply (ldm (M := woM) (rdWo _ _)) $$ Hwo; iintro Hwo
  iapply (ldm (M := x2M) (rd2 _ _)) $$ Hx2; iintro Hx2
  simp only [run, wp_ret]; imodintro
  iapply H
  isplitl [HO]; · iexact HO
  isplitl [Hz10]; · iexact Hz10
  isplitl [Hc8]; · iexact Hc8
  isplitl [Hx2]; · iexact Hx2
  isplitl [Hwo]; · iexact Hwo
  isplitl [Hq]; · iexact Hq
  isplitl [Hk]; · iexact Hk
  iexact Hv

/-- Part 12 of the program: its queries, keys and values are stored. -/
theorem part12 {Kt : _ → sProp (MT nD τ sig Unit (Elt F) ℕ UU ℕ)} (v176 : FVec F S256x128 .f32) (v177 : FVec F S256x1 .f32) (v260 : FVec F S256x1 .f32) (v263 : FVec F S256x128 .f32) :
    iprop(at2 c πr (xc I (nxt c))
        ∗ held c qM 2 (qOn I c)
        ∗ held c kM 2 (kOn I c)
        ∗ held c vM 2 (vOn I c))
      ⊢ iprop(((at2 c πr (xc I (nxt c))
        ∗ held c qM 3 (qOn I c)
        ∗ held c kM 3 (kOn I c)
        ∗ held c vM 3 (vOn I c)) -∗ Kt ⟨k0_pay99 v176 (blk S512x128.size 0 0 (qOn I c)) (blk S256x128.size 512 0 (kOn I c)) (blk S256x128.size 512 0 (vOn I c)), k0_pay100 v177 (blk S512x128.size 0 0 (qOn I c)) (blk S256x128.size 512 0 (kOn I c)), k0_pay101 v263 (blk S512x128.size 0 0 (qOn I c)) (blk S256x128.size 512 0 (kOn I c)) (blk S256x128.size 512 0 (vOn I c)), k0_pay102 v260 (blk S512x128.size 0 0 (qOn I c)) (blk S256x128.size 512 0 (kOn I c)), (blk S512x128.size 0 128 (qOn I c))⟩)
        -∗ run c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay3 (I.WK c)) (k0_pay4 (I.WV c)) v176 v177 v260 v263 (k0_pay92 (k0_pay2 (I.WQ c)) (xc I (nxt c)))) Kt) := by
  simp only [k0_part12_eq_skeleton]; unfold k0_part12_skel
  simp only [Prog.lift, Prog.bind_op, Prog.bind_ret, Prog.pure_eq_ret, at0_eq, at1_eq, at2_eq, at3_eq]
  iintro ⟨Hx2, Hq, Hk, Hv⟩ H
  iapply (ldx (M := qM)) $$ Hq; iintro %v344 Hq
  iapply (st (M := qM) (n := 2) rfl (fillQ2 I c rfl _)) $$ Hq; iintro Hq
  iapply (ldm (M := x2M) (rd2 _ _)) $$ Hx2; iintro Hx2
  iapply (ldx (M := kM)) $$ Hk; iintro %v350 Hk
  iapply (st (M := kM) (n := 2) rfl (fillK I c 2 rfl _)) $$ Hk; iintro Hk
  iapply (ldx (M := vM)) $$ Hv; iintro %v355 Hv
  iapply (st (M := vM) (n := 2) rfl (fillV I c 2 rfl _)) $$ Hv; iintro Hv
  iapply (ld (M := qM) (by decide)) $$ Hq; iintro Hq
  iapply (ld (M := kM) (by decide)) $$ Hk; iintro Hk
  iapply (ld (M := vM) (by decide)) $$ Hv; iintro Hv
  iapply (ld (M := qM) (by decide)) $$ Hq; iintro Hq
  simp only [run, wp_ret]; imodintro
  iapply H
  isplitl [Hx2]; · iexact Hx2
  isplitl [Hq]; · iexact Hq
  isplitl [Hk]; · iexact Hk
  iexact Hv

/-- Part 18 of the program: the wait for the relayed chunk. -/
theorem part18 {Kt : _ → sProp (MT nD τ sig Unit (Elt F) ℕ UU ℕ)} (v2 : BitVec 32) (v13 : BitVec 32) (v554 : FVec F S256x768 .bf16) :
    iprop(recs I
        ∗ levAts L lv
        ∗ debt c (O4 c)
        ∗ cred (tallyAt (dCell c 11) () N)
        ∗ atPos ER (dCell c 11) 0 ∅ 0
        ∗ held c qM 3 (qOn I c)
        ∗ held c kM 3 (kOn I c)
        ∗ held c vM 3 (vOn I c))
      ⊢ iprop((∀ v580, (debt c (O4 c)
        ∗ semVal (dCell c 11) 0
        ∗ at3 c (xc I (opp c))
        ∗ (∃ f, atR (opp c) c f)
        ∗ held c qM 3 (qOn I c)
        ∗ held c kM 3 (kOn I c)
        ∗ held c vM 3 (vOn I c)) -∗ Kt ⟨k0_pay175 v554 (blk S768x128.size 0 768 (vOn I c)), k0_pay177 (blk S256x128.size 512 896 (qOn I c)) (blk S768x128.size 0 896 (kOn I c)), k0_pay178 (blk S256x128.size 512 896 (qOn I c)) (blk S768x128.size 0 896 (kOn I c)) (blk S768x128.size 0 896 (vOn I c)), v580, (xc I (opp c)), k0_pay179 (k0_pay3 (I.WK c)) (xc I (opp c))⟩)
        -∗ run c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v2 v13 (k0_pay3 (I.WK c)) v554) Kt) := by
  simp only [k0_part18_eq_skeleton]; unfold k0_part18_skel
  simp only [Prog.lift, Prog.bind_op, Prog.bind_ret, Prog.pure_eq_ret, at0_eq, at1_eq, at2_eq, at3_eq]
  iintro ⟨#HR, #Hlev, HO, Hc11, Ha11, Hq, Hk, Hv⟩ H
  iapply (ld (M := vM) (by decide)) $$ Hv; iintro Hv
  iapply (ld (M := qM) (by decide)) $$ Hq; iintro Hq
  iapply (ld (M := kM) (by decide)) $$ Hk; iintro Hk
  iapply (ld (M := vM) (by decide)) $$ Hv; iintro Hv
  iapply (wait_dma_step I 11 rfl (by decide) (ne_rsq _ _ (by decide)) (above_O4 c 3 (by decide)) (srcM := x2M) (dstM := x3M) rfl) $$ [HO Hc11 Ha11]
  · isplitr; · iexact HR
    isplitl [Hc11]; · iexact Hc11
    isplitl [HO]; · iexact HO
    isplitr; · iexact Hlev
    iexact Ha11
  iintro ⟨HO, Hz11, Hx3⟩
  ihave Hx3 := (Entails.of_eq (got11 I c)) $$ Hx3
  icases Hx3 with ⟨Hx3, Hr⟩
  iapply (ldm (M := x3M) (rd3 _ _)) $$ Hx3; iintro Hx3
  iapply (ldx (M := kM)) $$ Hk; iintro %v584 Hk
  simp only [run, wp_ret]; imodintro
  iapply H
  isplitl [HO]; · iexact HO
  isplitl [Hz11]; · iexact Hz11
  isplitl [Hx3]; · iexact Hx3
  isplitl [Hr]; · iexact Hr
  isplitl [Hq]; · iexact Hq
  isplitl [Hk]; · iexact Hk
  iexact Hv

/-- Part 19 of the program: its keys and values are stored. -/
theorem part19 {Kt : _ → sProp (MT nD τ sig Unit (Elt F) ℕ UU ℕ)} (v372 : FVec F S256x128 .f32) (v374 : FVec F S256x1 .f32) (v389 : FVec F S256x128 .f32) (v391 : FVec F S256x1 .f32) :
    iprop(held c qM 3 (qOn I c)
        ∗ held c kM 3 (kOn I c)
        ∗ held c vM 3 (vOn I c))
      ⊢ iprop(((held c qM 3 (qOn I c)
        ∗ held c kM 4 (kOn I c)
        ∗ held c vM 4 (vOn I c)) -∗ Kt ⟨k0_pay183 v372 (blk S256x128.size 256 0 (qOn I c)) (blk S256x128.size 768 0 (kOn I c)) (blk S256x128.size 768 0 (vOn I c)), k0_pay184 v374 (blk S256x128.size 256 0 (qOn I c)) (blk S256x128.size 768 0 (kOn I c)), k0_pay186 v389 (blk S256x128.size 256 128 (qOn I c)) (blk S256x128.size 768 128 (kOn I c)) (blk S256x128.size 768 128 (vOn I c)), k0_pay187 v391 (blk S256x128.size 256 128 (qOn I c)) (blk S256x128.size 768 128 (kOn I c)), k0_pay188 (blk S256x128.size 256 256 (qOn I c)) (blk S256x128.size 768 256 (kOn I c))⟩)
        -∗ run c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay4 (I.WV c)) v372 v374 v389 v391 (xc I (opp c)) (k0_pay179 (k0_pay3 (I.WK c)) (xc I (opp c)))) Kt) := by
  simp only [k0_part19_eq_skeleton]; unfold k0_part19_skel
  simp only [Prog.lift, Prog.bind_op, Prog.bind_ret, Prog.pure_eq_ret, at0_eq, at1_eq, at2_eq, at3_eq]
  iintro ⟨Hq, Hk, Hv⟩ H
  iapply (st (M := kM) (n := 3) rfl (fillK I c 3 rfl _)) $$ Hk; iintro Hk
  iapply (ldx (M := vM)) $$ Hv; iintro %v589 Hv
  iapply (st (M := vM) (n := 3) rfl (fillV I c 3 rfl _)) $$ Hv; iintro Hv
  iterate 2 ((iapply (ld (M := qM) (by decide)) $$ Hq; iintro Hq); (iapply (ld (M := kM) (by decide)) $$ Hk; iintro Hk); (iapply (ld (M := vM) (by decide)) $$ Hv; iintro Hv))
  iapply (ld (M := qM) (by decide)) $$ Hq; iintro Hq
  iapply (ld (M := kM) (by decide)) $$ Hk; iintro Hk
  simp only [run, wp_ret]; imodintro
  iapply H
  isplitl [Hq]; · iexact Hq
  isplitl [Hk]; · iexact Hk
  iexact Hv

end Mixed

end Cert.KernelIdeal.Ring

end
-- ==== Proof.KI.Slabs.lean ====
/-
Loads and stores of a slab of 256 rows of a buffer, of which only the slab is held.
-/
module

public import proofs.«01_k».proof.Proof.KI.Whole

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

section Slab
variable {c : Dev nD} {M : BigM} {r : Rect S1024x1024} {hu : ∀ a, r.stride a = 1}

omit [FloatOps F] [Named F] in
/-- What is written over a slab is what any contents with the same reading have there. -/
theorem slab_write (f g : M.view.ty.Contents (Elt F)) (w : r.shape.Idx → Elt F .bf16) (hg : (M.slice r hu).view.read (Elt F) g = w) :
    ∀ i ∈ (M.slice r hu).view.set, (M.slice r hu).view.write (Elt F) f w Finset.univ i = g i := by
  intro i hi
  obtain ⟨x, -, rfl⟩ := Finset.mem_map.mp hi
  rw [View.write_emb_of_mem _ _ (Finset.mem_univ x), ← hg, View.read_apply, cast_cast, cast_eq]

omit [FloatOps F] [Named F] in
/-- Contents that agree on the elements held may replace each other. -/
theorem mAt_congr {s : Shape} {e : EltTy} {M : Memref sig .tc .vmem s e} {π : PosShare TreeShare} {f g : Buf (Elt F) (M.view.loc (c : Thread nD τ))}
    (h : ∀ i ∈ M.view.set, f i = g i) : mAt c M π f = mAt c M π g := by
  unfold mAt; exact pointsTo_congr h

/-- A load of a slab that is held. -/
theorem ldS {π : PosShare TreeShare} {f : Buf (Elt F) (M.view.loc (c : Thread nD τ))} {w : r.shape.Idx → Elt F .bf16}
    (hw : (M.slice r hu).view.read (Elt F) f = w) {α : Type} {Kt : α → sProp (MT nD τ sig Unit (Elt F) ℕ UU ℕ)} {hl : M.view.LoadsAt r.toLoadRect}
    {k : (r.shape.Idx → Elt F .bf16) → Prog (TpuEff nD τ sig (Elt F) Λ₀ .tc) α} :
    mAt c (M.slice r hu) π f ⊢ iprop((mAt c (M.slice r hu) π f -∗ run c (k w) Kt) -∗ run c (.op (.load M r.toLoadRect hl) k) Kt) := by
  subst hw
  exact wp_load_rect 𝒱₀ (c : Thread nD τ) none Set.univ (m := M) (r := r) (S := (M.slice r hu).view.set) (subset_refl _)

/-- A store over a slab that is held. -/
theorem stS {f g : Buf (Elt F) (M.view.loc (c : Thread nD τ))} {w : r.shape.Idx → Elt F .bf16}
    (hg : (M.slice r hu).view.read (Elt F) g = w) {α : Type} {Kt : α → sProp (MT nD τ sig Unit (Elt F) ℕ UU ℕ)}
    {hx : (M.access r).Stores Finset.univ} {hm : (Finset.univ : Finset r.shape.Idx) = Finset.univ ∨ ∀ a, r.stride a = 1}
    {k : PUnit → Prog (TpuEff nD τ sig (Elt F) Λ₀ .tc) α} :
    mAt c (M.slice r hu) fullShare f ⊢ iprop((mAt c (M.slice r hu) fullShare g -∗ run c (k ⟨⟩) Kt) -∗ run c (.op (.store M r w Finset.univ hx hm) k) Kt) := by
  rw [← mAt_congr (slab_write f g w hg)]
  exact wp_store 𝒱₀ (c : Thread nD τ) none Set.univ (m := M) (r := r) (Mk := Finset.univ) (S := (M.slice r hu).view.set) (subset_refl _)

end Slab

/-! ## The slabs of the two buffers -/

omit [FloatOps F] [Named F] in
/-- Any slab of a repeated tile reads the tile. -/
theorem tile_read (y : FVec F S256x1024 .bf16) (t : Fin 4) {off : Fin 2 → ℕ} (ho : off = ![256 * t.val, 0])
    (inb : ∀ a, off a + S256x1024.size a ≤ S1024x1024.size a) (hu) :
    (ysM.slice (Rect.unit (s := S1024x1024) off S256x1024.size inb) hu).view.read (Elt F) (tile y) = y :=
  rd_rows4 (fun _ => y) t ho inb
omit [FloatOps F] [Named F] in
/-- The same in the result buffer. -/
theorem tile_readR (y : FVec F S256x1024 .bf16) (t : Fin 4) {off : Fin 2 → ℕ} (ho : off = ![256 * t.val, 0])
    (inb : ∀ a, off a + S256x1024.size a ≤ S1024x1024.size a) (hu) :
    (rbM.slice (Rect.unit (s := S1024x1024) off S256x1024.size inb) hu).view.read (Elt F) (tile y) = y :=
  rd_rows4 (fun _ => y) t ho inb

omit [FloatOps F] [Named F] in
/-- The slabs of the result buffer, whichever way their offsets are written. -/
theorem slR (c p : Dev nD) (off : Fin 2 → ℕ) (ho : off = ![256 * p.val, 0]) (inb : ∀ a, off a + S256x1024.size a ≤ S1024x1024.size a) (hu) (f) :
    atR (F := F) c p f = mAt c (rbM.slice (Rect.unit (s := S1024x1024) off S256x1024.size inb) hu) fullShare f := by
  have gen : ∀ (o : Fin 2 → ℕ) (h : o = off) (i : ∀ a, o a + S256x1024.size a ≤ S1024x1024.size a) (hu') (f),
      mAt (F := F) c (rbM.slice (Rect.unit (s := S1024x1024) o S256x1024.size i) hu') fullShare f
        = mAt c (rbM.slice (Rect.unit (s := S1024x1024) off S256x1024.size inb) hu) fullShare f := by
    intro o h i hu' f; subst h; rfl
  exact gen _ ((k0_off2_eq p).trans ho.symm) _ _ f

omit [FloatOps F] [Named F] in
/-- The slabs of the buffer for finished chunks, likewise. -/
theorem slY (c : Dev nD) (u : Fin 4) (off : Fin 2 → ℕ) (ho : off = ![256 * u.val, 0]) (inb : ∀ a, off a + S256x1024.size a ≤ S1024x1024.size a) (hu) (f) :
    atY (F := F) c u f = mAt c (ysM.slice (Rect.unit (s := S1024x1024) off S256x1024.size inb) hu) fullShare f := by
  subst ho
  rfl

end Cert.KernelIdeal.Ring

end
-- ==== Proof.KI.Out.lean ====
/-
The parts of the program that store a finished chunk and send it to the device that it belongs to.
-/
module

public import proofs.«01_k».proof.Proof.KI.Begin
public import proofs.«01_k».proof.Proof.KI.Slabs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-- The reduce-scatter's receiving semaphores belong to the exchange. -/
theorem six_le (p : Dev nD) : 6 ≤ (rsq p).val := by show 6 ≤ 15 + p.val; omega
/-- The receiving semaphores of different devices differ. -/
theorem rsq_ne (c d : Dev nD) (h : d ≠ c) : (rsq c).val ≠ 15 + d.val := fun e => h (Fin.ext (by have e' : 15 + c.val = 15 + d.val := e; omega))
/-- The semaphore that device `c`'s finished chunks land on is the one numbered by `c`. -/
theorem sem_rs (c : Dev nD) : ((cc0_scratch12.slice (Rect.unit (s := S4) (k0_off1 c) S1.size (k0_off1_inb c))).squeeze S_ squeezes_S1_S_).sem = rsq c := by
  revert c; decide

section Out
variable (I : Ins F) {c : Dev nD}

/-- The landing of device `p`'s finished chunk at device `d` hands over the slab with that chunk in it. -/
theorem pay_rsq (d p : Dev nD) : dmaPay I d (rsq p).val = atR d p (tile (yOn I p (slot d p))) := by
  revert p; intro p; fin_cases p <;> rfl

/-- What the copy of a finished chunk leaves at its target. -/
theorem pay_Y (c : Dev nD) (u : Fin 4) (d : Dev nD) (hs : slot d c = u) (fr) :
    iprop(mAt d (rbl c) fullShare ((rbl c).view.write (Elt F) fr
        ((ysl u).view.read (Elt F) (tile (yOn I c u))) Finset.univ) ∗ emp)
      ⊢ dmaPay I d (rsq c).val := by
  rw [pay_rsq, hs, tile_read _ u rfl, atR_eq, mAt_congr (slab_write (M := rbM) fr (tile (yOn I c u)) _ (tile_readR (yOn I c u) c (k0_off2_eq c) _ _))]
  iintro ⟨H, -⟩
  iexact H

/-- Part 23 of the program: the finished chunk of the device before is stored and sent to it. -/
theorem part23 {Kt : _ → sProp (MT nD τ sig Unit (Elt F) ℕ UU ℕ)} (v2 : BitVec 32) (v13 : BitVec 32) (v499 : FVec F S256x1 .f32) (v502 : FVec F S256x128 .f32) (v676 : FVec F S256x128 .f32) (v679 : FVec F S256x1 .f32) (v728 : FVec F S256x1024 .f32) (v733 : FVec F S256x128 .bf16) (v734 : FVec F S128x1024 .bf16) :
    iprop(⌜yOn I c 1 = k0_pay212 (k0_pay91 (I.WO c)) v676 v679 v728 v733 v734⌝
        ∗ recs I
        ∗ debt c (O4 c)
        ∗ dutyTok ER (dCell c 12) 0 false
        ∗ dutyTok ER (dCell (prv c) (rsq c)) 0 false
        ∗ (∃ f, atR (prv c) c f)
        ∗ (∃ f, atY c 1 f)
        ∗ held c qM 3 (qOn I c)
        ∗ held c kM 4 (kOn I c)
        ∗ held c vM 4 (vOn I c))
      ⊢ iprop(((debt c (O5 c)
        ∗ cred (tallyAt (dCell c 12) () N)
        ∗ held c qM 3 (qOn I c)
        ∗ held c kM 4 (kOn I c)
        ∗ held c vM 4 (vOn I c)) -∗ Kt ⟨k0_pay214 v502 (blk S256x128.size 512 0 (qOn I c)) (blk S256x128.size 768 0 (kOn I c)) (blk S256x128.size 768 0 (vOn I c)), k0_pay215 v499 (blk S256x128.size 512 0 (qOn I c)) (blk S256x128.size 768 0 (kOn I c)), (blk S256x128.size 512 128 (qOn I c))⟩)
        -∗ run c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v2 v13 (k0_pay91 (I.WO c)) v499 v502 v676 v679 v728 v733 v734) Kt) := by
  simp only [k0_part23_eq_skeleton]; unfold k0_part23_skel
  simp only [Prog.lift, Prog.bind_op, Prog.bind_ret, Prog.pure_eq_ret, at0_eq, at1_eq, at2_eq, at3_eq]
  iintro ⟨%hy, #HR, HO, Ht12, Htr, Hr, Hy, Hq, Hk, Hv⟩ H
  icases Hy with ⟨%fy, Hy⟩
  ihave Hy := (Entails.of_eq (slY c 1 ![256, 0] rfl inb_S1024x1024_S256x1024_256_0 (fun _ => rfl) fy)) $$ Hy
  iapply (ldS (M := ysM) rfl) $$ Hy; iintro Hy
  iapply (stS (M := ysM) (g := tile (yOn I c 1)) ((tile_read _ 1 rfl _ _).trans hy)) $$ Hy; iintro Hy
  ihave Hy := (Entails.of_eq (slY c 1 ![256, 0] rfl inb_S1024x1024_S256x1024_256_0 (fun _ => rfl) _).symm) $$ Hy
  icases Hr with ⟨%fr, Hr⟩
  iapply (send_step I (dev6_eq c) 12 (rsq c) rfl (sem_rs c) (by decide) (ne_rsq _ _ (by decide)) (six_le _) (rsq_ne c _ (prv_ne c)) (srcM := ysl 1) (dstM := rbl c) rfl
    (tile (yOn I c 1)) fr iprop(emp) (O := O5 c) rfl (Entails.of_eq rfl) (pay_Y I c 1 (prv c) (slot_prv c) fr)) $$ [HO Ht12 Htr Hy Hr]
  · isplitr; · iexact HR
    isplitl [Hy]; · iapply (Entails.of_eq (atY_eq _ _ _)) $$ Hy
    isplitl [Hr]; · iapply (Entails.of_eq (atR_eq _ _ _)) $$ Hr
    isplitr; · iempintro
    isplitl [HO]; · iexact HO
    isplitl [Ht12] <;> iassumption
  iintro ⟨Hc12, HO⟩
  iapply (ld (M := qM) (by decide)) $$ Hq; iintro Hq
  iapply (ld (M := kM) (by decide)) $$ Hk; iintro Hk
  iapply (ld (M := vM) (by decide)) $$ Hv; iintro Hv
  iapply (ld (M := qM) (by decide)) $$ Hq; iintro Hq
  simp only [run, wp_ret]; imodintro
  iapply H
  isplitl [HO]; · iexact HO
  isplitl [Hc12]; · iexact Hc12
  isplitl [Hq]; · iexact Hq
  isplitl [Hk]; · iexact Hk
  iexact Hv

/-- Part 27 of the program: the finished chunk of the device after is stored. -/
theorem part27 {Kt : _ → sProp (MT nD τ sig Unit (Elt F) ℕ UU ℕ)} (v2 : BitVec 32) (v24 : BitVec 32) (v809 : FVec F S256x128 .f32) (v812 : FVec F S256x1 .f32) (v820 : FVec F S256x128 .f32) (v823 : FVec F S256x1 .f32) (v831 : FVec F S256x128 .f32) (v834 : FVec F S256x1 .f32) (v842 : FVec F S256x128 .f32) (v845 : FVec F S256x1 .f32) (v878 : FVec F S256x1024 .f32) (cst_641 : F .f32) :
    iprop(⌜yOn I c 2 = k0_pay238 (k0_pay91 (I.WO c)) v809 v812 v820 v823 v831 v834 v842 v845 v878 cst_641⌝
        ∗ (∃ f, atY c 2 f))
      ⊢ iprop(((atY c 2 (tile (yOn I c 2))) -∗ Kt ⟨⟩)
        -∗ run c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v2 v24 (k0_pay91 (I.WO c)) v809 v812 v820 v823 v831 v834 v842 v845 v878 cst_641) Kt) := by
  simp only [k0_part27_eq_skeleton]; unfold k0_part27_skel
  simp only [Prog.lift, Prog.bind_op, Prog.bind_ret, Prog.pure_eq_ret, at0_eq, at1_eq, at2_eq, at3_eq]
  iintro ⟨%hy, Hy⟩ H
  icases Hy with ⟨%fy, Hy⟩
  ihave Hy := (Entails.of_eq (slY c 2 ![512, 0] rfl inb_S1024x1024_S256x1024_512_0 (fun _ => rfl) fy)) $$ Hy
  iapply (ldS (M := ysM) rfl) $$ Hy; iintro Hy
  iapply (stS (M := ysM) (g := tile (yOn I c 2)) ((tile_read _ 2 rfl _ _).trans hy)) $$ Hy; iintro Hy
  ihave Hy := (Entails.of_eq (slY c 2 ![512, 0] rfl inb_S1024x1024_S256x1024_512_0 (fun _ => rfl) _).symm) $$ Hy
  simp only [run, wp_ret]; imodintro
  iapply H
  iexact Hy

/-- Part 28 of the program: it is sent, and the queries of the relayed chunk are stored. -/
theorem part28 {Kt : _ → sProp (MT nD τ sig Unit (Elt F) ℕ UU ℕ)}  :
    iprop(recs I
        ∗ debt c (O5 c)
        ∗ dutyTok ER (dCell c 13) 0 false
        ∗ dutyTok ER (dCell (nxt c) (rsq c)) 0 false
        ∗ (∃ f, atR (nxt c) c f)
        ∗ atY c 2 (tile (yOn I c 2))
        ∗ at3 c (xc I (opp c))
        ∗ held c qM 3 (qOn I c)
        ∗ held c kM 4 (kOn I c)
        ∗ held c vM 4 (vOn I c))
      ⊢ iprop(((debt c (O6 c)
        ∗ cred (tallyAt (dCell c 13) () N)
        ∗ at3 c (xc I (opp c))
        ∗ held c qM 4 (qOn I c)
        ∗ held c kM 4 (kOn I c)
        ∗ held c vM 4 (vOn I c)) -∗ Kt ⟨k0_pay241 (blk S256x128.size 768 0 (qOn I c)) (blk S1024x128.size 0 0 (kOn I c)), k0_pay242 (blk S256x128.size 768 0 (qOn I c)) (blk S1024x128.size 0 0 (kOn I c)) (blk S1024x128.size 0 0 (vOn I c)), k0_pay244 (blk S256x128.size 768 128 (qOn I c)) (blk S1024x128.size 0 128 (kOn I c)), k0_pay245 (blk S256x128.size 768 128 (qOn I c)) (blk S1024x128.size 0 128 (kOn I c)) (blk S1024x128.size 0 128 (vOn I c)), (blk S256x128.size 768 256 (qOn I c)), (blk S1024x128.size 0 256 (kOn I c))⟩)
        -∗ run c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c (k0_pay2 (I.WQ c))) Kt) := by
  simp only [k0_part28_eq_skeleton]; unfold k0_part28_skel
  simp only [Prog.lift, Prog.bind_op, Prog.bind_ret, Prog.pure_eq_ret, at0_eq, at1_eq, at2_eq, at3_eq]
  iintro ⟨#HR, HO, Ht13, Htr, Hr, Hy, Hx3, Hq, Hk, Hv⟩ H
  icases Hr with ⟨%fr, Hr⟩
  iapply (send_step I (dev7_eq c) 13 (rsq c) rfl (sem_rs c) (by decide) (ne_rsq _ _ (by decide)) (six_le _) (rsq_ne c _ (nxt_ne c)) (srcM := ysl 2) (dstM := rbl c) rfl
    (tile (yOn I c 2)) fr iprop(emp) (O := O6 c) rfl (Entails.of_eq rfl) (pay_Y I c 2 (nxt c) (slot_nxt c) fr)) $$ [HO Ht13 Htr Hy Hr]
  · isplitr; · iexact HR
    isplitl [Hy]; · iapply (Entails.of_eq (atY_eq _ _ _)) $$ Hy
    isplitl [Hr]; · iapply (Entails.of_eq (atR_eq _ _ _)) $$ Hr
    isplitr; · iempintro
    isplitl [HO]; · iexact HO
    isplitl [Ht13] <;> iassumption
  iintro ⟨Hc13, HO⟩
  iapply (ldm (M := x3M) (rd3 _ _)) $$ Hx3; iintro Hx3
  iapply (ldx (M := qM)) $$ Hq; iintro %v929 Hq
  iapply (st (M := qM) (n := 3) rfl (fillQ3 I c rfl _)) $$ Hq; iintro Hq
  iterate 2 ((iapply (ld (M := qM) (by decide)) $$ Hq; iintro Hq); (iapply (ld (M := kM) (by decide)) $$ Hk; iintro Hk); (iapply (ld (M := vM) (by decide)) $$ Hv; iintro Hv))
  iapply (ld (M := qM) (by decide)) $$ Hq; iintro Hq
  iapply (ld (M := kM) (by decide)) $$ Hk; iintro Hk
  simp only [run, wp_ret]; imodintro
  iapply H
  isplitl [HO]; · iexact HO
  isplitl [Hc13]; · iexact Hc13
  isplitl [Hx3]; · iexact Hx3
  isplitl [Hq]; · iexact Hq
  isplitl [Hk]; · iexact Hk
  iexact Hv

/-- Part 32 of the program: the finished chunk of the device opposite is stored and sent to it. -/
theorem part32 {Kt : _ → sProp (MT nD τ sig Unit (Elt F) ℕ UU ℕ)} (v2 : BitVec 32) (v368 : FVec F S256x128 .f32) (v370 : FVec F S256x1 .f32) (v580 : BitVec 32) (v1060 : FVec F S256x1024 .f32) (v1065 : FVec F S256x128 .bf16) :
    iprop(⌜yOn I c 3 = k0_pay268 (k0_pay91 (I.WO c)) v1060 v1065⌝
        ∗ recs I
        ∗ debt c (O6 c)
        ∗ dutyTok ER (dCell c 14) 0 false
        ∗ dutyTok ER (dCell (opp c) (rsq c)) 0 false
        ∗ (∃ f, atR (opp c) c f)
        ∗ (∃ f, atY c 3 f)
        ∗ held c qM 4 (qOn I c)
        ∗ held c kM 4 (kOn I c)
        ∗ held c vM 4 (vOn I c))
      ⊢ iprop(((debt c 0
        ∗ cred (tallyAt (dCell c 14) () N)
        ∗ held c qM 4 (qOn I c)
        ∗ held c kM 4 (kOn I c)
        ∗ held c vM 4 (vOn I c)) -∗ Kt ⟨k0_pay270 v368 (blk S256x128.size 0 0 (qOn I c)) (blk S256x128.size 768 0 (kOn I c)) (blk S256x128.size 768 0 (vOn I c)), k0_pay271 v370 (blk S256x128.size 0 0 (qOn I c)) (blk S256x128.size 768 0 (kOn I c)), k0_pay272 (blk S256x128.size 0 128 (qOn I c)) (blk S256x128.size 768 128 (kOn I c)), k0_pay273 (blk S256x128.size 0 128 (qOn I c)) (blk S256x128.size 768 128 (kOn I c))⟩)
        -∗ run c (k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v2 (k0_pay91 (I.WO c)) v368 v370 v580 v1060 v1065) Kt) := by
  simp only [k0_part32_eq_skeleton]; unfold k0_part32_skel
  simp only [Prog.lift, Prog.bind_op, Prog.bind_ret, Prog.pure_eq_ret, at0_eq, at1_eq, at2_eq, at3_eq]
  iintro ⟨%hy, #HR, HO, Ht14, Htr, Hr, Hy, Hq, Hk, Hv⟩ H
  icases Hy with ⟨%fy, Hy⟩
  ihave Hy := (Entails.of_eq (slY c 3 ![768, 0] rfl inb_S1024x1024_S256x1024_768_0 (fun _ => rfl) fy)) $$ Hy
  iapply (ldS (M := ysM) rfl) $$ Hy; iintro Hy
  iapply (stS (M := ysM) (g := tile (yOn I c 3)) ((tile_read _ 3 rfl _ _).trans hy)) $$ Hy; iintro Hy
  ihave Hy := (Entails.of_eq (slY c 3 ![768, 0] rfl inb_S1024x1024_S256x1024_768_0 (fun _ => rfl) _).symm) $$ Hy
  icases Hr with ⟨%fr, Hr⟩
  iapply (send_step I (dev8_eq c) 14 (rsq c) rfl (sem_rs c) (by decide) (ne_rsq _ _ (by decide)) (six_le _) (rsq_ne c _ (opp_ne c)) (srcM := ysl 3) (dstM := rbl c) rfl
    (tile (yOn I c 3)) fr iprop(emp) (O := 0) (zero_add _).symm (Entails.of_eq rfl) (pay_Y I c 3 (opp c) (slot_opp c) fr)) $$ [HO Ht14 Htr Hy Hr]
  · isplitr; · iexact HR
    isplitl [Hy]; · iapply (Entails.of_eq (atY_eq _ _ _)) $$ Hy
    isplitl [Hr]; · iapply (Entails.of_eq (atR_eq _ _ _)) $$ Hr
    isplitr; · iempintro
    isplitl [HO]; · iexact HO
    isplitl [Ht14] <;> iassumption
  iintro ⟨Hc14, HO⟩
  iapply (ld (M := qM) (by decide)) $$ Hq; iintro Hq
  iapply (ld (M := kM) (by decide)) $$ Hk; iintro Hk
  iapply (ld (M := vM) (by decide)) $$ Hv; iintro Hv
  iapply (ld (M := qM) (by decide)) $$ Hq; iintro Hq
  iapply (ld (M := kM) (by decide)) $$ Hk; iintro Hk
  simp only [run, wp_ret]; imodintro
  iapply H
  isplitl [HO]; · iexact HO
  isplitl [Hc14]; · iexact Hc14
  isplitl [Hq]; · iexact Hq
  isplitl [Hk]; · iexact Hk
  iexact Hv

end Out

end Cert.KernelIdeal.Ring

end
-- ==== Proof.KI.Finish.lean ====
/-
The last loop of the program: the chunks of the other devices are awaited in turn and added up.
-/
module

public import proofs.«01_k».proof.Proof.KI.Out

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-- The loop's test of device `c` at turn `p`: false only at its own turn. -/
theorem guard (c p : Dev nD) : Iff (Scalar.cmpi .ne (Scalar.extui (Scalar.cmpi .ne (word c) (BitVec.ofNat 32 p.val)) : BitVec 32) 0#32 = 1#1) (p ≠ c) := by
  revert c p; decide

/-- The test at turn 0 holds exactly when the device is not device 0. -/
theorem guard0 (c : Dev nD) : Iff (Scalar.cmpi .ne (Scalar.extui (Scalar.cmpi .ne (word c) 0#32) : BitVec 32) 0#32 = 1#1) (0 ≠ c) := guard c 0
/-- The test at turn 1 holds exactly when the device is not device 1. -/
theorem guard1 (c : Dev nD) : Iff (Scalar.cmpi .ne (Scalar.extui (Scalar.cmpi .ne (word c) 1#32) : BitVec 32) 0#32 = 1#1) (1 ≠ c) := guard c 1
/-- The test at turn 2 holds exactly when the device is not device 2. -/
theorem guard2 (c : Dev nD) : Iff (Scalar.cmpi .ne (Scalar.extui (Scalar.cmpi .ne (word c) 2#32) : BitVec 32) 0#32 = 1#1) (2 ≠ c) := guard c 2
/-- The test at turn 3 holds exactly when the device is not device 3. -/
theorem guard3 (c : Dev nD) : Iff (Scalar.cmpi .ne (Scalar.extui (Scalar.cmpi .ne (word c) 3#32) : BitVec 32) 0#32 = 1#1) (3 ≠ c) := guard c 3
/-- The semaphore of turn 0 is the one on which device 0's copies land. -/
theorem sem_at0 : ((cc0_scratch12.slice (Rect.unit (s := S4) ![0] S1.size inb_S4_S1_0)).squeeze S_ squeezes_S1_S_).sem = rsq 0 := by decide
/-- The semaphore of turn 1 is the one on which device 1's copies land. -/
theorem sem_at1 : ((cc0_scratch12.slice (Rect.unit (s := S4) ![1] S1.size inb_S4_S1_1)).squeeze S_ squeezes_S1_S_).sem = rsq 1 := by decide
/-- The semaphore of turn 2 is the one on which device 2's copies land. -/
theorem sem_at2 : ((cc0_scratch12.slice (Rect.unit (s := S4) ![2] S1.size inb_S4_S1_2)).squeeze S_ squeezes_S1_S_).sem = rsq 2 := by decide
/-- The semaphore of turn 3 is the one on which device 3's copies land. -/
theorem sem_at3 : ((cc0_scratch12.slice (Rect.unit (s := S4) ![3] S1.size inb_S4_S1_3)).squeeze S_ squeezes_S1_S_).sem = rsq 3 := by decide

section Finish
variable (I : Ins F) {c : Dev nD}

/-- What device `c` holds before turn `p` of the last loop: the position of the cell, and the credit for the copy, or at its own turn its own chunk. -/
def turn (c p : Dev nD) : sProp (MT nD τ sig Unit (Elt F) ℕ UU ℕ) :=
  iprop(atPos ER (dCell c (rsq p)) 0 ∅ 0 ∗ (if p = c then atR c c (tile (yOn I c 0)) else cred (tallyAt (dCell c (rsq p)) () N)))
/-- What it holds after: the cell is closed and the slab holds the chunk of device `p`. -/
def turned (c p : Dev nD) : sProp (MT nD τ sig Unit (Elt F) ℕ UU ℕ) :=
  iprop(semVal (dCell c (rsq p)) 0 ∗ atR c p (tile (yOn I p (slot c p))))

/-- A turn of the last loop: device `c` waits for the chunk of device `p`, unless it is its own. -/
theorem turn_step {α : Type} {Kt : α → sProp (MT nD τ sig Unit (Elt F) ℕ UU ℕ)} (p : Dev nD) {g : BitVec 1} (hg : Iff (g = 1#1) (p ≠ c)) {s : DmaSem sig} (hs : s = rsq p)
    {srcM dstM : Memref sig .tc .vmem S256x1024 .bf16} {hsrc : srcM.view.WordExact} {hdst : dstM.view.WordExact} (hN : dstM.view.dmaCredit = N)
    {k : PUnit → Prog (TpuEff nD τ sig (Elt F) Λ₀ .tc) α} :
    iprop(recs I ∗ levAts L lv ∗ debt c 0 ∗ turn I c p)
      ⊢ iprop(((debt c 0 ∗ turned I c p) -∗ run c (k ⟨⟩) Kt)
        -∗ run c (if _h : g = 1#1 then Prog.op (.waitDma2 s srcM dstM hsrc hdst) k else k ⟨⟩) Kt) := by
  unfold turn turned
  by_cases h : p = c
  · rw [dif_neg (fun e => hg.1 e h), if_pos h]
    subst h
    simp only [slot_self]
    iintro ⟨#HR, #Hlev, HO, Hat, Hr⟩ Hk
    ihave HI := (recs_dma I p (rsq p) (six_le p)) $$ HR
    icases HI with ⟨%κ, #HI, #Hrc⟩
    simp only [run]
    imod (Rounds.cell_close ER (sched I) (Set.mem_univ κ) (fun h => h) (R := 0) (duties_own_all I p)) $$ [Hat] with Hz
    · isplitr; · iexact HI
      iexact Hat
    iapply Hk
    isplitl [HO]; · iexact HO
    isplitl [Hz]; · iexact Hz
    iexact Hr
  · rw [dif_pos (hg.2 h), if_neg h]
    iintro ⟨#HR, #Hlev, HO, Hat, Hc⟩ Hk
    iapply (wait_dma_step I (rsq p) hs (six_le p) (rsq_ne p c (fun e => h e.symm)) (above_zero _) (srcM := srcM) (dstM := dstM) hN) $$ [HO Hat Hc]
    · isplitr; · iexact HR
      isplitl [Hc]; · iexact Hc
      isplitl [HO]; · iexact HO
      isplitr; · iexact Hlev
      iexact Hat
    iintro ⟨HO, Hz, Hr⟩
    ihave Hr := (Entails.of_eq (pay_rsq I c p)) $$ Hr
    iapply Hk
    isplitl [HO]; · iexact HO
    isplitl [Hz]; · iexact Hz
    iexact Hr

/-- The credits of device `c` and its own chunk, arranged by turn. -/
theorem turns :
    iprop(atR c c (tile (yOn I c 0)) ∗ cred (tallyAt (dCell c (rsq (prv c))) () N) ∗ cred (tallyAt (dCell c (rsq (nxt c))) () N)
        ∗ cred (tallyAt (dCell c (rsq (opp c))) () N)
        ∗ atPos ER (dCell c (rsq 0)) 0 ∅ 0 ∗ atPos ER (dCell c (rsq 1)) 0 ∅ 0 ∗ atPos ER (dCell c (rsq 2)) 0 ∅ 0 ∗ atPos ER (dCell c (rsq 3)) 0 ∅ 0)
      ⊢ iprop(turn I c 0 ∗ turn I c 1 ∗ turn I c 2 ∗ turn I c 3) := by
  unfold turn
  iintro ⟨Hr, Hp, Hn, Ho, H0, H1, H2, H3⟩
  have hc : c = 0 ∨ c = 1 ∨ c = 2 ∨ c = 3 := by revert c; decide
  rcases hc with rfl | rfl | rfl | rfl
  · rw [if_pos rfl, if_neg (by decide), if_neg (by decide), if_neg (by decide)]
    isplitl [H0 Hr]; · isplitl [H0] <;> iassumption
    isplitl [H1 Hn]; · isplitl [H1]; · iexact H1
                       iexact Hn
    isplitl [H2 Ho]; · isplitl [H2]; · iexact H2
                       iexact Ho
    isplitl [H3]; · iexact H3
    iexact Hp
  · rw [if_neg (by decide), if_pos rfl, if_neg (by decide), if_neg (by decide)]
    isplitl [H0 Hp]; · isplitl [H0]; · iexact H0
                       iexact Hp
    isplitl [H1 Hr]; · isplitl [H1] <;> iassumption
    isplitl [H2 Hn]; · isplitl [H2]; · iexact H2
                       iexact Hn
    isplitl [H3]; · iexact H3
    iexact Ho
  · rw [if_neg (by decide), if_neg (by decide), if_pos rfl, if_neg (by decide)]
    isplitl [H0 Ho]; · isplitl [H0]; · iexact H0
                       iexact Ho
    isplitl [H1 Hp]; · isplitl [H1]; · iexact H1
                       iexact Hp
    isplitl [H2 Hr]; · isplitl [H2] <;> iassumption
    isplitl [H3]; · iexact H3
    iexact Hn
  · rw [if_neg (by decide), if_neg (by decide), if_neg (by decide), if_pos rfl]
    isplitl [H0 Hn]; · isplitl [H0]; · iexact H0
                       iexact Hn
    isplitl [H1 Ho]; · isplitl [H1]; · iexact H1
                       iexact Ho
    isplitl [H2 Hp]; · isplitl [H2]; · iexact H2
                       iexact Hp
    isplitl [H3]; · iexact H3
    iexact Hr

/-- A load of the slab of device `p` after its turn. -/
theorem ldT {α : Type} {Kt : α → sProp (MT nD τ sig Unit (Elt F) ℕ UU ℕ)} (p : Dev nD) {off : Fin 2 → ℕ} (ho : off = ![256 * p.val, 0])
    {inb : ∀ a, off a + S256x1024.size a ≤ S1024x1024.size a} {hl : rbM.view.LoadsAt (Rect.unit (s := S1024x1024) off S256x1024.size inb).toLoadRect}
    {k : ((Rect.unit (s := S1024x1024) off S256x1024.size inb).shape.Idx → Elt F .bf16) → Prog (TpuEff nD τ sig (Elt F) Λ₀ .tc) α} :
    turned I c p ⊢ iprop((turned I c p -∗ run c (k (yOn I p (slot c p))) Kt)
      -∗ run c (.op (.load rbM (Rect.unit (s := S1024x1024) off S256x1024.size inb).toLoadRect hl) k) Kt) := by
  unfold turned
  iintro ⟨Hz, Hr⟩ Hk
  ihave Hr := (Entails.of_eq (slR c p off ho inb (fun _ => rfl) _)) $$ Hr
  iapply (ldS (M := rbM) (tile_readR _ p ho _ _)) $$ Hr; iintro Hr
  iapply Hk
  isplitl [Hz]; · iexact Hz
  iapply (Entails.of_eq (slR c p off ho inb (fun _ => rfl) _).symm) $$ Hr

/-- The block that device `c` writes out. -/
def outOf (c : Dev nD) : FVec F S256x1024 .f32 :=
  k0_pay301 (word c) (k0_pay298 (yOn I c 0)) (k0_pay299 (yOn I 0 (slot c 0))) (k0_pay300 (word c)) (yOn I 1 (slot c 1)) (yOn I 2 (slot c 2)) (yOn I 3 (slot c 3))

/-- Part 36 of the program: the finished chunk of the device itself is stored, and the first turn of the last loop. -/
theorem part36 {Kt : _ → sProp (MT nD τ sig Unit (Elt F) ℕ UU ℕ)} (v1144 : FVec F S256x128 .f32) (v1147 : FVec F S256x1 .f32) (v1155 : FVec F S256x128 .f32) (v1158 : FVec F S256x1 .f32) (v1166 : FVec F S256x128 .f32) (v1169 : FVec F S256x1 .f32) (v1210 : FVec F S256x1024 .f32) :
    iprop(⌜yOn I c 0 = k0_pay297 (k0_pay91 (I.WO c)) v1144 v1147 v1155 v1158 v1166 v1169 v1210⌝
        ∗ recs I
        ∗ levAts L lv
        ∗ debt c 0
        ∗ (∃ f, atR c c f)
        ∗ cred (tallyAt (dCell c (rsq (prv c))) () N)
        ∗ cred (tallyAt (dCell c (rsq (nxt c))) () N)
        ∗ cred (tallyAt (dCell c (rsq (opp c))) () N)
        ∗ atPos ER (dCell c (rsq 0)) 0 ∅ 0
        ∗ atPos ER (dCell c (rsq 1)) 0 ∅ 0
        ∗ atPos ER (dCell c (rsq 2)) 0 ∅ 0
        ∗ atPos ER (dCell c (rsq 3)) 0 ∅ 0)
      ⊢ iprop(((debt c 0
        ∗ turned I c 0
        ∗ turn I c 1
        ∗ turn I c 2
        ∗ turn I c 3) -∗ Kt ⟨k0_pay298 (yOn I c 0), k0_pay299 (yOn I 0 (slot c 0)), k0_pay300 (F := F) (word c)⟩)
        -∗ run c (k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c (word c) (k0_pay91 (I.WO c)) v1144 v1147 v1155 v1158 v1166 v1169 v1210) Kt) := by
  simp only [k0_part36_eq_skeleton]; unfold k0_part36_skel
  simp only [Prog.lift, Prog.bind_op, Prog.bind_ret, Prog.pure_eq_ret, at0_eq, at1_eq, at2_eq, at3_eq]
  iintro ⟨%hy, #HR, #Hlev, HO, Hr, Hcp, Hcn, Hco, Ha0, Ha1, Ha2, Ha3⟩ H
  icases Hr with ⟨%fr, Hr⟩
  ihave Hr := (Entails.of_eq (slR c c (k0_off3 c) (k0_off3_eq c) (k0_off3_inb c) (fun _ => rfl) fr)) $$ Hr
  iapply (ldS (M := rbM) rfl) $$ Hr; iintro Hr
  iapply (stS (M := rbM) (g := tile (yOn I c 0)) ((tile_readR _ c (k0_off3_eq c) _ _).trans hy)) $$ Hr; iintro Hr
  iapply (ldS (M := rbM) (tile_readR _ c (k0_off3_eq c) _ _)) $$ Hr; iintro Hr
  ihave Hr := (Entails.of_eq (slR c c (k0_off3 c) (k0_off3_eq c) (k0_off3_inb c) (fun _ => rfl) _).symm) $$ Hr
  ihave Hw := (turns I (c := c)) $$ [Hr Hcp Hcn Hco Ha0 Ha1 Ha2 Ha3]
  · isplitl [Hr]; · iexact Hr
    isplitl [Hcp]; · iexact Hcp
    isplitl [Hcn]; · iexact Hcn
    isplitl [Hco]; · iexact Hco
    isplitl [Ha0]; · iexact Ha0
    isplitl [Ha1]; · iexact Ha1
    isplitl [Ha2] <;> iassumption
  icases Hw with ⟨Hw0, Hw1, Hw2, Hw3⟩
  iapply (turn_step I 0 (guard0 c) sem_at0 (srcM := rbM.slice (Rect.unit (s := S1024x1024) ![0, 0] S256x1024.size inb_S1024x1024_S256x1024_0_0) (fun _ => rfl)) (dstM := rbM.slice (Rect.unit (s := S1024x1024) ![0, 0] S256x1024.size inb_S1024x1024_S256x1024_0_0) (fun _ => rfl)) rfl) $$ [HO Hw0]
  · isplitr; · iexact HR
    isplitr; · iexact Hlev
    isplitl [HO] <;> iassumption
  iintro ⟨HO, Hw0⟩
  iapply (ldT I 0 rfl) $$ Hw0; iintro Hw0
  simp only [run, wp_ret]; imodintro
  iapply H
  isplitl [HO]; · iexact HO
  isplitl [Hw0]; · iexact Hw0
  isplitl [Hw1]; · iexact Hw1
  isplitl [Hw2]; · iexact Hw2
  iexact Hw3

/-- Part 37 of the program: the other turns of the last loop, and the sum is written out. -/
theorem part37 {Kt : _ → sProp (MT nD τ sig Unit (Elt F) ℕ UU ℕ)}  :
    iprop(recs I
        ∗ levAts L lv
        ∗ debt c 0
        ∗ turn I c 1
        ∗ turn I c 2
        ∗ turn I c 3
        ∗ (∃ f, mAt c oM fullShare f))
      ⊢ iprop(((debt c 0
        ∗ turned I c 1
        ∗ turned I c 2
        ∗ turned I c 3
        ∗ mAt c oM fullShare (outOf I c)) -∗ Kt ⟨⟩)
        -∗ run c (k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (word c) (k0_pay298 (yOn I c 0)) (k0_pay299 (yOn I 0 (slot c 0))) (k0_pay300 (word c))) Kt) := by
  simp only [k0_part37_eq_skeleton]; unfold k0_part37_skel
  simp only [Prog.lift, Prog.bind_op, Prog.bind_ret, Prog.pure_eq_ret, at0_eq, at1_eq, at2_eq, at3_eq]
  iintro ⟨#HR, #Hlev, HO, Hw1, Hw2, Hw3, Hout⟩ H
  iapply (turn_step I 1 (guard1 c) sem_at1 (srcM := rbM.slice (Rect.unit (s := S1024x1024) ![256, 0] S256x1024.size inb_S1024x1024_S256x1024_256_0) (fun _ => rfl)) (dstM := rbM.slice (Rect.unit (s := S1024x1024) ![256, 0] S256x1024.size inb_S1024x1024_S256x1024_256_0) (fun _ => rfl)) rfl) $$ [HO Hw1]
  · isplitr; · iexact HR
    isplitr; · iexact Hlev
    isplitl [HO] <;> iassumption
  iintro ⟨HO, Hw1⟩
  iapply (ldT I 1 rfl) $$ Hw1; iintro Hw1
  iapply (turn_step I 2 (guard2 c) sem_at2 (srcM := rbM.slice (Rect.unit (s := S1024x1024) ![512, 0] S256x1024.size inb_S1024x1024_S256x1024_512_0) (fun _ => rfl)) (dstM := rbM.slice (Rect.unit (s := S1024x1024) ![512, 0] S256x1024.size inb_S1024x1024_S256x1024_512_0) (fun _ => rfl)) rfl) $$ [HO Hw2]
  · isplitr; · iexact HR
    isplitr; · iexact Hlev
    isplitl [HO] <;> iassumption
  iintro ⟨HO, Hw2⟩
  iapply (ldT I 2 rfl) $$ Hw2; iintro Hw2
  iapply (turn_step I 3 (guard3 c) sem_at3 (srcM := rbM.slice (Rect.unit (s := S1024x1024) ![768, 0] S256x1024.size inb_S1024x1024_S256x1024_768_0) (fun _ => rfl)) (dstM := rbM.slice (Rect.unit (s := S1024x1024) ![768, 0] S256x1024.size inb_S1024x1024_S256x1024_768_0) (fun _ => rfl)) rfl) $$ [HO Hw3]
  · isplitr; · iexact HR
    isplitr; · iexact Hlev
    isplitl [HO] <;> iassumption
  iintro ⟨HO, Hw3⟩
  iapply (ldT I 3 rfl) $$ Hw3; iintro Hw3
  icases Hout with ⟨%fo, Hout⟩
  iapply (ldm (M := oM) rfl) $$ Hout; iintro Hout
  iapply (stm (M := oM) (g := outOf I c) (wrO _ _ _)) $$ Hout; iintro Hout
  simp only [run, wp_ret]; imodintro
  iapply H
  isplitl [HO]; · iexact HO
  isplitl [Hw1]; · iexact Hw1
  isplitl [Hw2]; · iexact Hw2
  isplitl [Hw3]; · iexact Hw3
  iexact Hout

end Finish

end Cert.KernelIdeal.Ring

end
-- ==== Proof.KI.Chain.lean ====
/-
The body of the program: its parts one after another.
-/
module

public import proofs.«01_k».proof.Proof.KI.LoadsA
public import proofs.«01_k».proof.Proof.KI.LoadsB
public import proofs.«01_k».proof.Proof.KI.Mixed
public import proofs.«01_k».proof.Proof.KI.Finish

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-- To run one piece of program and then another, run the first and from its end the second. -/
theorem seq_step {α β : Type} {c : Dev nD} {p : Prog (TpuEff nD τ sig (Elt F) Λ₀ .tc) α} {k : α → Prog (TpuEff nD τ sig (Elt F) Λ₀ .tc) β}
    {Q : β → sProp (MT nD τ sig Unit (Elt F) ℕ UU ℕ)} : run c p (fun a => run c (k a) Q) ⊢ run c (p >>= k) Q :=
  Entails.of_eq (wp_bind _ _ _ p k Q).symm

/-- The three projected buffers, one by one. -/
theorem qkv_eq (c : Dev nD) (m n : ℕ) (Q K V : FVec F S1024x1024 .bf16) : qkv c m n Q K V = iprop(held c qM m Q ∗ held c kM n K ∗ held c vM n V) := rfl

section Chain
variable (I : Ins F) (c : Dev nD)

/-- What device `c` holds for the handshake, and what it owes. -/
def handOf : sProp (MT nD τ sig Unit (Elt F) ℕ UU ℕ) :=
  iprop(debt c (O0 c)
    ∗ dutyTok ER (barCell (prv c)) 0 true
    ∗ dutyTok ER (barCell (nxt c)) 0 false
    ∗ cred (tallyAt (barCell c) () 2)
    ∗ atPos ER (barCell c) 0 ∅ 0
    ∗ barNxt (prv c)
    ∗ barPrv (nxt c))

/-- The duties that device `c` has taken on for the copies it starts. -/
def toksOf : sProp (MT nD τ sig Unit (Elt F) ℕ UU ℕ) :=
  iprop(dutyTok ER (dCell c 6) 0 false
    ∗ dutyTok ER (dCell (nxt c) 9) 0 false
    ∗ dutyTok ER (dCell c 7) 0 false
    ∗ dutyTok ER (dCell (prv c) 10) 0 false
    ∗ dutyTok ER (dCell c 8) 0 false
    ∗ dutyTok ER (dCell (prv c) 11) 0 false
    ∗ dutyTok ER (dCell c 12) 0 false
    ∗ dutyTok ER (dCell (prv c) (rsq c)) 0 false
    ∗ dutyTok ER (dCell c 13) 0 false
    ∗ dutyTok ER (dCell (nxt c) (rsq c)) 0 false
    ∗ dutyTok ER (dCell c 14) 0 false
    ∗ dutyTok ER (dCell (opp c) (rsq c)) 0 false)

/-- The credits with which it waits for the copies of the others. -/
def credsOf : sProp (MT nD τ sig Unit (Elt F) ℕ UU ℕ) :=
  iprop(cred (tallyAt (dCell c 9) () N)
    ∗ cred (tallyAt (dCell c 10) () N)
    ∗ cred (tallyAt (dCell c 11) () N)
    ∗ cred (tallyAt (dCell c (rsq (prv c))) () N)
    ∗ cred (tallyAt (dCell c (rsq (nxt c))) () N)
    ∗ cred (tallyAt (dCell c (rsq (opp c))) () N))

/-- The positions of its cells. -/
def posOf : sProp (MT nD τ sig Unit (Elt F) ℕ UU ℕ) :=
  iprop(atPos ER (dCell c 6) 0 ∅ 0
    ∗ atPos ER (dCell c 7) 0 ∅ 0
    ∗ atPos ER (dCell c 8) 0 ∅ 0
    ∗ atPos ER (dCell c 9) 0 ∅ 0
    ∗ atPos ER (dCell c 10) 0 ∅ 0
    ∗ atPos ER (dCell c 11) 0 ∅ 0
    ∗ atPos ER (dCell c 12) 0 ∅ 0
    ∗ atPos ER (dCell c 13) 0 ∅ 0
    ∗ atPos ER (dCell c 14) 0 ∅ 0
    ∗ atPos ER (dCell c (rsq 0)) 0 ∅ 0
    ∗ atPos ER (dCell c (rsq 1)) 0 ∅ 0
    ∗ atPos ER (dCell c (rsq 2)) 0 ∅ 0
    ∗ atPos ER (dCell c (rsq 3)) 0 ∅ 0)

/-- Its arrays. -/
def insOf : sProp (MT nD τ sig Unit (Elt F) ℕ UU ℕ) :=
  iprop(mAt c xM fullShare (I.X c)
    ∗ mAt c wqM fullShare (I.WQ c)
    ∗ mAt c wkM fullShare (I.WK c)
    ∗ mAt c wvM fullShare (I.WV c)
    ∗ mAt c woM fullShare (I.WO c))

/-- Its own buffers. -/
def scrOf : sProp (MT nD τ sig Unit (Elt F) ℕ UU ℕ) :=
  iprop((∃ f, at0 c fullShare f)
    ∗ held c qM 0 (qOn I c)
    ∗ held c kM 0 (kOn I c)
    ∗ held c vM 0 (vOn I c)
    ∗ (∃ f, atY c 1 f)
    ∗ (∃ f, atY c 2 f)
    ∗ (∃ f, atY c 3 f)
    ∗ (∃ f, atR c c f)
    ∗ (∃ f, mAt c oM fullShare f))

/-- The cells that are closed when the output is written. -/
def closedOf : sProp (MT nD τ sig Unit (Elt F) ℕ UU ℕ) :=
  iprop(semVal (barCell c) 0
    ∗ semVal (dCell c 6) 0
    ∗ semVal (dCell c 7) 0
    ∗ semVal (dCell c 8) 0
    ∗ semVal (dCell c 9) 0
    ∗ semVal (dCell c 10) 0
    ∗ semVal (dCell c 11) 0
    ∗ turned I c 0
    ∗ turned I c 1
    ∗ turned I c 2
    ∗ turned I c 3)

/-- The buffers of device `c` then. -/
def bufsOf : sProp (MT nD τ sig Unit (Elt F) ℕ UU ℕ) :=
  iprop(at0 c fullShare (xc I c)
    ∗ at1 c (xc I (prv c))
    ∗ at2 c fullShare (xc I (nxt c))
    ∗ at3 c (xc I (opp c))
    ∗ held c qM 4 (qOn I c)
    ∗ held c kM 4 (kOn I c)
    ∗ held c vM 4 (vOn I c)
    ∗ mAt c oM fullShare (outOf I c))

/-- The copies of finished chunks still to be waited for at their source. -/
def sentOf : sProp (MT nD τ sig Unit (Elt F) ℕ UU ℕ) :=
  iprop(cred (tallyAt (dCell c 12) () N)
    ∗ cred (tallyAt (dCell c 13) () N)
    ∗ cred (tallyAt (dCell c 14) () N)
    ∗ atPos ER (dCell c 12) 0 ∅ 0
    ∗ atPos ER (dCell c 13) 0 ∅ 0
    ∗ atPos ER (dCell c 14) 0 ∅ 0)

/-- The first send semaphore of the all-gather gives back the share of the device's chunk that was lent to the copy onward. -/
theorem pay6 : dmaPay I c (6 : DmaSem sig).val = mAt c x0M fullShare.left (xc I c) := rfl
/-- The second gives back the share that was lent to the copy backward. -/
theorem pay7 : dmaPay I c (7 : DmaSem sig).val = mAt c x0M fullShare.right.left (xc I c) := rfl
/-- The third gives back the share of the received chunk that was lent to the relay. -/
theorem pay8 : dmaPay I c (8 : DmaSem sig).val = mAt c x2M fullShare.left (xc I (nxt c)) := rfl

set_option maxHeartbeats 1000000 in
/-- The body of the program up to the output: the parts one after another. -/
theorem part38 {Kt : _ → sProp (MT nD τ sig Unit (Elt F) ℕ UU ℕ)} :
    iprop(recs I ∗ levAts L lv ∗ handOf c ∗ toksOf c ∗ credsOf c ∗ posOf c ∗ insOf I c ∗ scrOf I c)
      ⊢ iprop(((debt c 0 ∗ closedOf I c ∗ insOf I c ∗ bufsOf I c ∗ sentOf c) -∗ Kt c)
        -∗ run c (k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Kt) := by
  simp only [k0_part38_eq_skeleton]; unfold k0_part38_skel handOf toksOf credsOf posOf insOf scrOf closedOf bufsOf sentOf
  iintro ⟨#HR, #Hlev, ⟨HO, Hbt, Hbf, Hcb, Hab, Hg1, Hg2⟩, ⟨Ht6, Ht9, Ht7, Ht10, Ht8, Ht11, Ht12, Htrp, Ht13, Htrn, Ht14, Htro⟩, ⟨Hc9, Hc10, Hc11, Hcp, Hcn, Hco⟩, ⟨Ha6, Ha7, Ha8, Ha9, Ha10, Ha11, Ha12, Ha13, Ha14, Ha0, Ha1, Ha2, Ha3⟩, ⟨Hx, Hwq, Hwk, Hwv, Hwo⟩, ⟨Hx0, Hq, Hk, Hv, Hy1, Hy2, Hy3, Hrc, Hout⟩⟩ H
  iapply seq_step
  iapply (part1 I) $$ [HO Hbt Hbf Hcb Hab Hg1 Hg2]
  · isplitr; · iexact HR
    isplitr; · iexact Hlev
    isplitl [HO]; · iexact HO
    isplitl [Hbt]; · iexact Hbt
    isplitl [Hbf]; · iexact Hbf
    isplitl [Hcb]; · iexact Hcb
    isplitl [Hab]; · iexact Hab
    isplitl [Hg1]; · iexact Hg1
    iexact Hg2
  unfold barPrv barNxt
  iintro %v %w ⟨HO, Hzb, ⟨Hx2g, Hx3g, Hrp⟩, Hx1g, Hrn, Hrl⟩
  iapply seq_step
  iapply (part2 I _ _) $$ [HO Ht6 Ht9 Ht7 Ht10 Hx Hx0 Hx1g Hx2g Hwq Hwk Hwv Hq]
  · isplitr; · iexact HR
    isplitl [HO]; · iexact HO
    isplitl [Ht6]; · iexact Ht6
    isplitl [Ht9]; · iexact Ht9
    isplitl [Ht7]; · iexact Ht7
    isplitl [Ht10]; · iexact Ht10
    isplitl [Hx]; · iexact Hx
    isplitl [Hx0]; · iexact Hx0
    isplitl [Hx1g]; · iexact Hx1g
    isplitl [Hx2g]; · iexact Hx2g
    isplitl [Hwq]; · iexact Hwq
    isplitl [Hwk]; · iexact Hwk
    isplitl [Hwv]; · iexact Hwv
    iexact Hq
  iintro ⟨HO, Hc6, Hc7, Hx, Hx0, Hwq, Hwk, Hwv, Hq⟩
  iapply seq_step
  iapply (part3 I) $$ [Hq Hk Hv]
  · isplitl [Hq]; · iexact Hq
    isplitl [Hk]; · iexact Hk
    iexact Hv
  iintro ⟨Hq, Hk, Hv⟩
  iapply seq_step
  iapply (part4 _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part5 I _ _) $$ [HO Hc9 Ha9 Hq Hk Hv]
  · isplitr; · iexact HR
    isplitr; · iexact Hlev
    isplitl [HO]; · iexact HO
    isplitl [Hc9]; · iexact Hc9
    isplitl [Ha9]; · iexact Ha9
    isplitl [Hq]; · iexact Hq
    isplitl [Hk]; · iexact Hk
    iexact Hv
  iintro ⟨HO, Hz9, Hx1, Hq, Hk, Hv⟩
  iapply seq_step
  iapply (part6 I _ _) $$ [Hx1 Hq Hk Hv]
  · isplitl [Hx1]; · iexact Hx1
    isplitl [Hq]; · iexact Hq
    isplitl [Hk]; · iexact Hk
    iexact Hv
  iintro ⟨Hx1, Hq, Hk, Hv⟩
  iapply seq_step
  iapply (part7 _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part8 _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part9 _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part10 _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part11 I _ _) $$ [HO Hc10 Ha10 Ht8 Ht11 Hx3g Hrl Hwo Hq Hk Hv]
  · isplitr; · iexact HR
    isplitr; · iexact Hlev
    isplitl [HO]; · iexact HO
    isplitl [Hc10]; · iexact Hc10
    isplitl [Ha10]; · iexact Ha10
    isplitl [Ht8]; · iexact Ht8
    isplitl [Ht11]; · iexact Ht11
    isplitl [Hx3g]; · iexact Hx3g
    isplitl [Hrl]; · iexact Hrl
    isplitl [Hwo]; · iexact Hwo
    isplitl [Hq]; · iexact Hq
    isplitl [Hk]; · iexact Hk
    iexact Hv
  iintro ⟨HO, Hz10, Hc8, Hx2, Hwo, Hq, Hk, Hv⟩
  iapply seq_step
  iapply (part12 I _ _ _ _) $$ [Hx2 Hq Hk Hv]
  · isplitl [Hx2]; · iexact Hx2
    isplitl [Hq]; · iexact Hq
    isplitl [Hk]; · iexact Hk
    iexact Hv
  iintro ⟨Hx2, Hq, Hk, Hv⟩
  iapply seq_step
  iapply (part13 _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part14 _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part15 _ _ _ _ _ _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part16) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part17 _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part18 I _ _ _) $$ [HO Hc11 Ha11 Hq Hk Hv]
  · isplitr; · iexact HR
    isplitr; · iexact Hlev
    isplitl [HO]; · iexact HO
    isplitl [Hc11]; · iexact Hc11
    isplitl [Ha11]; · iexact Ha11
    isplitl [Hq]; · iexact Hq
    isplitl [Hk]; · iexact Hk
    iexact Hv
  iintro %v580
  iintro ⟨HO, Hz11, Hx3, Hro, Hq, Hk, Hv⟩
  iapply seq_step
  iapply (part19 I _ _ _ _) $$ [Hq Hk Hv]
  · isplitl [Hq]; · iexact Hq
    isplitl [Hk]; · iexact Hk
    iexact Hv
  iintro ⟨Hq, Hk, Hv⟩
  iapply seq_step
  iapply (part20 _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part21 _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part22 _ _ _ _ _ _ _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part23 I _ _ _ _ _ _ _ _ _) $$ [HO Ht12 Htrp Hrp Hy1 Hq Hk Hv]
  · isplitr; · ipureintro; simp only [k0_pay212, shapeCast_self]; rfl
    isplitr; · iexact HR
    isplitl [HO]; · iexact HO
    isplitl [Ht12]; · iexact Ht12
    isplitl [Htrp]; · iexact Htrp
    isplitl [Hrp]; · iexact Hrp
    isplitl [Hy1]; · iexact Hy1
    isplitl [Hq]; · iexact Hq
    isplitl [Hk]; · iexact Hk
    iexact Hv
  iintro ⟨HO, Hc12, Hq, Hk, Hv⟩
  iapply seq_step
  iapply (part24 _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part25 _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part26 _ _ _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part27 I _ _ _ _ _ _ _ _ _ _ _ _) $$ [Hy2]
  · isplitr; · ipureintro; simp only [k0_pay238, shapeCast_self]; rfl
    iexact Hy2
  iintro Hy2
  iapply seq_step
  iapply (part28 I) $$ [HO Ht13 Htrn Hrn Hy2 Hx3 Hq Hk Hv]
  · isplitr; · iexact HR
    isplitl [HO]; · iexact HO
    isplitl [Ht13]; · iexact Ht13
    isplitl [Htrn]; · iexact Htrn
    isplitl [Hrn]; · iexact Hrn
    isplitl [Hy2]; · iexact Hy2
    isplitl [Hx3]; · iexact Hx3
    isplitl [Hq]; · iexact Hq
    isplitl [Hk]; · iexact Hk
    iexact Hv
  iintro ⟨HO, Hc13, Hx3, Hq, Hk, Hv⟩
  iapply seq_step
  iapply (part29 _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part30 _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part31 _ _ _ _ _ _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part32 I _ _ _ _ _ _) $$ [HO Ht14 Htro Hro Hy3 Hq Hk Hv]
  · isplitr; · ipureintro; simp only [k0_pay268, shapeCast_self]; rfl
    isplitr; · iexact HR
    isplitl [HO]; · iexact HO
    isplitl [Ht14]; · iexact Ht14
    isplitl [Htro]; · iexact Htro
    isplitl [Hro]; · iexact Hro
    isplitl [Hy3]; · iexact Hy3
    isplitl [Hq]; · iexact Hq
    isplitl [Hk]; · iexact Hk
    iexact Hv
  iintro ⟨HO, Hc14, Hq, Hk, Hv⟩
  iapply seq_step
  iapply (part33 _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part34 _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part35 _ _ _ _ _ _ _ _ _ _ _ _ _ _ _) $$ [Hq Hk Hv]
  · unfold qkv
    isplitl [Hq]; · iexact Hq
    isplitl [Hk] <;> iassumption
  iintro Hqkv
  ihave H3 := (Entails.of_eq (qkv_eq _ _ _ _ _ _)) $$ Hqkv
  icases H3 with ⟨Hq, Hk, Hv⟩
  iapply seq_step
  iapply (part36 I _ _ _ _ _ _ _) $$ [HO Hrc Hcp Hcn Hco Ha0 Ha1 Ha2 Ha3]
  · isplitr; · ipureintro; simp only [k0_pay297, shapeCast_self]; rfl
    isplitr; · iexact HR
    isplitr; · iexact Hlev
    isplitl [HO]; · iexact HO
    isplitl [Hrc]; · iexact Hrc
    isplitl [Hcp]; · iexact Hcp
    isplitl [Hcn]; · iexact Hcn
    isplitl [Hco]; · iexact Hco
    isplitl [Ha0]; · iexact Ha0
    isplitl [Ha1]; · iexact Ha1
    isplitl [Ha2]; · iexact Ha2
    iexact Ha3
  iintro ⟨HO, Hw0, Hw1, Hw2, Hw3⟩
  iapply seq_step
  iapply (part37 I) $$ [HO Hw1 Hw2 Hw3 Hout]
  · isplitr; · iexact HR
    isplitr; · iexact Hlev
    isplitl [HO]; · iexact HO
    isplitl [Hw1]; · iexact Hw1
    isplitl [Hw2]; · iexact Hw2
    isplitl [Hw3]; · iexact Hw3
    iexact Hout
  iintro ⟨HO, Hw1, Hw2, Hw3, Hout⟩
  simp only [Prog.lift, Prog.bind_op, Prog.bind_ret, Prog.pure_eq_ret]
  iapply (wait_dma_step I 6 rfl (by decide) (ne_rsq _ _ (by decide)) (above_zero _) (srcM := x1M) (dstM := x0M) rfl) $$ [HO Hc6 Ha6]
  · isplitr; · iexact HR
    isplitl [Hc6]; · iexact Hc6
    isplitl [HO]; · iexact HO
    isplitr; · iexact Hlev
    iexact Ha6
  iintro ⟨HO, Hz6, Hp6⟩
  iapply (wait_dma_step I 7 rfl (by decide) (ne_rsq _ _ (by decide)) (above_zero _) (srcM := x2M) (dstM := x0M) rfl) $$ [HO Hc7 Ha7]
  · isplitr; · iexact HR
    isplitl [Hc7]; · iexact Hc7
    isplitl [HO]; · iexact HO
    isplitr; · iexact Hlev
    iexact Ha7
  iintro ⟨HO, Hz7, Hp7⟩
  iapply (wait_dma_step I 8 rfl (by decide) (ne_rsq _ _ (by decide)) (above_zero _) (srcM := x3M) (dstM := x2M) rfl) $$ [HO Hc8 Ha8]
  · isplitr; · iexact HR
    isplitl [Hc8]; · iexact Hc8
    isplitl [HO]; · iexact HO
    isplitr; · iexact Hlev
    iexact Ha8
  iintro ⟨HO, Hz8, Hp8⟩
  simp only [run, wp_ret]; imodintro
  ihave Hp6 := (Entails.of_eq (pay6 I c)) $$ Hp6
  ihave Hp7 := (Entails.of_eq (pay7 I c)) $$ Hp7
  ihave Hp8 := (Entails.of_eq (pay8 I c)) $$ Hp8
  ihave Hx0 := (mAt_halves c x0M fullShare.right _).2 $$ [Hp7 Hx0]
  · isplitl [Hp7]; · iexact Hp7
    iapply (Entails.of_eq (at0_eq _ _ _)) $$ Hx0
  ihave Hx0 := (mAt_halves c x0M fullShare _).2 $$ [Hp6 Hx0]
  · isplitl [Hp6]; · iexact Hp6
    iexact Hx0
  ihave Hx2 := (mAt_halves c x2M fullShare _).2 $$ [Hp8 Hx2]
  · isplitl [Hp8]; · iexact Hp8
    iapply (Entails.of_eq (at2_eq _ _ _)) $$ Hx2
  ihave Hx0 := (Entails.of_eq (at0_eq c fullShare _).symm) $$ Hx0
  ihave Hx2 := (Entails.of_eq (at2_eq c fullShare _).symm) $$ Hx2
  iapply H
  isplitl [HO]; · iexact HO
  isplitl [Hzb Hz6 Hz7 Hz8 Hz9 Hz10 Hz11 Hw0 Hw1 Hw2 Hw3]
  · isplitl [Hzb]; · iexact Hzb
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hw0]; · iexact Hw0
    isplitl [Hw1]; · iexact Hw1
    isplitl [Hw2]; · iexact Hw2
    iexact Hw3
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hx0 Hx1 Hx2 Hx3 Hq Hk Hv Hout]
  · isplitl [Hx0]; · iexact Hx0
    isplitl [Hx1]; · iexact Hx1
    isplitl [Hx2]; · iexact Hx2
    isplitl [Hx3]; · iexact Hx3
    isplitl [Hq]; · iexact Hq
    isplitl [Hk]; · iexact Hk
    isplitl [Hv]; · iexact Hv
    iexact Hout
  isplitl [Hc12]; · iexact Hc12
  isplitl [Hc13]; · iexact Hc13
  isplitl [Hc14]; · iexact Hc14
  isplitl [Ha12]; · iexact Ha12
  isplitl [Ha13]; · iexact Ha13
  iexact Ha14

end Chain

end Cert.KernelIdeal.Ring

end
-- ==== Proof.KI.Body.lean ====
/-
The whole body of the program on a device: its buffers cut in slabs, the parts, the last waits, the buffers joined.
-/
module

public import proofs.«01_k».proof.Proof.KI.Chain

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]
/-! ## Whole buffers and their slabs -/

omit [FloatOps F] [Named F] in
/-- Holding a whole buffer by its view is holding the buffer. -/
theorem mAt_whole (c : Dev nD) (b : Ref sig .tc) (f : Buf (Elt F) ((c : Thread nD τ).loc b)) :
    ((c : Thread nD τ).loc b ↦[(View.whole b).set]{fullShare} f : sProp (MT nD τ sig Unit (Elt F) ℕ UU ℕ)) = ((c : Thread nD τ).loc b ↦{fullShare} f) := by
  rw [View.set_whole]

omit [FloatOps F] [Named F] in
/-- The elements of slab `p` of the result buffer are those of its rectangle. -/
theorem rbl_set (p : Dev nD) : (rbl p).view.set = (Rect.unit (s := S1024x1024) (k0_off2 p) S256x1024.size (k0_off2_inb p)).set := View.set_slice_whole _ _
omit [FloatOps F] [Named F] in
/-- The elements of slab `u` of the buffer of finished chunks are those of its rectangle. -/
theorem ysl_set (u : Fin 4) : (ysl u).view.set = (Rect.unit (s := S1024x1024) ![256 * u.val, 0] S256x1024.size (by revert u; decide)).set := View.set_slice_whole _ _

omit [FloatOps F] [Named F] in
/-- An element lies in the rectangle of rows at `256 * p` exactly when its row number divided by 256 is `p`. -/
theorem mem_rows (p : Fin 4) (off : Fin 2 → ℕ) (inb) (ho : off = ![256 * p.val, 0]) (i : S1024x1024.Idx) :
    Iff (i ∈ (Rect.unit (s := S1024x1024) off S256x1024.size inb).set) ((i 0).val / 256 = p.val) := by
  subst ho
  rw [Rect.mem_set_unit]
  have h0 : (i 0).val < 1024 := (i 0).isLt
  have h1 : (i 1).val < 1024 := (i 1).isLt
  constructor
  · intro h
    have := h 0
    simp at this
    omega
  · intro h a
    fin_cases a
    · simp; omega
    · simp; exact h1

omit [FloatOps F] [Named F] in
/-- Different slabs of the result buffer share no element. -/
theorem rbl_disj (p q : Dev nD) (h : p ≠ q) : Disjoint (rbl p).view.set (rbl q).view.set := by
  rw [rbl_set, rbl_set]
  refine Finset.disjoint_left.mpr fun i hi hj => h (Fin.ext ?_)
  exact ((mem_rows p _ _ (k0_off2_eq p) i).mp hi).symm.trans ((mem_rows q _ _ (k0_off2_eq q) i).mp hj)

omit [FloatOps F] [Named F] in
/-- The four slabs of the result buffer make up all of it. -/
theorem rbl_cover : (Finset.univ.biUnion (fun p : Dev nD => (rbl p).view.set) : Finset S1024x1024.Idx) = Finset.univ := by
  refine Finset.eq_univ_of_forall fun (i : S1024x1024.Idx) => ?_
  have h0 : (i 0).val < 1024 := (i 0).isLt
  refine Finset.mem_biUnion.mpr ⟨(⟨(i 0).val / 256, by show _ < 4; omega⟩ : Dev nD), Finset.mem_univ _, ?_⟩
  rw [rbl_set]
  exact (mem_rows _ _ _ (k0_off2_eq _) i).mpr rfl

omit [FloatOps F] [Named F] in
/-- Different slabs of the buffer of finished chunks share no element. -/
theorem ysl_disj (p q : Fin 4) (h : p ≠ q) : Disjoint (ysl p).view.set (ysl q).view.set := by
  rw [ysl_set, ysl_set]
  refine Finset.disjoint_left.mpr fun i hi hj => h (Fin.ext ?_)
  exact ((mem_rows p _ _ rfl i).mp hi).symm.trans ((mem_rows q _ _ rfl i).mp hj)

omit [FloatOps F] [Named F] in
/-- The four slabs of the buffer of finished chunks make up all of it. -/
theorem ysl_cover : (Finset.univ.biUnion (fun u : Fin 4 => (ysl u).view.set) : Finset S1024x1024.Idx) = Finset.univ := by
  refine Finset.eq_univ_of_forall fun (i : S1024x1024.Idx) => ?_
  have h0 : (i 0).val < 1024 := (i 0).isLt
  refine Finset.mem_biUnion.mpr ⟨(⟨(i 0).val / 256, by omega⟩ : Fin 4), Finset.mem_univ _, ?_⟩
  rw [ysl_set]
  exact (mem_rows _ _ _ rfl i).mpr rfl

omit [FloatOps F] [Named F] in
/-- The four devices, seen from device `c`. -/
theorem ring_univ (c : Dev nD) (Φ : Dev nD → sProp (MT nD τ sig Unit (Elt F) ℕ UU ℕ)) :
    bigSep Finset.univ Φ = iprop(Φ c ∗ Φ (prv c) ∗ Φ (nxt c) ∗ Φ (opp c)) :=
  bigSep_univ_eq_bigSepL [c, prv c, nxt c, opp c] (by revert c; decide) (by revert c; decide) Φ
omit [FloatOps F] [Named F] in
/-- Four in order. -/
theorem four_univ (Φ : Fin 4 → sProp (MT nD τ sig Unit (Elt F) ℕ UU ℕ)) :
    bigSep Finset.univ Φ = iprop(Φ 0 ∗ Φ 1 ∗ Φ 2 ∗ Φ 3) :=
  bigSep_univ_eq_bigSepL [0, 1, 2, 3] (by decide) (by decide) Φ

/-- A scratch buffer of device `c`, whole, at contents not named. -/
abbrev someOf (c : Dev nD) (b : Ref sig .tc) : sProp (MT nD τ sig Unit (Elt F) ℕ UU ℕ) :=
  iprop(∃ f : Buf (Elt F) ((c : Thread nD τ).loc b), ((c : Thread nD τ).loc b) ↦{fullShare} f)

omit [FloatOps F] [Named F] in
/-- The result buffer held whole is its four slabs; -/
theorem rb_split (c : Dev nD) :
    someOf (F := F) c cc0_scratch8 ⊢ iprop((∃ f, atR c c f) ∗ (∃ f, atR c (prv c) f) ∗ (∃ f, atR c (nxt c) f) ∗ (∃ f, atR c (opp c) f)) := by
  iintro ⟨%f, H⟩
  ihave H := (Entails.of_eq ((Idealize.ShloMosaic.Ring.pointsTo_blocks (ℓ := (c : Thread nD τ).loc cc0_scratch8) (fun p : Dev nD => (rbl p).view.set) rbl_disj rbl_cover f).trans (ring_univ c _))) $$ H
  icases H with ⟨H0, H1, H2, H3⟩
  isplitl [H0]; · iexists f; unfold atR; iexact H0
  isplitl [H1]; · iexists f; unfold atR; iexact H1
  isplitl [H2]; · iexists f; unfold atR; iexact H2
  iexists f; unfold atR; iexact H3
omit [FloatOps F] [Named F] in
/-- and the four slabs are the buffer. -/
theorem rb_join (c : Dev nD) (y : Dev nD → Buf (Elt F) ((c : Thread nD τ).loc cc0_scratch8)) :
    iprop(atR c 0 (y 0) ∗ atR c 1 (y 1) ∗ atR c 2 (y 2) ∗ atR c 3 (y 3)) ⊢ someOf (F := F) c cc0_scratch8 := by
  refine BIBase.Entails.trans ?_ (Idealize.ShloMosaic.Ring.pointsTo_blocks_join (ℓ := (c : Thread nD τ).loc cc0_scratch8) (fun p : Dev nD => (rbl p).view.set) rbl_disj rbl_cover y (y 0))
  exact Entails.of_eq (four_univ (F := F) (fun p => atR c p (y p))).symm

omit [FloatOps F] [Named F] in
/-- The buffer of finished chunks likewise; -/
theorem ys_split (c : Dev nD) :
    someOf (F := F) c cc0_scratch7 ⊢ iprop((∃ f, atY c 0 f) ∗ (∃ f, atY c 1 f) ∗ (∃ f, atY c 2 f) ∗ (∃ f, atY c 3 f)) := by
  iintro ⟨%f, H⟩
  ihave H := (Entails.of_eq ((Idealize.ShloMosaic.Ring.pointsTo_blocks (ℓ := (c : Thread nD τ).loc cc0_scratch7) (fun u : Fin 4 => (ysl u).view.set) ysl_disj ysl_cover f).trans (four_univ _))) $$ H
  icases H with ⟨H0, H1, H2, H3⟩
  isplitl [H0]; · iexists f; unfold atY; iexact H0
  isplitl [H1]; · iexists f; unfold atY; iexact H1
  isplitl [H2]; · iexists f; unfold atY; iexact H2
  iexists f; unfold atY; iexact H3
omit [FloatOps F] [Named F] in
/-- and back. -/
theorem ys_join (c : Dev nD) (y0 y1 y2 y3 : Buf (Elt F) ((c : Thread nD τ).loc cc0_scratch7)) :
    iprop(atY c 0 y0 ∗ atY c 1 y1 ∗ atY c 2 y2 ∗ atY c 3 y3) ⊢ someOf (F := F) c cc0_scratch7 := by
  refine BIBase.Entails.trans ?_ (Idealize.ShloMosaic.Ring.pointsTo_blocks_join (ℓ := (c : Thread nD τ).loc cc0_scratch7) (fun u : Fin 4 => (ysl u).view.set) ysl_disj ysl_cover
    (fun u => match u with | 0 => y0 | 1 => y1 | 2 => y2 | 3 => y3) y0)
  exact Entails.of_eq (four_univ (F := F) (fun u => atY c u (match u with | 0 => y0 | 1 => y1 | 2 => y2 | 3 => y3))).symm

/-! ## What the body starts from and ends with -/

section Body
variable (I : Ins F) (c : Dev nD)

/-- What device `c` holds of the protocol for itself: the duties it has taken on and the positions of its cells. -/
def linear : sProp (MT nD τ sig Unit (Elt F) ℕ UU ℕ) :=
  iprop(dutyTok ER (barCell (prv c)) 0 true ∗ dutyTok ER (barCell (nxt c)) 0 false ∗ toksOf c ∗ atPos ER (barCell c) 0 ∅ 0 ∗ posOf c)

/-- What its body starts from. -/
def start : sProp (MT nD τ sig Unit (Elt F) ℕ UU ℕ) :=
  iprop((recs I ∗ linear c) ∗ (cred (tallyAt (barCell c) () 2) ∗ credsOf c) ∗ levAts L lv)

/-- Its scratch buffers, at contents not named. -/
abbrev rest : sProp (MT nD τ sig Unit (Elt F) ℕ UU ℕ) := Pipeline.scopedRest (Ix := Unit) (Name := ℕ) (U := UU) (Lvl := ℕ) (Val := Elt F) spec0 c

/-- Its semaphores at zero. -/
abbrev own0 : sProp (MT nD τ sig Unit (Elt F) ℕ UU ℕ) := Pipeline.ownSems0 (Ix := Unit) (Name := ℕ) (U := UU) (Lvl := ℕ) (Val := Elt F) (τ := τ) osem c

omit [FloatOps F] [Named F] in
/-- A device's own semaphores at zero, one by one. -/
theorem own0_eq : own0 (F := F) c = iprop(semVal (dCell c 6) 0 ∗ semVal (dCell c 7) 0 ∗ semVal (dCell c 8) 0 ∗ semVal (dCell c 9) 0 ∗ semVal (dCell c 10) 0
    ∗ semVal (dCell c 11) 0 ∗ semVal (dCell c 12) 0 ∗ semVal (dCell c 13) 0 ∗ semVal (dCell c 14) 0
    ∗ semVal (dCell c (rsq 0)) 0 ∗ semVal (dCell c (rsq 1)) 0 ∗ semVal (dCell c (rsq 2)) 0 ∗ semVal (dCell c (rsq 3)) 0) := by
  unfold own0
  rw [Pipeline.ownSems0_eq_of_list c osem [0, 1, 2, 3, 4, 5, 6, 7, 8, 9, 10, 11, 12] (by decide) (by decide)]; rfl

/-- What it ends with. -/
def Φ₁ : sProp (MT nD τ sig Unit (Elt F) ℕ UU ℕ) := iprop(semVal (barCell c) 0 ∗ own0 c ∗ rest c)

/-- The first send semaphore of the reduce-scatter gives back the slab of chunk 1. -/
theorem pay12 : dmaPay I c (12 : DmaSem sig).val = atY c 1 (tile (yOn I c 1)) := rfl
/-- The second gives back the slab of chunk 2. -/
theorem pay13 : dmaPay I c (13 : DmaSem sig).val = atY c 2 (tile (yOn I c 2)) := rfl
/-- The third gives back the slab of chunk 3. -/
theorem pay14 : dmaPay I c (14 : DmaSem sig).val = atY c 3 (tile (yOn I c 3)) := rfl

omit [FloatOps F] [Named F] in
/-- The query buffer at any contents holds no finished chunk yet. -/
theorem held_q (Q) : someOf (F := F) c cc0_scratch4 ⊢ held c qM 0 Q := by
  unfold held
  iintro ⟨%f, H⟩
  iexists f
  isplitr; · ipureintro; exact fun i h => absurd h (by omega)
  iapply (Entails.of_eq (mAt_whole c cc0_scratch4 f).symm); iexact H
omit [FloatOps F] [Named F] in
/-- So does the key buffer. -/
theorem held_k (Q) : someOf (F := F) c cc0_scratch5 ⊢ held c kM 0 Q := by
  unfold held
  iintro ⟨%f, H⟩
  iexists f
  isplitr; · ipureintro; exact fun i h => absurd h (by omega)
  iapply (Entails.of_eq (mAt_whole c cc0_scratch5 f).symm); iexact H
omit [FloatOps F] [Named F] in
/-- So does the value buffer. -/
theorem held_v (Q) : someOf (F := F) c cc0_scratch6 ⊢ held c vM 0 Q := by
  unfold held
  iintro ⟨%f, H⟩
  iexists f
  isplitr; · ipureintro; exact fun i h => absurd h (by omega)
  iapply (Entails.of_eq (mAt_whole c cc0_scratch6 f).symm); iexact H
omit [FloatOps F] [Named F] in
/-- The query buffer, however much of it is filled, has some contents. -/
theorem some_q (n Q) : held c qM n Q ⊢ someOf (F := F) c cc0_scratch4 := by
  unfold held
  iintro ⟨%f, -, H⟩
  iexists f
  iapply (Entails.of_eq (mAt_whole c cc0_scratch4 f)); iexact H
omit [FloatOps F] [Named F] in
/-- So has the key buffer. -/
theorem some_k (n Q) : held c kM n Q ⊢ someOf (F := F) c cc0_scratch5 := by
  unfold held
  iintro ⟨%f, -, H⟩
  iexists f
  iapply (Entails.of_eq (mAt_whole c cc0_scratch5 f)); iexact H
omit [FloatOps F] [Named F] in
/-- So has the value buffer. -/
theorem some_v (n Q) : held c vM n Q ⊢ someOf (F := F) c cc0_scratch6 := by
  unfold held
  iintro ⟨%f, -, H⟩
  iexists f
  iapply (Entails.of_eq (mAt_whole c cc0_scratch6 f)); iexact H

set_option maxHeartbeats 1000000 in
/-- The body on device `c`: from its arrays and scratch buffers to the result `outOf I c`, every copy waited for and
    every cell closed. -/
theorem sound_body {Kt : PUnit → sProp (MT nD τ sig Unit (Elt F) ℕ UU ℕ)} :
    iprop(start I c ∗ rest c ∗ debt c (O0 c) ∗ insOf I c ∗ (∃ f, mAt c oM fullShare f))
      ⊢ iprop(((Φ₁ c ∗ debt c 0 ∗ insOf I c ∗ mAt c oM fullShare (outOf I c)) -∗ Kt ⟨⟩)
        -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Kt) := by
  rw [cc0_body_eq_skeleton]; unfold cc0_body_skel
  unfold start linear rest
  rw [scopedRest0_eq]
  iintro ⟨⟨⟨#HR, HtP, HtN, Htok, HaB, Hpos⟩, ⟨HcB, Hcr⟩, #Hlev⟩, ⟨⟨%f0, H0⟩, ⟨%f1, H1⟩, ⟨%f2, H2⟩, ⟨%f3, H3⟩, H4, H5, H6, H7, H8⟩, HO, Hin, Ho⟩ Hk
  ihave H7 := (ys_split c) $$ H7
  icases H7 with ⟨⟨%y0, HY0⟩, HY1, HY2, HY3⟩
  ihave H8 := (rb_split c) $$ H8
  icases H8 with ⟨HRc, HRp, HRn, HRo⟩
  ihave H4 := (held_q c (qOn I c)) $$ H4
  ihave H5 := (held_k c (kOn I c)) $$ H5
  ihave H6 := (held_v c (vOn I c)) $$ H6
  iapply (seq_step)
  iapply (part38 I c) $$ [HtP HtN Htok HaB Hpos HcB Hcr H0 H1 H2 H3 H4 H5 H6 HY1 HY2 HY3 HRc HRp HRn HRo HO Hin Ho]
  · isplitr; · iexact HR
    isplitr; · iexact Hlev
    isplitl [HtP HtN HcB HaB HO H1 H2 H3 HRp HRn HRo]
    · unfold handOf
      isplitl [HO]; · iexact HO
      isplitl [HtP]; · iexact HtP
      isplitl [HtN]; · iexact HtN
      isplitl [HcB]; · iexact HcB
      isplitl [HaB]; · iexact HaB
      isplitl [H1 HRp HRo]
      · rw [barNxt_prv]
        isplitl [H1]; · iexists f1; unfold at1; iapply (Entails.of_eq (mAt_whole c cc0_scratch1 f1).symm); iexact H1
        isplitl [HRp]; · iexact HRp
        iexact HRo
      · rw [barPrv_nxt]
        isplitl [H2]; · iexists f2; unfold at2; iapply (Entails.of_eq (mAt_whole c cc0_scratch2 f2).symm); iexact H2
        isplitl [H3]; · iexists f3; unfold at3; iapply (Entails.of_eq (mAt_whole c cc0_scratch3 f3).symm); iexact H3
        iexact HRn
    isplitl [Htok]; · iexact Htok
    isplitl [Hcr]; · iexact Hcr
    isplitl [Hpos]; · iexact Hpos
    isplitl [Hin]; · iexact Hin
    unfold scrOf
    isplitl [H0]; · iexists f0; unfold at0; iapply (Entails.of_eq (mAt_whole c cc0_scratch0 f0).symm); iexact H0
    isplitl [H4]; · iexact H4
    isplitl [H5]; · iexact H5
    isplitl [H6]; · iexact H6
    isplitl [HY1]; · iexact HY1
    isplitl [HY2]; · iexact HY2
    isplitl [HY3]; · iexact HY3
    isplitl [HRc]; · iexact HRc
    iexact Ho
  unfold closedOf bufsOf sentOf turned
  iintro ⟨HO, ⟨HsB, Hs6, Hs7, Hs8, Hs9, Hs10, Hs11, ⟨Hr0, HR0⟩, ⟨Hr1, HR1⟩, ⟨Hr2, HR2⟩, ⟨Hr3, HR3⟩⟩, Hin, ⟨H0, H1, H2, H3, H4, H5, H6, Ho⟩, Hc12, Hc13, Hc14, Ha12, Ha13, Ha14⟩
  simp only [Prog.lift, Prog.bind_op, Prog.bind_ret, Prog.pure_eq_ret]
  iapply (wait_dma_step I 12 rfl (by decide) (ne_rsq _ _ (by decide)) (above_zero _) (srcM := rbl c) (dstM := ysl 1) rfl) $$ [HO Hc12 Ha12]
  · isplitr; · iexact HR
    isplitl [Hc12]; · iexact Hc12
    isplitl [HO]; · iexact HO
    isplitr; · iexact Hlev
    iexact Ha12
  iintro ⟨HO, Hs12, HY1⟩
  iapply (wait_dma_step I 13 rfl (by decide) (ne_rsq _ _ (by decide)) (above_zero _) (srcM := rbl c) (dstM := ysl 2) rfl) $$ [HO Hc13 Ha13]
  · isplitr; · iexact HR
    isplitl [Hc13]; · iexact Hc13
    isplitl [HO]; · iexact HO
    isplitr; · iexact Hlev
    iexact Ha13
  iintro ⟨HO, Hs13, HY2⟩
  iapply (wait_dma_step I 14 rfl (by decide) (ne_rsq _ _ (by decide)) (above_zero _) (srcM := rbl c) (dstM := ysl 3) rfl) $$ [HO Hc14 Ha14]
  · isplitr; · iexact HR
    isplitl [Hc14]; · iexact Hc14
    isplitl [HO]; · iexact HO
    isplitr; · iexact Hlev
    iexact Ha14
  iintro ⟨HO, Hs14, HY3⟩
  simp only [run, wp_ret]; imodintro
  iapply Hk
  isplitr [HO Hin Ho]
  · unfold Φ₁
    rw [own0_eq]; unfold rest; rw [scopedRest0_eq]
    isplitl [HsB]; · iexact HsB
    isplitl [Hs6 Hs7 Hs8 Hs9 Hs10 Hs11 Hs12 Hs13 Hs14 Hr0 Hr1 Hr2 Hr3]
    · isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hr0]; · iexact Hr0
      isplitl [Hr1]; · iexact Hr1
      isplitl [Hr2]; · iexact Hr2
      iexact Hr3
    isplitl [H0]; · iexists _; iapply (Entails.of_eq (mAt_whole c cc0_scratch0 _)); unfold at0; iexact H0
    isplitl [H1]; · iexists _; iapply (Entails.of_eq (mAt_whole c cc0_scratch1 _)); unfold at1; iexact H1
    isplitl [H2]; · iexists _; iapply (Entails.of_eq (mAt_whole c cc0_scratch2 _)); unfold at2; iexact H2
    isplitl [H3]; · iexists _; iapply (Entails.of_eq (mAt_whole c cc0_scratch3 _)); unfold at3; iexact H3
    isplitl [H4]; · iapply (some_q c _ _); iexact H4
    isplitl [H5]; · iapply (some_k c _ _); iexact H5
    isplitl [H6]; · iapply (some_v c _ _); iexact H6
    isplitl [HY0 HY1 HY2 HY3]
    · ihave HY1 := (Entails.of_eq (pay12 I c)) $$ HY1
      ihave HY2 := (Entails.of_eq (pay13 I c)) $$ HY2
      ihave HY3 := (Entails.of_eq (pay14 I c)) $$ HY3
      iapply (ys_join c _ _ _ _)
      isplitl [HY0]; · iexact HY0
      isplitl [HY1]; · iexact HY1
      isplitl [HY2]; · iexact HY2
      iexact HY3
    · iapply (rb_join c (fun p => tile (yOn I p (slot c p))))
      isplitl [HR0]; · iexact HR0
      isplitl [HR1]; · iexact HR1
      isplitl [HR2]; · iexact HR2
      iexact HR3
  isplitl [HO]; · iexact HO
  isplitl [Hin]; · iexact Hin
  iexact Ho

end Body

end Cert.KernelIdeal.Ring

end
-- ==== Proof.KI.Launch.lean ====
/-
The launch of the four devices: the pipeline's data, the cells opened, the duties dealt, the run.
-/
module

public import proofs.«01_k».proof.Proof.KI.Body
public import proofs.«01_k».proof.Proof.Gen.KernelIdeal.Points
public import Idealize.ShloMosaic.Lib.Pipeline.Launch
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]
/-! ## The pipeline's data -/

/-- The call has one grid step. -/
theorem cfg0_N : cfg0.N = 1 := by decide
/-- That step. -/
def t₀ : Fin cfg0.N := ⟨0, by rw [cfg0_N]; decide⟩
/-- Every step is that one. -/
theorem fin_N (t : Fin cfg0.N) : t = t₀ := by
  obtain ⟨t, ht⟩ := t; have := cfg0_N; exact Fin.ext (by simp only [t₀]; omega)

omit [FloatOps F] [Named F] in
/-- Owning a staged array with contents `X` is holding the whole buffer with those contents. -/
theorem staged_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c` held whole, with the contents `X`. -/
abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

section Launch
variable (m : (ℓ : Loc nD τ sig) → Buf (Elt F) ℓ) (ρ : Dev nD → PrngReg)

/-- The launched state. -/
def s₀ : MemSt nD τ sig (Elt F) := ⟨m, fun _ => 0, ρ⟩

/-- The arrays of the devices as their kernels see them. -/
def ins : Ins F where
  X c := (win0_0.blk (0 : Fin 1)).view.read (Elt F) ((s₀ m ρ).mem ((c : Thread nD τ).loc main_arg0))
  WQ c := (win0_1.blk (0 : Fin 1)).view.read (Elt F) ((s₀ m ρ).mem ((c : Thread nD τ).loc main_arg1))
  WK c := (win0_3.blk (0 : Fin 1)).view.read (Elt F) ((s₀ m ρ).mem ((c : Thread nD τ).loc main_arg2))
  WV c := (win0_4.blk (0 : Fin 1)).view.read (Elt F) ((s₀ m ρ).mem ((c : Thread nD τ).loc main_arg3))
  WO c := (win0_2.blk (0 : Fin 1)).view.read (Elt F) ((s₀ m ρ).mem ((c : Thread nD τ).loc main_arg4))

/-- What the call starts from and ends with on device `c`: the arrays, what each window holds after the step, the protocol before and after, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).X c
    | ⟨1, _⟩ => (ins m ρ).WQ c
    | ⟨2, _⟩ => (ins m ρ).WO c
    | ⟨3, _⟩ => (ins m ρ).WK c
    | ⟨4, _⟩ => (ins m ρ).WV c
    | ⟨5, _⟩ => outOf (ins m ρ) c
  Φ t := match t with
    | ⟨0, _⟩ => iprop(start (ins m ρ) c ∗ rest c)
    | ⟨_ + 1, _⟩ => Φ₁ c
  q _ := fullShare
  owed t := match t with
    | ⟨0, _⟩ => O0 c
    | ⟨_ + 1, _⟩ => 0

/-- What the body of device `c` starts from, with the staged arrays one by one. -/
def bodyPre (c : Dev nD) : sProp (MT nD τ sig Unit (Elt F) ℕ UU ℕ) :=
  iprop((start (ins m ρ) c ∗ rest c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What it ends with: the arguments as they were and the result computed. -/
def bodyPost (c : Dev nD) : sProp (MT nD τ sig Unit (Elt F) ℕ UU ℕ) :=
  iprop(Φ₁ c ∗ (dats m ρ 0 c).owesAt () t₀.succ ∗ stg c cc0_stg0_0 ((ins m ρ).X c) ∗ stg c cc0_stg1_0 ((ins m ρ).WQ c)
    ∗ stg c cc0_stg2_0 ((ins m ρ).WO c) ∗ stg c cc0_stg3_0 ((ins m ρ).WK c) ∗ stg c cc0_stg4_0 ((ins m ρ).WV c) ∗ stg c cc0_stg5_0 (outOf (ins m ρ) c))

set_option maxRecDepth 16384 in
set_option maxHeartbeats 1000000 in
/-- The body from its staged arrays to the staged result. -/
theorem body_staged (c : Dev nD) : bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) (fun _ => bodyPost m ρ c) := by
  unfold bodyPre bodyPost
  iintro ⟨⟨Hs, Hr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  have e0 : g0 = (ins m ρ).X c := by rw [h0]; unfold Dat.before; rw [if_pos (fetch0_0 t₀)]; rfl
  have e1 : g1 = (ins m ρ).WQ c := by rw [h1]; unfold Dat.before; rw [if_pos (fetch0_1 t₀)]; rfl
  have e2 : g2 = (ins m ρ).WO c := by rw [h2]; unfold Dat.before; rw [if_pos (fetch0_2 t₀)]; rfl
  have e3 : g3 = (ins m ρ).WK c := by rw [h3]; unfold Dat.before; rw [if_pos (fetch0_3 t₀)]; rfl
  have e4 : g4 = (ins m ρ).WV c := by rw [h4]; unfold Dat.before; rw [if_pos (fetch0_4 t₀)]; rfl
  subst e0 e1 e2 e3 e4
  unfold Dat.owesAt Pipeline.owesWithin
  icases Ho with ⟨%W, %hW, HO⟩
  iapply (sound_body (ins m ρ) c) $$ [Hs Hr HO H0 H1 H2 H3 H4 H5]
  · isplitl [Hs]; · iexact Hs
    isplitl [Hr]; · iexact Hr
    isplitl [HO]; · unfold debt; iexists W; iexact HO
    isplitr [H5]
    · unfold insOf mAt
      isplitl [H0]; · iapply (Entails.of_eq (mAt_whole c cc0_stg0_0 _).symm); iexact H0
      isplitl [H1]; · iapply (Entails.of_eq (mAt_whole c cc0_stg1_0 _).symm); iexact H1
      isplitl [H3]; · iapply (Entails.of_eq (mAt_whole c cc0_stg3_0 _).symm); iexact H3
      isplitl [H4]; · iapply (Entails.of_eq (mAt_whole c cc0_stg4_0 _).symm); iexact H4
      iapply (Entails.of_eq (mAt_whole c cc0_stg2_0 _).symm); iexact H2
    · iexists g5; unfold mAt; iapply (Entails.of_eq (mAt_whole c cc0_stg5_0 _).symm); iexact H5
  unfold insOf mAt debt
  iintro ⟨HΦ, ⟨%W', HO⟩, ⟨H0, H1, H3, H4, H2⟩, H5⟩
  isplitl [HΦ]; · iexact HΦ
  isplitl [HO]
  · iexists W'
    isplitr; · ipureintro; exact fun _ _ => Or.inl trivial
    iexact HO
  isplitl [H0]
  · iexists _; isplitr; · (ipureintro; rfl)
    iapply (Entails.of_eq (mAt_whole c cc0_stg0_0 _)); iexact H0
  isplitl [H1]
  · iexists _; isplitr; · (ipureintro; rfl)
    iapply (Entails.of_eq (mAt_whole c cc0_stg1_0 _)); iexact H1
  isplitl [H2]
  · iexists _; isplitr; · (ipureintro; rfl)
    iapply (Entails.of_eq (mAt_whole c cc0_stg2_0 _)); iexact H2
  isplitl [H3]
  · iexists _; isplitr; · (ipureintro; rfl)
    iapply (Entails.of_eq (mAt_whole c cc0_stg3_0 _)); iexact H3
  isplitl [H4]
  · iexists _; isplitr; · (ipureintro; rfl)
    iapply (Entails.of_eq (mAt_whole c cc0_stg4_0 _)); iexact H4
  · iexists _; isplitr; · (ipureintro; rfl)
    iapply (Entails.of_eq (mAt_whole c cc0_stg5_0 _)); iexact H5

set_option maxRecDepth 16384 in
set_option maxHeartbeats 1000000 in
/-- The body as the pipeline asks for it. -/
theorem body_obligation (c : Dev nD) : BodyObligation (dats (F := F) m ρ 0 c) (defs₀ (F := F)) 𝒱₀ () Set.univ := fun t => by
  rw [fin_N t]
  rw [bigSep_W0, bigSep_W0]
  simp only [staged_eq]
  show bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) (fun _ => bodyPost m ρ c)
  exact body_staged m ρ c

/-! ## The launch -/

/-- The kernel's own semaphores are distinct from each other and from those of the staging. -/
theorem ownSemFacts : Pipeline.OwnSemFacts cfg0.spec osem := by decide

/-- Every window is held in full. -/
theorem share_eq (c : Dev nD) (w : Fin cfg0.W) : (dats m ρ 0 c).share w = fullShare := by unfold Dat.share; split <;> rfl

/-- The semaphores of the exchange are distinct. -/
theorem csem_injective : Function.Injective csem := by decide

/-- The cells of the exchange are distinct over devices and semaphores. -/
theorem kcell_injective : Function.Injective (kcell : Dev nD × Fin 14 → GSem nD τ sig) := by
  rintro ⟨c, k⟩ ⟨c', k'⟩ h
  have h1 : c = c' := congrArg (fun g : GSem nD τ sig => g.1.1) h
  have h2 : k = k' := csem_injective (congrArg Prod.snd h)
  subst h1 h2; rfl
/-- All cells of the exchange. -/
def allCells : Finset (GSem nD τ sig) := Finset.univ.map ⟨kcell, kcell_injective⟩

/-- Both duties of every cell. -/
abbrev tokOf (cj : Dev nD × (Fin 14 × Bool)) : GSem nD τ sig × ℕ × Bool := (kcell (cj.1, cj.2.1), 0, cj.2.2)
/-- The duties are distinct. -/
theorem tokOf_injective : Function.Injective tokOf := by
  rintro ⟨c, k, b⟩ ⟨c', k', b'⟩ h
  have h1 := kcell_injective (congrArg Prod.fst h)
  have h2 : b = b' := congrArg (fun x : GSem nD τ sig × ℕ × Bool => x.2.2) h
  obtain ⟨rfl, rfl⟩ := Prod.mk.injEq .. ▸ h1
  subst h2; rfl
/-- All duties of the exchange. -/
def allToks : Finset (GSem nD τ sig × ℕ × Bool) := Finset.univ.map ⟨tokOf, tokOf_injective⟩

/-- The ghost state of the launch: that of the staging and that of the exchange. -/
def u₀ : UU :=
  (initOf (Pipeline.cells cfgs cellOf_inj) (Pipeline.launchToks cfgs cellOf_inj), initOf allCells allToks)

/-- The duties at device `c`'s own cells. -/
def minted (c : Dev nD) : sProp (MT nD τ sig Unit (Elt F) ℕ UU ℕ) :=
  bigSep Finset.univ fun kb : Fin 14 × Bool => dutyTok ER (kcell (c, kb.1)) 0 kb.2

/-- What the launch deals device `c`; -/
def G (c : Dev nD) : sProp (MT nD τ sig Unit (Elt F) ℕ UU ℕ) :=
  iprop((bigSep Finset.univ fun k : Fin 14 => roundState ER (sched (ins m ρ)) (kcell (c, k)) 0)
    ∗ (bigSep Finset.univ fun k : Fin 14 => iprop(atPos ER (kcell (c, k)) 0 ∅ 0 ∗ reached ER (kcell (c, k)) 0)) ∗ minted c)

/-- and what becomes of it when the duties have been dealt around the ring. -/
def G' (c : Dev nD) : sProp (MT nD τ sig Unit (Elt F) ℕ UU ℕ) := iprop(recs (ins m ρ) ∗ linear c)

/-- The initial ghost state of the exchange is dealt over the devices. -/
theorem fund_ring : BI.own (ER (initOf allCells allToks)) ⊢ (|==> bigSep Finset.univ (G m ρ) : sProp (MT nD τ sig Unit (Elt F) ℕ UU ℕ)) := by
  have hX (Φ : GSem nD τ sig → sProp (MT nD τ sig Unit (Elt F) ℕ UU ℕ)) : bigSep allCells Φ = bigSep Finset.univ fun c : Dev nD => bigSep Finset.univ fun k : Fin 14 => Φ (kcell (c, k)) := by
    unfold allCells; rw [bigSep_map, bigSep_univ_prod]; rfl
  have hT : bigSep allToks (fun x => (dutyTok ER x.1 x.2.1 x.2.2 : sProp (MT nD τ sig Unit (Elt F) ℕ UU ℕ))) = bigSep Finset.univ fun c : Dev nD => minted c := by
    unfold allToks; rw [bigSep_map, bigSep_univ_prod]; rfl
  iintro HX
  imod (Rounds.fund ER (sched (ins m ρ)) allCells allToks) $$ HX with ⟨Hst, Hr, Hat, Htok⟩
  imodintro
  ihave Hst' := (Entails.of_eq (hX fun g => roundState ER (sched (ins m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- A family over the fourteen semaphores of a device, one by one. -/
theorem cells_univ (Φ : Fin 14 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] [Named F] in
/-- The only semaphore that outlives the call is the barrier one. -/
theorem outer_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

omit [FloatOps F] [Named F] in
/-- A device's own semaphores and the barrier one are its cells at zero. -/
theorem sems_eq (c : Dev nD) :
    iprop(own0 c ∗ unscopedSems0 c) ⊢ (bigSep Finset.univ fun k : Fin 14 => semVal (kcell (c, k)) 0 : sProp (MT nD τ sig Unit (Elt F) ℕ UU ℕ)) := by
  rw [own0_eq, outer_eq, cells_univ]
  iintro ⟨H, HB⟩
  isplitl [HB]; · iexact HB
  iexact H

/-- A device's cells are opened: each gets its invariant, its position and its duties. -/
theorem core_alloc (c : Dev nD) :
    iprop(own0 c ∗ unscopedSems0 c ∗ G m ρ c)
      ⊢ |={Set.univ}=> iprop((bigSep Finset.univ fun k => iprop(∃ κ : ℕ, cellInv ER (sched (ins m ρ)) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems_eq (F := F) c) $$ [Hos Hus]
  · isplitl [Hos] <;> iassumption
  imod (show iprop((bigSep Finset.univ fun k : Fin 14 => semVal (kcell (c, k)) 0) ∗ bigSep Finset.univ fun k : Fin 14 => roundState ER (sched (ins m ρ)) (kcell (c, k)) 0)
      ⊢ (|={Set.univ}=> bigSep Finset.univ fun k => iprop(∃ κ : ℕ, cellInv ER (sched (ins m ρ)) κ (kcell (c, k))) : sProp (MT nD τ sig Unit (Elt F) ℕ UU ℕ)) from by
        rw [← bigSep_sep']
        exact (bigSep_mono fun k _ => (Rounds.body_intro ER (sched (ins m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties at a device's own cells that some device takes on, one by one. -/
def ownToks (c : Dev nD) : sProp (MT nD τ sig Unit (Elt F) ℕ UU ℕ) :=
  iprop(dutyTok ER (barCell c) 0 false ∗ dutyTok ER (barCell c) 0 true
    ∗ dutyTok ER (dCell c 6) 0 false ∗ dutyTok ER (dCell c 7) 0 false ∗ dutyTok ER (dCell c 8) 0 false
    ∗ dutyTok ER (dCell c 9) 0 false ∗ dutyTok ER (dCell c 10) 0 false ∗ dutyTok ER (dCell c 11) 0 false
    ∗ dutyTok ER (dCell c 12) 0 false ∗ dutyTok ER (dCell c 13) 0 false ∗ dutyTok ER (dCell c 14) 0 false
    ∗ dutyTok ER (dCell c (rsq (prv c))) 0 false ∗ dutyTok ER (dCell c (rsq (nxt c))) 0 false ∗ dutyTok ER (dCell c (rsq (opp c))) 0 false)

omit [FloatOps F] [Named F] in
/-- A family over two duties, one by one. -/
theorem both_univ (Φ : Bool → sProp (MT nD τ sig Unit (Elt F) ℕ UU ℕ)) : bigSep Finset.univ Φ = iprop(Φ false ∗ Φ true) :=
  bigSep_univ_eq_bigSepL [false, true] (by decide) (by decide) Φ

omit [FloatOps F] [Named F] in
/-- Of the duties at a device's cells, those that some device takes on. -/
theorem minted_own (c : Dev nD) : minted c ⊢ (ownToks c : sProp (MT nD τ sig Unit (Elt F) ℕ UU ℕ)) := by
  unfold minted
  rw [bigSep_univ_prod, cells_univ]
  simp only [both_univ]
  iintro ⟨⟨Hbf, Hbt⟩, ⟨H6, -⟩, ⟨H7, -⟩, ⟨H8, -⟩, ⟨H9, -⟩, ⟨H10, -⟩, ⟨H11, -⟩, ⟨H12, -⟩, ⟨H13, -⟩, ⟨H14, -⟩, ⟨Hr0, -⟩, ⟨Hr1, -⟩, ⟨Hr2, -⟩, ⟨Hr3, -⟩⟩
  ihave Hr := (Entails.of_eq ((four_univ (F := F) (fun p => dutyTok ER (dCell c (rsq p)) 0 false)).symm.trans (ring_univ c _))) $$ [Hr0 Hr1 Hr2 Hr3]
  · isplitl [Hr0]; · iexact Hr0
    isplitl [Hr1]; · iexact Hr1
    isplitl [Hr2]; · iexact Hr2
    iexact Hr3
  icases Hr with ⟨-, Hp, Hn, Ho⟩
  unfold ownToks
  isplitl [Hbf]; · iexact Hbf
  isplitl [Hbt]; · iexact Hbt
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hp]; · iexact Hp
  isplitl [Hn]; · iexact Hn
  iexact Ho

omit [FloatOps F] [Named F] in
/-- A family over the devices, dealt one device down, up or across. -/
theorem deal_prv (Φ : Dev nD → sProp (MT nD τ sig Unit (Elt F) ℕ UU ℕ)) : bigSep Finset.univ Φ = bigSep Finset.univ fun c => Φ (prv c) := bigSep_univ_equiv back Φ
omit [FloatOps F] [Named F] in
/-- The same one device up. -/
theorem deal_nxt (Φ : Dev nD → sProp (MT nD τ sig Unit (Elt F) ℕ UU ℕ)) : bigSep Finset.univ Φ = bigSep Finset.univ fun c => Φ (nxt c) := bigSep_univ_equiv back.symm Φ
omit [FloatOps F] [Named F] in
/-- The same across. -/
theorem deal_opp (Φ : Dev nD → sProp (MT nD τ sig Unit (Elt F) ℕ UU ℕ)) : bigSep Finset.univ Φ = bigSep Finset.univ fun c => Φ (opp c) := bigSep_univ_equiv across Φ

omit [FloatOps F] [Named F] in
/-- The duties dealt around the ring: each to the device that fulfils it. -/
theorem toks_around : (bigSep Finset.univ fun c : Dev nD => (ownToks c : sProp (MT nD τ sig Unit (Elt F) ℕ UU ℕ)))
    ⊢ bigSep Finset.univ fun c : Dev nD => iprop(dutyTok ER (barCell (prv c)) 0 true ∗ dutyTok ER (barCell (nxt c)) 0 false ∗ toksOf c) := by
  unfold ownToks toksOf
  simp only [bigSep_sep']
  rw [deal_nxt (fun c : Dev nD => (dutyTok ER (barCell c) 0 false : sProp (MT nD τ sig Unit (Elt F) ℕ UU ℕ))),
    deal_prv (fun c : Dev nD => (dutyTok ER (barCell c) 0 true : sProp (MT nD τ sig Unit (Elt F) ℕ UU ℕ))),
    deal_nxt (fun c : Dev nD => (dutyTok ER (dCell c 9) 0 false : sProp (MT nD τ sig Unit (Elt F) ℕ UU ℕ))),
    deal_prv (fun c : Dev nD => (dutyTok ER (dCell c 10) 0 false : sProp (MT nD τ sig Unit (Elt F) ℕ UU ℕ))),
    deal_prv (fun c : Dev nD => (dutyTok ER (dCell c 11) 0 false : sProp (MT nD τ sig Unit (Elt F) ℕ UU ℕ))),
    deal_nxt (fun c : Dev nD => (dutyTok ER (dCell c (rsq (prv c))) 0 false : sProp (MT nD τ sig Unit (Elt F) ℕ UU ℕ))),
    deal_prv (fun c : Dev nD => (dutyTok ER (dCell c (rsq (nxt c))) 0 false : sProp (MT nD τ sig Unit (Elt F) ℕ UU ℕ))),
    deal_opp (fun c : Dev nD => (dutyTok ER (dCell c (rsq (opp c))) 0 false : sProp (MT nD τ sig Unit (Elt F) ℕ UU ℕ)))]
  simp only [prv_nxt, nxt_prv, opp_opp]
  iintro ⟨Hbf, Hbt, H6, H7, H8, H9, H10, H11, H12, H13, H14, Hn, Hp, Ho⟩
  isplitl [Hbt]; · iexact Hbt
  isplitl [Hbf]; · iexact Hbf
  isplitl [H6]; · iexact H6
  isplitl [H9]; · iexact H9
  isplitl [H7]; · iexact H7
  isplitl [H10]; · iexact H10
  isplitl [H8]; · iexact H8
  isplitl [H11]; · iexact H11
  isplitl [H12]; · iexact H12
  isplitl [Hp]; · iexact Hp
  isplitl [H13]; · iexact H13
  isplitl [Hn]; · iexact Hn
  isplitl [H14]; · iexact H14
  iexact Ho

omit [FloatOps F] [Named F] in
/-- A fact that may be used any number of times serves every member of a family. -/
theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all the cells from their invariants and marks. -/
theorem recs_intro (I : Ins F) :
    iprop((bigSep Finset.univ fun ck : Dev nD × Fin 14 => iprop(∃ κ : ℕ, cellInv ER (sched I) κ (kcell ck)))
      ∗ bigSep Finset.univ fun ck : Dev nD × Fin 14 => (reached ER (kcell ck) 0 : sProp (MT nD τ sig Unit (Elt F) ℕ UU ℕ))) ⊢ recs I := by
  unfold recs
  rw [← bigSep_sep']
  refine bigSep_mono fun ck _ => ?_
  show iprop((∃ κ : ℕ, cellInv ER (sched I) κ (kcell ck)) ∗ reached ER (kcell ck) 0) ⊢ iprop(∃ κ : ℕ, cellInv ER (sched I) κ (kcell ck) ∗ reached ER (kcell ck) 0)
  iintro ⟨⟨%κ, H⟩, H'⟩
  iexists κ
  isplitl [H] <;> iassumption

/-- The opened cells of all devices, regrouped: each device gets the records, its positions, and the duties that it fulfils. -/
theorem regroup :
    (bigSep Finset.univ fun c : Dev nD => iprop((bigSep Finset.univ fun k => iprop(∃ κ : ℕ, cellInv ER (sched (ins m ρ)) κ (kcell (c, k))))
          ∗ (bigSep Finset.univ fun k => iprop(atPos ER (kcell (c, k)) 0 ∅ 0 ∗ reached ER (kcell (c, k)) 0)) ∗ minted c) : sProp (MT nD τ sig Unit (Elt F) ℕ UU ℕ))
      ⊢ bigSep Finset.univ (G' m ρ) := by
  rw [bigSep_sep', bigSep_sep', ← bigSep_univ_prod (fun ck : Dev nD × Fin 14 => iprop(∃ κ : ℕ, cellInv ER (sched (ins m ρ)) κ (kcell ck))),
    bigSep_congr (s := Finset.univ) (fun (c : Dev nD) _ => bigSep_sep' Finset.univ (fun k : Fin 14 => (atPos ER (kcell (c, k)) 0 ∅ 0 : sProp (MT nD τ sig Unit (Elt F) ℕ UU ℕ))) (fun k => reached ER (kcell (c, k)) 0)),
    bigSep_sep', ← bigSep_univ_prod (fun ck : Dev nD × Fin 14 => (reached ER (kcell ck) 0 : sProp (MT nD τ sig Unit (Elt F) ℕ UU ℕ)))]
  iintro ⟨HI, ⟨Hat, HR⟩, Htok⟩
  ihave #Hrec := (recs_intro (ins m ρ)) $$ [HI HR]
  · isplitl [HI] <;> iassumption
  ihave Htok := ((show (bigSep Finset.univ fun c : Dev nD => minted (F := F) c) ⊢ bigSep Finset.univ fun c : Dev nD => ownToks c from bigSep_mono fun c _ => minted_own (F := F) c)) $$ Htok
  ihave Htk := (toks_around (F := F)) $$ Htok
  iapply (with_persistent (R := recs (ins m ρ)) fun c _ => (show iprop(recs (ins m ρ) ∗ linear c) ⊢ G' m ρ c from BI.Entails.refl _))
  isplitr; · iexact Hrec
  iapply ((Entails.of_eq (bigSep_sep' Finset.univ (fun c : Dev nD => bigSep Finset.univ fun k : Fin 14 => (atPos ER (kcell (c, k)) 0 ∅ 0 : sProp (MT nD τ sig Unit (Elt F) ℕ UU ℕ))) _).symm).trans
      (bigSep_mono fun c _ => show iprop((bigSep Finset.univ fun k : Fin 14 => (atPos ER (kcell (c, k)) 0 ∅ 0 : sProp (MT nD τ sig Unit (Elt F) ℕ UU ℕ)))
          ∗ dutyTok ER (barCell (prv c)) 0 true ∗ dutyTok ER (barCell (nxt c)) 0 false ∗ toksOf c) ⊢ linear c from by
        rw [cells_univ]; unfold linear posOf
        iintro ⟨⟨HB, Hp⟩, Ht, Hf, Htk⟩
        isplitl [Ht]; · iexact Ht
        isplitl [Hf]; · iexact Hf
        isplitl [Htk]; · iexact Htk
        isplitl [HB]; · iexact HB
        iexact Hp))
  isplitl [Hat]; · iexact Hat
  iexact Htk

/-- The cells of every device opened at once. -/
theorem glob : (bigSep Finset.univ fun c => iprop(own0 c ∗ unscopedSems0 c ∗ G m ρ c) : sProp (MT nD τ sig Unit (Elt F) ℕ UU ℕ))
    ⊢ |={Set.univ}=> bigSep Finset.univ (G' m ρ) :=
  ((bigSep_mono fun c _ => core_alloc m ρ c).trans (bigSep_fupd _ _)).trans (BI.fupd_mono (regroup m ρ))

/-! ### The credits -/

/-- What the devices owe a cell of device `c` when each owes `k` to one cell of the device that `f` names. -/
theorem sum_owed (f g : Dev nD → Dev nD) (hf : ∀ d, g (f d) = d) (hg : ∀ d, f (g d) = d) (s : Dev nD → SemLoc sig) (k : ℕ) (c : Dev nD) (s' : SemLoc sig) :
    (∑ d : Dev nD, (tallyAt (((f d : Dev nD) : Thread nD τ), s d) () k : CellTallies nD τ sig Unit) ((c : Thread nD τ), s') ()) = if s' = s (g c) then k else 0 := by
  rw [Finset.sum_eq_single (g c)]
  · rw [hg, tallyAt_apply]
    by_cases h : s' = s (g c)
    · rw [if_pos ⟨by rw [h], rfl⟩, if_pos h]
    · rw [if_neg (fun h' => h (congrArg Prod.snd h'.1)), if_neg h]
  · intro d _ hd
    rw [tallyAt_apply, if_neg]
    rintro ⟨h, -⟩
    have h1 : c = f d := congrArg (fun x : GSem nD τ sig => x.1.1) h
    exact hd (by rw [h1, hf])
  · intro h; exact absurd (Finset.mem_univ _) h

/-- What all the devices together owe a cell of device `c`. -/
theorem owed_cell (c : Dev nD) (s' : SemLoc sig) :
    (∑ d : Dev nD, O0 d ((c : Thread nD τ), s') ()) =
      (((((((if s' = .dma (rsq (opp c)) then N else 0) + (if s' = .dma (rsq (prv c)) then N else 0)) + (if s' = .dma (rsq (nxt c)) then N else 0))
        + (if s' = .dma 11 then N else 0)) + (if s' = .dma 10 then N else 0)) + (if s' = .dma 9 then N else 0)) + (if s' = .reg barS then 1 else 0)) + (if s' = .reg barS then 1 else 0) := by
  unfold O0 O0' O1 O2 O3 O4 O5 O6
  simp only [Pi.add_apply, Finsupp.add_apply, Finset.sum_add_distrib]
  rw [sum_owed opp opp opp_opp opp_opp (fun d => .dma (rsq d)), sum_owed nxt prv prv_nxt nxt_prv (fun d => .dma (rsq d)), sum_owed prv nxt nxt_prv prv_nxt (fun d => .dma (rsq d)),
    sum_owed prv nxt nxt_prv prv_nxt (fun _ => .dma 11), sum_owed prv nxt nxt_prv prv_nxt (fun _ => .dma 10), sum_owed nxt prv prv_nxt nxt_prv (fun _ => .dma 9),
    sum_owed nxt prv prv_nxt nxt_prv (fun _ => .reg barS), sum_owed prv nxt nxt_prv prv_nxt (fun _ => .reg barS)]

/-- What the launch credits a cell with is what the devices owe it. -/
theorem launch_cell (c : Dev nD) (s' : SemLoc sig) (k : ℕ) (h : (∑ d : Dev nD, O0 d ((c : Thread nD τ), s') ()) = k) :
    tallyOn ((c : Thread nD τ), s') (launchCredit (Pipeline.owing O0) 0 ((c : Thread nD τ), s')) = (tallyAt ((c : Thread nD τ), s') () k : CellTallies nD τ sig Unit) := by
  unfold tallyAt; refine congrArg _ (Finsupp.ext fun u => ?_); cases u
  rw [Pipeline.launchCredit_owing, Finsupp.single_eq_same, h]

/-- The cells at which device `c` waits for others. -/
def heard (c : Dev nD) : List (SemLoc sig) :=
  [.reg barS, .dma 9, .dma 10, .dma 11, .dma (rsq (prv c)), .dma (rsq (nxt c)), .dma (rsq (opp c))]
/-- These cells are distinct. -/
theorem heard_nodup (c : Dev nD) : (heard c).Nodup := by revert c; decide

/-- Each barrier cell is owed two units. -/
theorem owed_bar (c : Dev nD) : (∑ d : Dev nD, O0 d (barCell c) ()) = 2 := by
  rw [owed_cell]; simp
/-- Each receiving cell is owed the amount of one copy. -/
theorem owed_dma (c : Dev nD) (q : DmaSem sig) (h : q = 9 ∨ q = 10 ∨ q = 11 ∨ q = rsq (prv c) ∨ q = rsq (nxt c) ∨ q = rsq (opp c)) :
    (∑ d : Dev nD, O0 d (dCell c q) ()) = N := by
  rw [owed_cell]; generalize N = n
  rcases h with rfl | rfl | rfl | rfl | rfl | rfl <;> fin_cases c <;> simp [rsq, prv, nxt, opp]

/-- The credits of device `c`, one by one. -/
theorem creds (c : Dev nD) : (Pipeline.launchCred O0 c : sProp (MT nD τ sig Unit (Elt F) ℕ UU ℕ)) ⊢ iprop(cred (tallyAt (barCell c) () 2) ∗ credsOf c) := by
  unfold Pipeline.launchCred
  refine (bigSep_subset (Finset.subset_univ (heard c).toFinset)).trans ?_
  rw [bigSep_eq_bigSepL_of_eq (heard c) rfl (heard_nodup c)]
  show iprop(cred (tallyOn (barCell c) _) ∗ cred (tallyOn (dCell c 9) _) ∗ cred (tallyOn (dCell c 10) _) ∗ cred (tallyOn (dCell c 11) _)
    ∗ cred (tallyOn (dCell c (rsq (prv c))) _) ∗ cred (tallyOn (dCell c (rsq (nxt c))) _) ∗ cred (tallyOn (dCell c (rsq (opp c))) _)) ⊢ _
  rw [launch_cell c _ _ (owed_bar c), launch_cell c _ _ (owed_dma c _ (by simp)), launch_cell c _ _ (owed_dma c _ (by simp)), launch_cell c _ _ (owed_dma c _ (by simp)),
    launch_cell c _ _ (owed_dma c _ (by simp)), launch_cell c _ _ (owed_dma c _ (by simp)), launch_cell c _ _ (owed_dma c _ (by simp))]
  exact BI.Entails.refl _

/-! ### The side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m ρ c)
      ⊢ |={Set.univ}=> iprop(start (ins m ρ) c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With its scratch buffers that is the state before the step. -/
theorem phi0_intro (c : Dev nD) :
    iprop(start (ins m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (ins m ρ) c ∗ rest c) from rfl]
  iintro ⟨Hs, -, Hr⟩
  isplitl [Hs] <;> iassumption

/-- The state after the step gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, outer_eq]
  exact BI.Entails.refl _

/-- The staging's own waits are allowed below everything that the devices owe. -/
theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t => by
    refine mayWait_above c _ _ ?_
    have h0 : lv ((c : Thread nD τ), SemLoc.dma ((cfg0.win w).sem s)) () = 0 := by
      fin_cases w <;> fin_cases s <;> rfl
    rcases t with ⟨_ | _, ht⟩
    · rw [show lv _ () = 0 from h0]; exact above_O0 c
    · exact above_zero _

/-! ### The run -/

/-- The contents of the arrays after the run. -/
def finalA (c : Dev nD) (w : Fin cfg0.W) : Buf (Elt F) ((cfg0.win w).arr.view.loc (c : Thread nD τ)) := (dats m ρ 0 c).arrAt w cfg0.N

/-- After the run every array of every device has its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Four devices that start with their counters at zero run the program to its end, whatever the float values; then
    every array is at the contents named and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start (ins m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch

end Cert.KernelIdeal.Ring

end
-- ==== Proof.KI.Final.lean ====
/-
What the devices' arrays hold at the end of a run: the arguments what they held, the result the value named.
-/
module

public import proofs.«01_k».proof.Proof.KI.Launch
public import Idealize.ShloMosaic.Lib.Pipeline.ValueKit

@[expose] public section

set_option maxRecDepth 16384

noncomputable section

namespace Cert.KernelIdeal.Ring

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The launched arrays, as each device holds them. -/
def given : Ins F where
  X c := m ((c : Thread nD τ).loc main_arg0)
  WQ c := m ((c : Thread nD τ).loc main_arg1)
  WK c := m ((c : Thread nD τ).loc main_arg2)
  WV c := m ((c : Thread nD τ).loc main_arg3)
  WO c := m ((c : Thread nD τ).loc main_arg4)

/-- The block of a window over one whole array, at block index 0, is the array index by index. -/
theorem emb_whole (w : Window sig grid0) (h : ∀ a, w.index (0 : Fin 1) a = 0) (j : (w.xblock (grid0.coords (0 : Fin 1))).Idx) (a) :
    (((w.rect (0 : Fin 1)).emb j) a : ℕ) = j a := Window.rect_emb_val_of_index_zero _ _ _ (h a) j

/-- A block that is the whole array reads the whole array. -/
theorem ins_eq : ins m ρ = given m := by
  unfold ins given s₀
  congr 1
  · funext c j; exact congrArg (m ((c : Thread nD τ).loc main_arg0)) (funext fun a => Fin.ext (emb_whole win0_0 (fun _ => rfl) j a))
  · funext c j; exact congrArg (m ((c : Thread nD τ).loc main_arg1)) (funext fun a => Fin.ext (emb_whole win0_1 (fun _ => rfl) j a))
  · funext c j; exact congrArg (m ((c : Thread nD τ).loc main_arg2)) (funext fun a => Fin.ext (emb_whole win0_3 (fun _ => rfl) j a))
  · funext c j; exact congrArg (m ((c : Thread nD τ).loc main_arg3)) (funext fun a => Fin.ext (emb_whole win0_4 (fun _ => rfl) j a))
  · funext c j; exact congrArg (m ((c : Thread nD τ).loc main_arg4)) (funext fun a => Fin.ext (emb_whole win0_2 (fun _ => rfl) j a))

/-- The result's array ends holding the value the body leaves. -/
theorem final_out (c : Dev nD) : finalA m ρ c 5 = outOf (given m) c := by
  rw [← ins_eq m ρ]
  exact (dats m ρ 0 c).arrAt_eq_of_after_last (5 : Fin 6) t₀ (by decide +kernel) _ (fun j => rfl)

/-- The run with what every array holds at its end, and every counter at zero. -/
theorem run_values : θ_run defs (onTc (τ := τ) (main (F := F))) ⟨m, fun _ => 0, ρ⟩ (fun r => (∀ c : Dev nD,
    r.2.mem ((c : Thread nD τ).loc main_v1) = outOf (given m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
    ∧ r.2.sem = fun _ => 0) :=
  (θ_run defs _ _).mono (fun r h => ⟨fun c =>
    ⟨(h.1 c (5 : Fin 6)).trans (final_out m ρ c),
      (h.1 c (0 : Fin 6)).trans ((dats m ρ 0 c).arrAt_in (0 : Fin 6) rfl _),
      (h.1 c (1 : Fin 6)).trans ((dats m ρ 0 c).arrAt_in (1 : Fin 6) rfl _),
      (h.1 c (3 : Fin 6)).trans ((dats m ρ 0 c).arrAt_in (3 : Fin 6) rfl _),
      (h.1 c (4 : Fin 6)).trans ((dats m ρ 0 c).arrAt_in (4 : Fin 6) rfl _),
      (h.1 c (2 : Fin 6)).trans ((dats m ρ 0 c).arrAt_in (2 : Fin 6) rfl _)⟩, h.2⟩) (run_main m ρ)

/-- The run leaves the arguments as they were and every counter at zero. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
    ∧ r.2.sem = fun _ => 0) :=
  (θ_run defs _ _).mono (fun r h => ⟨fun c => (h.1 c).2, h.2⟩) (run_values m ρ)

end Cert.KernelIdeal.Ring

end
-- ==== Proof.Val.Finite.lean ====
/-
What the precondition says over the extended reals: every element of the input and of the weights of the queries and keys
is a real number.
-/
module

public import proofs.«01_k».proof.Pre_scores_finite_KernelIdeal
public import Idealize.ShloMosaic.Lib.ReduceAll
public import Idealize.ShloMosaic.Lib.IdealHost
public import Idealize.ShloMosaic.PureOps.Ideal.Laws

@[expose] public section

noncomputable section

namespace Cert.Val

open Cert.Pre_scores_finite_KernelIdeal
open Idealize.ShloMosaic Idealize.ShloMosaic.ValueIdx

/-- The f32 word of plus infinity is the top of the extended reals. -/
theorem ofBits_inf : Ideal.ofBits .f32 0x7F800000#32 = ⊤ := by
  simp [Ideal.ofBits, Ideal.ieee]

/-- An extended real whose absolute value is below infinity is a real number. -/
theorem real_of_abs_lt {x : EReal} (h : Ideal.cmp .olt (max x (-x)) (Ideal.ofBits .f32 0x7F800000#32) = 1#1) : ∃ r : ℝ, x = (r : EReal) := by
  have h' : max x (-x) < ⊤ := by
    by_contra hn
    rw [ofBits_inf] at h
    simp [Ideal.cmp, hn] at h
  have hx : x ≠ ⊤ := fun e => by rw [e] at h'; simp at h'
  have hb : x ≠ ⊥ := fun e => by rw [e] at h'; simp at h'
  exact ⟨x.toReal, (EReal.coe_toReal hx hb).symm⟩

/-- There is one index of a scalar. -/
instance : Subsingleton S_.Idx := ⟨fun a b => funext fun i => i.elim0⟩

/-- If the conjunction of two truth values holds, both hold. -/
theorem and_one {a b : BitVec 1} (h : IntOp.andi a b = 1#1) : a = 1#1 ∧ b = 1#1 := by
  revert a b; decide

variable [Facts]
open Facts

/-- The precondition on one device's arrays makes its part of the input, of the queries' weights and of the keys' real. -/
theorem real_of_pre (x : FVec Ideal S256x1024 .bf16) (wq wk wv wo : FVec Ideal S1024x1024 .bf16) (h : fn (F := Ideal) x wq wk wv wo = fun _ => 1#1) :
    (∀ i, ∃ r : ℝ, x i = (r : EReal)) ∧ (∀ i, ∃ r : ℝ, wq i = (r : EReal)) ∧ ∀ i, ∃ r : ℝ, wk i = (r : EReal) := by
  obtain ⟨h12, h3⟩ := and_one (congrFun h ix0)
  obtain ⟨h1, h2⟩ := and_one h12
  exact ⟨fun i => real_of_abs_lt (Host.reduce_andi_all _ _ _ _ _ h1 i), fun i => real_of_abs_lt (Host.reduce_andi_all _ _ _ _ _ h2 i),
    fun i => real_of_abs_lt (Host.reduce_andi_all _ _ _ _ _ h3 i)⟩

end Cert.Val

end
-- ==== Proof.Val.Softmax.lean ====
/-
The mathematics of one row of the attention, free of any program. Weights taken as powers of the scores and normalised
afterwards give the same average as weights shifted by a real number first: the shift is one positive real factor, which
leaves the numerator and the denominator alike. And a power of two of the scores scaled by 1 / log 2 is the exponential.
-/
module

public import Idealize.ShloMosaic.PureOps.Ideal.Laws
public import Idealize.ShloMosaic.Lib.IdealHost

@[expose] public section

noncomputable section

namespace Cert.Val

open Idealize.ShloMosaic
open scoped BigOperators

/-- A finite sum of real numbers, read as an extended real, is the sum of the terms read so. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A factor that is a real number and not negative goes into a finite sum of extended reals. -/
theorem mul_sum_of_nonneg {ι : Type} (t : Finset ι) {c : ℝ} (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top _) _ _

/-- The average of `v` with the weights `exp s` is the average with the weights `exp (s - M)`: on the left the weighted sum
    is multiplied by the reciprocal of the sum of the weights, on the right it is divided by it. -/
theorem softmax_shift {ι : Type} (t : Finset ι) (ht : t.Nonempty) (s : ι → ℝ) (v : ι → EReal) (M : ℝ) :
    (∑ j ∈ t, ((Real.exp (s j) : ℝ) : EReal) * v j) * Ideal.div 1 (∑ j ∈ t, ((Real.exp (s j) : ℝ) : EReal))
      = Ideal.div (∑ j ∈ t, v j * ((Real.exp (s j - M) : ℝ) : EReal)) (∑ j ∈ t, ((Real.exp (s j - M) : ℝ) : EReal)) := by
  have hL : 0 < ∑ j ∈ t, Real.exp (s j) := Finset.sum_pos (fun _ _ => Real.exp_pos _) ht
  have hL' : ∑ j ∈ t, Real.exp (s j - M) = Real.exp (-M) * ∑ j ∈ t, Real.exp (s j) := by
    rw [Finset.mul_sum]
    exact Finset.sum_congr rfl fun j _ => by rw [← Real.exp_add]; congr 1; ring
  have hL'' : Real.exp (-M) * ∑ j ∈ t, Real.exp (s j) ≠ 0 := (mul_pos (Real.exp_pos _) hL).ne'
  have hN : ∑ j ∈ t, v j * ((Real.exp (s j - M) : ℝ) : EReal)
      = ((Real.exp (-M) : ℝ) : EReal) * ∑ j ∈ t, ((Real.exp (s j) : ℝ) : EReal) * v j := by
    rw [mul_sum_of_nonneg t (Real.exp_pos _).le]
    refine Finset.sum_congr rfl fun j _ => ?_
    rw [← mul_assoc, ← EReal.coe_mul, ← Real.exp_add, mul_comm]
    congr 3; ring
  rw [← coe_sum, ← coe_sum, hL', hN, Ideal.div_coe hL.ne', Ideal.div_coe hL'', one_mul]
  rw [mul_comm ((Real.exp (-M) : ℝ) : EReal), mul_assoc, ← EReal.coe_mul]
  congr 2
  have := (Real.exp_pos (-M)).ne'
  field_simp

/-- A power of two whose exponent is a product of real vectors, the left one scaled by `c / log 2`, is the exponential of
    `c` times their product. -/
theorem exp2_scores {ι : Type} (t : Finset ι) (c : ℝ) (a b : ι → ℝ) :
    Ideal.exp2 (∑ d ∈ t, ((a d : ℝ) : EReal) * ((c * (Real.log 2)⁻¹ : ℝ) : EReal) * ((b d : ℝ) : EReal))
      = ((Real.exp ((∑ d ∈ t, a d * b d) * c) : ℝ) : EReal) := by
  have h : ∑ d ∈ t, ((a d : ℝ) : EReal) * ((c * (Real.log 2)⁻¹ : ℝ) : EReal) * ((b d : ℝ) : EReal)
      = (((Real.log 2)⁻¹ * ((∑ d ∈ t, a d * b d) * c) : ℝ) : EReal) := by
    rw [Finset.sum_mul, Finset.mul_sum, coe_sum]
    refine Finset.sum_congr rfl fun d _ => ?_
    rw [← EReal.coe_mul, ← EReal.coe_mul]
    congr 1; ring
  rw [h, Ideal.exp2_coe]
  congr 1
  have h2 : Real.log 2 ≠ 0 := (Real.log_pos (by norm_num)).ne'
  rw [Real.rpow_eq_pow, Real.rpow_def_of_pos (by norm_num), ← mul_assoc, mul_inv_cancel₀ h2, one_mul]

/-- The greatest of finitely many real numbers, at least one, is a real number. -/
theorem fold_max_real {ι : Type} (t : Finset ι) (ht : t.Nonempty) (f : ι → EReal) (hf : ∀ j, ∃ r : ℝ, f j = (r : EReal)) :
    ∃ r : ℝ, t.fold max ⊥ f = (r : EReal) := by
  classical
  induction t using Finset.induction_on with
  | empty => exact absurd ht (by simp)
  | insert a t ha ih =>
    rw [Finset.fold_insert ha]
    obtain ⟨x, hx⟩ := hf a
    by_cases hte : t.Nonempty
    · obtain ⟨y, hy⟩ := ih hte
      exact ⟨max x y, by rw [hx, hy]; exact (EReal.coe_strictMono.monotone.map_max).symm⟩
    · rw [Finset.not_nonempty_iff_eq_empty.mp hte, Finset.fold_empty]
      exact ⟨x, by rw [hx, max_eq_left bot_le]⟩

/-- A product of two real vectors is a real number. -/
theorem sum_mul_real {ι : Type} (t : Finset ι) (f g : ι → EReal) (hf : ∀ j, ∃ r : ℝ, f j = (r : EReal))
    (hg : ∀ j, ∃ r : ℝ, g j = (r : EReal)) : ∃ r : ℝ, ∑ j ∈ t, f j * g j = (r : EReal) := by
  choose a ha using hf
  choose b hb using hg
  exact ⟨∑ j ∈ t, a j * b j, by rw [coe_sum]; exact Finset.sum_congr rfl fun j _ => by rw [ha, hb, EReal.coe_mul]⟩

end Cert.Val

end
-- ==== Proof.Val.Blocks.lean ====
/-
The kernel's arithmetic on one block, read at an index over the extended reals: the weights of a block of queries and
keys, the sums of the weights, and the weighted values, each as a sum over the block's keys.
-/
module

public import proofs.«01_k».proof.Proof.KI.Vals
public import Idealize.ShloMosaic.Lib.MatmulPlain
public import Idealize.ShloMosaic.Lib.ValueIdx
public import Idealize.ShloMosaic.Lib.Pipeline.Value

@[expose] public section

noncomputable section

namespace Cert.Val

open Cert.KernelIdeal Cert.KernelIdeal.Gen Cert.KernelIdeal.Ring
open Idealize.ShloMosaic Idealize.ShloMosaic.ValueIdx
open scoped BigOperators

section Generic
variable {M N K : ℕ}

/-- A product onto zeros, at an index. -/
theorem matmul_zero_apply {φ₁ φ₂ : FTy} (a : FVec Ideal ⟨2, ![M, K]⟩ φ₁) (b : FVec Ideal ⟨2, ![K, N]⟩ φ₂) (i : Fin M) (j : Fin N) :
    FloatOps.matmul (DotDims.plain M K N) none a b (constant ⟨2, ![M, N]⟩ .f32 0x00000000#32) (ix2 i j)
      = ∑ k : Fin K, a (ix2 i k) * b (ix2 k j) := by
  rw [Ideal.matmul_plain_apply]
  show Ideal.ofBits .f32 0x00000000#32 + _ = _
  rw [Ideal.ofBits_zero_f32, zero_add]

/-- The same where the right factor's rows are multiplied. -/
theorem matmulT_zero_apply {φ₁ φ₂ : FTy} (a : FVec Ideal ⟨2, ![M, K]⟩ φ₁) (b : FVec Ideal ⟨2, ![N, K]⟩ φ₂) (i : Fin M) (j : Fin N) :
    FloatOps.matmul (DotDims.transposedRhs M K N) none a b (constant ⟨2, ![M, N]⟩ .f32 0x00000000#32) (ix2 i j)
      = ∑ k : Fin K, a (ix2 i k) * b (ix2 j k) := by
  rw [Ideal.matmul_transposedRhs_apply]
  show Ideal.ofBits .f32 0x00000000#32 + _ = _
  rw [Ideal.ofBits_zero_f32, zero_add]

/-- A vector read as a column. -/
theorem column_apply {α : Type} (x : (⟨1, ![M]⟩ : Shape).Idx → α) (h : (⟨1, ![M]⟩ : Shape).ShapeCasts ⟨2, ![M, 1]⟩) (i : Fin M) :
    shapeCast ⟨2, ![M, 1]⟩ x h (ix2 i 0) = x (ix1 i) := by
  refine shapeCast_apply x h _ _ ?_
  rw [Shape.rowMajor_val_one, Shape.rowMajor_val_two]
  show i.val = i.val * 1 + 0
  omega

/-- The row sums of an array, as a column. -/
theorem rowSum_apply (x : FVec Ideal ⟨2, ![M, N]⟩ .f32) (h : Shape.Reduces ⟨2, ![M, N]⟩ [1] ⟨1, ![M]⟩)
    (hφ : FKind.Formats .f32) (ha : (0x00000000#32 : BitVec 32) = FKind.add.neutral .f32 hφ)
    (hc : (⟨1, ![M]⟩ : Shape).ShapeCasts ⟨2, ![M, 1]⟩) (i : Fin M) :
    shapeCast ⟨2, ![M, 1]⟩ (multiReduction .add [1] ⟨1, ![M]⟩ x 0x00000000#32 h hφ ha) hc (ix2 i 0) = ∑ j : Fin N, x (ix2 i j) := by
  rw [column_apply, Ideal.multiReduction_add_single]
  refine Finset.sum_congr rfl fun j _ => congrArg x ?_
  funext a
  match a with
  | ⟨0, _⟩ => rfl
  | ⟨1, _⟩ => rfl

end Generic

variable (q k v : FVec Ideal S1024x1024 .bf16)

/-- The weight that query row `I` gives to key row `J` in the head whose columns begin at `c`. -/
def wt (c I J : ℕ) : EReal := Ideal.exp2 (∑ d : Fin 128, q (ix I (c + d.val)) * k (ix J (c + d.val)))

section Weights
variable (r r' c : ℕ)

/-- The weights of 256 query rows and 256 key rows; -/
theorem pay8_apply (i : Fin 256) (j : Fin 256) :
    k0_pay8 (blk S256x128.size r c q) (blk S256x128.size r' c k) (ix2 i j) = wt q k c (r + i.val) (r' + j.val) :=
  congrArg Ideal.exp2 (matmulT_zero_apply (blk S256x128.size r c q) (blk S256x128.size r' c k) i j)
/-- of 256 and 512; -/
theorem pay66_apply (i : Fin 256) (j : Fin 512) :
    k0_pay66 (blk S256x128.size r c q) (blk S512x128.size r' c k) (ix2 i j) = wt q k c (r + i.val) (r' + j.val) :=
  congrArg Ideal.exp2 (matmulT_zero_apply (blk S256x128.size r c q) (blk S512x128.size r' c k) i j)
/-- of 512 and 256; -/
theorem pay96_apply (i : Fin 512) (j : Fin 256) :
    k0_pay96 (blk S512x128.size r c q) (blk S256x128.size r' c k) (ix2 i j) = wt q k c (r + i.val) (r' + j.val) :=
  congrArg Ideal.exp2 (matmulT_zero_apply (blk S512x128.size r c q) (blk S256x128.size r' c k) i j)
/-- of 256 and 768; -/
theorem pay154_apply (i : Fin 256) (j : Fin 768) :
    k0_pay154 (blk S256x128.size r c q) (blk S768x128.size r' c k) (ix2 i j) = wt q k c (r + i.val) (r' + j.val) :=
  congrArg Ideal.exp2 (matmulT_zero_apply (blk S256x128.size r c q) (blk S768x128.size r' c k) i j)
/-- of 256 and all 1024. -/
theorem pay240_apply (i : Fin 256) (j : Fin 1024) :
    k0_pay240 (blk S256x128.size r c q) (blk S1024x128.size r' c k) (ix2 i j) = wt q k c (r + i.val) (r' + j.val) :=
  congrArg Ideal.exp2 (matmulT_zero_apply (blk S256x128.size r c q) (blk S1024x128.size r' c k) i j)

/-- The sums of the weights over 256 key rows; -/
theorem pay9_apply (i : Fin 256) :
    k0_pay9 (blk S256x128.size r c q) (blk S256x128.size r' c k) (ix2 i 0) = ∑ j : Fin 256, wt q k c (r + i.val) (r' + j.val) :=
  (rowSum_apply _ _ _ _ _ i).trans (Finset.sum_congr rfl fun j _ => pay8_apply q k r r' c i j)
/-- over 512; -/
theorem pay67_apply (i : Fin 256) :
    k0_pay67 (blk S256x128.size r c q) (blk S512x128.size r' c k) (ix2 i 0) = ∑ j : Fin 512, wt q k c (r + i.val) (r' + j.val) :=
  (rowSum_apply _ _ _ _ _ i).trans (Finset.sum_congr rfl fun j _ => pay66_apply q k r r' c i j)
/-- over 256, of 512 query rows; -/
theorem pay97_apply (i : Fin 512) :
    k0_pay97 (blk S512x128.size r c q) (blk S256x128.size r' c k) (ix2 i 0) = ∑ j : Fin 256, wt q k c (r + i.val) (r' + j.val) :=
  (rowSum_apply _ _ _ _ _ i).trans (Finset.sum_congr rfl fun j _ => pay96_apply q k r r' c i j)
/-- over 768; -/
theorem pay155_apply (i : Fin 256) :
    k0_pay155 (blk S256x128.size r c q) (blk S768x128.size r' c k) (ix2 i 0) = ∑ j : Fin 768, wt q k c (r + i.val) (r' + j.val) :=
  (rowSum_apply _ _ _ _ _ i).trans (Finset.sum_congr rfl fun j _ => pay154_apply q k r r' c i j)
/-- over all 1024. -/
theorem pay241_apply (i : Fin 256) :
    k0_pay241 (blk S256x128.size r c q) (blk S1024x128.size r' c k) (ix2 i 0) = ∑ j : Fin 1024, wt q k c (r + i.val) (r' + j.val) :=
  (rowSum_apply _ _ _ _ _ i).trans (Finset.sum_congr rfl fun j _ => pay240_apply q k r r' c i j)

/-- The weighted values of 256 key rows; -/
theorem pay10_apply (i : Fin 256) (d : Fin 128) :
    k0_pay10 (blk S256x128.size r c q) (blk S256x128.size r' c k) (blk S256x128.size r' c v) (ix2 i d)
      = ∑ j : Fin 256, wt q k c (r + i.val) (r' + j.val) * v (ix (r' + j.val) (c + d.val)) :=
  (matmul_zero_apply (φ₁ := .bf16) (k0_pay8 (blk S256x128.size r c q) (blk S256x128.size r' c k)) (blk S256x128.size r' c v) i d).trans
    (Finset.sum_congr rfl fun j _ => congrArg (· * v (ix (r' + j.val) (c + d.val))) (pay8_apply q k r r' c i j))
/-- of 512; -/
theorem pay68_apply (i : Fin 256) (d : Fin 128) :
    k0_pay68 (blk S256x128.size r c q) (blk S512x128.size r' c k) (blk S512x128.size r' c v) (ix2 i d)
      = ∑ j : Fin 512, wt q k c (r + i.val) (r' + j.val) * v (ix (r' + j.val) (c + d.val)) :=
  (matmul_zero_apply (φ₁ := .bf16) (k0_pay66 (blk S256x128.size r c q) (blk S512x128.size r' c k)) (blk S512x128.size r' c v) i d).trans
    (Finset.sum_congr rfl fun j _ => congrArg (· * v (ix (r' + j.val) (c + d.val))) (pay66_apply q k r r' c i j))
/-- of 256, for 512 query rows; -/
theorem pay98_apply (i : Fin 512) (d : Fin 128) :
    k0_pay98 (blk S512x128.size r c q) (blk S256x128.size r' c k) (blk S256x128.size r' c v) (ix2 i d)
      = ∑ j : Fin 256, wt q k c (r + i.val) (r' + j.val) * v (ix (r' + j.val) (c + d.val)) :=
  (matmul_zero_apply (φ₁ := .bf16) (k0_pay96 (blk S512x128.size r c q) (blk S256x128.size r' c k)) (blk S256x128.size r' c v) i d).trans
    (Finset.sum_congr rfl fun j _ => congrArg (· * v (ix (r' + j.val) (c + d.val))) (pay96_apply q k r r' c i j))
/-- of 768; -/
theorem pay156_apply (i : Fin 256) (d : Fin 128) :
    k0_pay156 (blk S256x128.size r c q) (blk S768x128.size r' c k) (blk S768x128.size r' c v) (ix2 i d)
      = ∑ j : Fin 768, wt q k c (r + i.val) (r' + j.val) * v (ix (r' + j.val) (c + d.val)) :=
  (matmul_zero_apply (φ₁ := .bf16) (k0_pay154 (blk S256x128.size r c q) (blk S768x128.size r' c k)) (blk S768x128.size r' c v) i d).trans
    (Finset.sum_congr rfl fun j _ => congrArg (· * v (ix (r' + j.val) (c + d.val))) (pay154_apply q k r r' c i j))
/-- of all 1024. -/
theorem pay242_apply (i : Fin 256) (d : Fin 128) :
    k0_pay242 (blk S256x128.size r c q) (blk S1024x128.size r' c k) (blk S1024x128.size r' c v) (ix2 i d)
      = ∑ j : Fin 1024, wt q k c (r + i.val) (r' + j.val) * v (ix (r' + j.val) (c + d.val)) :=
  (matmul_zero_apply (φ₁ := .bf16) (k0_pay240 (blk S256x128.size r c q) (blk S1024x128.size r' c k)) (blk S1024x128.size r' c v) i d).trans
    (Finset.sum_congr rfl fun j _ => congrArg (· * v (ix (r' + j.val) (c + d.val))) (pay240_apply q k r r' c i j))

end Weights

end Cert.Val

end
-- ==== Proof.Val.Heads.lean ====
/-
One head, and one device's eight heads, read at an index over the extended reals: however the keys are cut into blocks,
the kernel gathers the sum over all 1024 key rows.
-/
module

public import proofs.«01_k».proof.Proof.Val.Blocks
public import Idealize.ShloMosaic.Lib.IdealHost

@[expose] public section

noncomputable section

namespace Cert.Val

open Cert.KernelIdeal Cert.KernelIdeal.Gen Cert.KernelIdeal.Ring
open Idealize.ShloMosaic Idealize.ShloMosaic.ValueIdx
open scoped BigOperators

/-- Two neighbouring stretches of a sum are one. -/
theorem stretch (f : ℕ → EReal) (a n m : ℕ) :
    ∑ j : Fin n, f (a + j.val) + ∑ j : Fin m, f (a + n + j.val) = ∑ j : Fin (n + m), f (a + j.val) := by
  rw [Fin.sum_univ_add]
  refine congrArg₂ (· + ·) rfl (Finset.sum_congr rfl fun j _ => ?_)
  rw [Fin.val_natAdd, Nat.add_assoc]

/-- Four stretches of 256; -/
theorem stretch_four (f : ℕ → EReal) :
    ∑ j : Fin 256, f (0 + j.val) + ∑ j : Fin 256, f (256 + j.val) + ∑ j : Fin 256, f (512 + j.val) + ∑ j : Fin 256, f (768 + j.val)
      = ∑ J : Fin 1024, f J.val := by
  have h1 := stretch f 0 256 256
  have h2 := stretch f 0 512 256
  have h3 := stretch f 0 768 256
  simp only [Nat.zero_add, Nat.reduceAdd] at h1 h2 h3 ⊢
  rw [h1, h2, h3]

/-- one of 512 and two of 256; -/
theorem stretch_three (f : ℕ → EReal) :
    ∑ j : Fin 512, f (0 + j.val) + ∑ j : Fin 256, f (512 + j.val) + ∑ j : Fin 256, f (768 + j.val) = ∑ J : Fin 1024, f J.val := by
  have h2 := stretch f 0 512 256
  have h3 := stretch f 0 768 256
  simp only [Nat.zero_add, Nat.reduceAdd] at h2 h3 ⊢
  rw [h2, h3]

/-- one of 768 and one of 256; -/
theorem stretch_two (f : ℕ → EReal) :
    ∑ j : Fin 768, f (0 + j.val) + ∑ j : Fin 256, f (768 + j.val) = ∑ J : Fin 1024, f J.val := by
  have h3 := stretch f 0 768 256
  simp only [Nat.zero_add, Nat.reduceAdd] at h3 ⊢
  rw [h3]

/-- the whole. -/
theorem stretch_one (f : ℕ → EReal) : ∑ j : Fin 1024, f (0 + j.val) = ∑ J : Fin 1024, f J.val := by
  simp only [Nat.zero_add]

variable (q k v wo : FVec Ideal S1024x1024 .bf16) (h : Fin 8)

/-- The upper half of an array of 512 rows, at an index; -/
theorem upper_apply {n : ℕ} {φ : FTy} (x : FVec Ideal ⟨2, ![512, n]⟩ φ) (hs : (⟨2, ![512, n]⟩ : Shape).Slices ![0, 0] ⟨2, ![256, n]⟩)
    (i : Fin 256) (d : Fin n) :
    extractStridedSlice ⟨2, ![256, n]⟩ ![0, 0] x hs (ix2 i d) = x (ix2 ⟨i.val, by omega⟩ d) := by
  refine extractStridedSlice_apply _ x hs _ _ fun a => ?_
  match a with
  | ⟨0, _⟩ => exact (Nat.zero_add _).symm
  | ⟨1, _⟩ => exact (Nat.zero_add _).symm

/-- the lower half. -/
theorem lower_apply {n : ℕ} {φ : FTy} (x : FVec Ideal ⟨2, ![512, n]⟩ φ) (hs : (⟨2, ![512, n]⟩ : Shape).Slices ![256, 0] ⟨2, ![256, n]⟩)
    (i : Fin 256) (d : Fin n) :
    extractStridedSlice ⟨2, ![256, n]⟩ ![256, 0] x hs (ix2 i d) = x (ix2 ⟨256 + i.val, by omega⟩ d) := by
  refine extractStridedSlice_apply _ x hs _ _ fun a => ?_
  match a with
  | ⟨0, _⟩ => rfl
  | ⟨1, _⟩ => exact (Nat.zero_add _).symm

/-- The weighted values that one query row gathers in one head: the sum over all key rows. -/
theorem accOf_apply (u : Fin 4) (i : Fin 256) (d : Fin 128) :
    accOf q k v h u (ix2 i d)
      = ∑ J : Fin 1024, wt q k (128 * h.val) (256 * u.val + i.val) J.val * v (ix J.val (128 * h.val + d.val)) := by
  match u with
  | 0 =>
    refine Eq.trans ?_ (stretch_four fun J => wt q k (128 * h.val) (256 * 0 + i.val) J * v (ix J (128 * h.val + d.val)))
    refine congrArg₂ (· + ·) (congrArg₂ (· + ·) (congrArg₂ (· + ·) ?_ ?_) ?_) ?_
    · exact pay10_apply q k v 0 0 (128 * h.val) i d
    · exact pay10_apply q k v 0 256 (128 * h.val) i d
    · exact (upper_apply _ _ i d).trans (pay98_apply q k v 0 512 (128 * h.val) _ d)
    · exact pay10_apply q k v 0 768 (128 * h.val) i d
  | 1 =>
    refine Eq.trans ?_ (stretch_three fun J => wt q k (128 * h.val) (256 * 1 + i.val) J * v (ix J (128 * h.val + d.val)))
    refine congrArg₂ (· + ·) (congrArg₂ (· + ·) ?_ ?_) ?_
    · exact pay68_apply q k v 256 0 (128 * h.val) i d
    · refine (lower_apply _ _ i d).trans ((pay98_apply q k v 0 512 (128 * h.val) _ d).trans ?_)
      simp only [Nat.zero_add, Nat.mul_one]
    · exact pay10_apply q k v 256 768 (128 * h.val) i d
  | 2 =>
    refine Eq.trans ?_ (stretch_two fun J => wt q k (128 * h.val) (256 * 2 + i.val) J * v (ix J (128 * h.val + d.val)))
    refine congrArg₂ (· + ·) ?_ ?_
    · exact pay156_apply q k v 512 0 (128 * h.val) i d
    · exact pay10_apply q k v 512 768 (128 * h.val) i d
  | 3 =>
    refine Eq.trans ?_ (stretch_one fun J => wt q k (128 * h.val) (256 * 3 + i.val) J * v (ix J (128 * h.val + d.val)))
    exact pay242_apply q k v 768 0 (128 * h.val) i d

/-- The sum of one query row's weights in one head. -/
theorem sumOf_apply (u : Fin 4) (i : Fin 256) :
    sumOf q k h u (ix2 i 0) = ∑ J : Fin 1024, wt q k (128 * h.val) (256 * u.val + i.val) J.val := by
  match u with
  | 0 =>
    refine Eq.trans ?_ (stretch_four fun J => wt q k (128 * h.val) (256 * 0 + i.val) J)
    refine congrArg₂ (· + ·) (congrArg₂ (· + ·) (congrArg₂ (· + ·) ?_ ?_) ?_) ?_
    · exact pay9_apply q k 0 0 (128 * h.val) i
    · exact pay9_apply q k 0 256 (128 * h.val) i
    · exact (upper_apply _ _ i 0).trans (pay97_apply q k 0 512 (128 * h.val) _)
    · exact pay9_apply q k 0 768 (128 * h.val) i
  | 1 =>
    refine Eq.trans ?_ (stretch_three fun J => wt q k (128 * h.val) (256 * 1 + i.val) J)
    refine congrArg₂ (· + ·) (congrArg₂ (· + ·) ?_ ?_) ?_
    · exact pay67_apply q k 256 0 (128 * h.val) i
    · refine (lower_apply _ _ i 0).trans ((pay97_apply q k 0 512 (128 * h.val) _).trans ?_)
      simp only [Nat.zero_add, Nat.mul_one]
    · exact pay9_apply q k 256 768 (128 * h.val) i
  | 2 =>
    refine Eq.trans ?_ (stretch_two fun J => wt q k (128 * h.val) (256 * 2 + i.val) J)
    refine congrArg₂ (· + ·) ?_ ?_
    · exact pay155_apply q k 512 0 (128 * h.val) i
    · exact pay9_apply q k 512 768 (128 * h.val) i
  | 3 =>
    refine Eq.trans ?_ (stretch_one fun J => wt q k (128 * h.val) (256 * 3 + i.val) J)
    exact pay241_apply q k 768 0 (128 * h.val) i

/-- One head's average of the values, at query row `I` and column `d`. -/
def avg (c I d : ℕ) : EReal :=
  (∑ J : Fin 1024, wt q k c I J.val * v (ix J.val (c + d))) * Ideal.div 1 (∑ J : Fin 1024, wt q k c I J.val)

/-- The normalised output: the weighted values times the reciprocal of the sum of the weights. -/
theorem pay207_apply (a : FVec Ideal S256x128 .f32) (s : FVec Ideal S256x1 .f32) (i : Fin 256) (d : Fin 128) :
    k0_pay207 a s (ix2 i d) = a (ix2 i d) * Ideal.div 1 (s (ix2 i 0)) := by
  refine congrArg (a (ix2 i d) * ·) ?_
  refine (broadcastTo_apply _ broadcasts_S256x1_S256x128 (ix2 i d) (ix2 i 0) fun a => ?_).trans ?_
  · match a with
    | ⟨0, _⟩ => rfl
    | ⟨1, _⟩ => rfl
  · refine congrArg (fun o => Ideal.div o (s (ix2 i 0))) ?_
    exact Ideal.ofBits_one_f32

/-- One head's output through its rows of the output projection. -/
theorem headOut_apply (u : Fin 4) (i : Fin 256) (n : Fin 1024) :
    headOut q k v h wo u (ix2 i n)
      = ∑ d : Fin 128, avg q k v (128 * h.val) (256 * u.val + i.val) d.val * wo (ix (128 * h.val + d.val) n.val) := by
  refine (matmul_zero_apply (φ₁ := .bf16) (φ₂ := .bf16) _ _ i n).trans (Finset.sum_congr rfl fun d _ => congrArg₂ (· * ·) ?_ ?_)
  · refine (pay207_apply _ _ i d).trans ?_
    rw [accOf_apply, sumOf_apply]
    rfl
  · refine extractStridedSlice_apply _ wo _ _ _ fun a => ?_
    match a with
    | ⟨0, _⟩ =>
      have := h.isLt
      have := d.isLt
      have hlt : 128 * h.val + d.val < 1024 := by omega
      exact Nat.mod_eq_of_lt hlt
    | ⟨1, _⟩ => exact (Nat.mod_eq_of_lt n.isLt).trans (Nat.zero_add _).symm

/-- The eight heads together. -/
theorem partOut_apply (u : Fin 4) (i : Fin 256) (n : Fin 1024) :
    partOut q k v wo u (ix2 i n)
      = ∑ h : Fin 8, ∑ d : Fin 128, avg q k v (128 * h.val) (256 * u.val + i.val) d.val * wo (ix (128 * h.val + d.val) n.val) := by
  rw [Fin.sum_univ_eight]
  simp only [← headOut_apply]
  have hz : (k0_pay206 (F := Ideal)) (ix2 i n) = 0 := Ideal.ofBits_zero_f32
  refine (show partOut q k v wo u (ix2 i n) = (k0_pay206 (F := Ideal)) (ix2 i n) + headOut q k v 0 wo u (ix2 i n)
    + headOut q k v 1 wo u (ix2 i n)
    + headOut q k v 2 wo u (ix2 i n)
    + headOut q k v 3 wo u (ix2 i n)
    + headOut q k v 4 wo u (ix2 i n)
    + headOut q k v 5 wo u (ix2 i n)
    + headOut q k v 6 wo u (ix2 i n)
    + headOut q k v 7 wo u (ix2 i n) from rfl).trans ?_
  rw [hz, zero_add]

end Cert.Val

end
-- ==== Proof.Val.Device.lean ====
/-
One device's queries, keys and values in terms of the whole arrays: the device's projected rows are rows of the whole
projections, in the device's own order, and a sum over all its rows is a sum over all the rows.
-/
module

public import proofs.«01_k».proof.Proof.Val.Heads
public import proofs.«01_k».proof.Proof.KI.Proto

@[expose] public section

noncomputable section

namespace Cert.Val

open Cert.KernelIdeal Cert.KernelIdeal.Gen Cert.KernelIdeal.Ring
open Idealize.ShloMosaic Idealize.ShloMosaic.ValueIdx
open scoped BigOperators

/-- The index of row `i` and column `j`, each taken round at the array's extent. -/
def jx {a b : ℕ} [NeZero a] [NeZero b] (i j : ℕ) : (⟨2, ![a, b]⟩ : Shape).Idx := ix2 (Fin.ofNat a i) (Fin.ofNat b j)

/-- Indices within the extents are themselves. -/
theorem jx_eq {a b : ℕ} [NeZero a] [NeZero b] (i : Fin a) (j : Fin b) : (jx i.val j.val : (⟨2, ![a, b]⟩ : Shape).Idx) = ix2 i j := by
  unfold jx
  rw [Fin.ofNat_eq_cast, Fin.ofNat_eq_cast, Fin.cast_val_eq_self, Fin.cast_val_eq_self]

/-- The whole arrays. -/
structure Arrays where
  X : FVec Ideal ⟨2, ![1024, 1024]⟩ .bf16
  WQ : FVec Ideal ⟨2, ![1024, 4096]⟩ .bf16
  WK : FVec Ideal ⟨2, ![1024, 4096]⟩ .bf16
  WV : FVec Ideal ⟨2, ![1024, 4096]⟩ .bf16
  WO : FVec Ideal ⟨2, ![4096, 1024]⟩ .bf16

/-- The devices hold the whole arrays: the input and the output projection cut by rows, the other three by columns. -/
structure Holds (I : Ins Ideal) (A : Arrays) : Prop where
  x : ∀ (c : Dev nD) (i : Fin 256) (k : Fin 1024), I.X c (ix2 i k) = A.X (jx (256 * c.val + i.val) k.val)
  wq : ∀ (c : Dev nD) (k n : Fin 1024), I.WQ c (ix2 k n) = A.WQ (jx k.val (1024 * c.val + n.val))
  wk : ∀ (c : Dev nD) (k n : Fin 1024), I.WK c (ix2 k n) = A.WK (jx k.val (1024 * c.val + n.val))
  wv : ∀ (c : Dev nD) (k n : Fin 1024), I.WV c (ix2 k n) = A.WV (jx k.val (1024 * c.val + n.val))
  wo : ∀ (c : Dev nD) (r n : Fin 1024), I.WO c (ix2 r n) = A.WO (jx (1024 * c.val + r.val) n.val)

/-- Row `R` of the input through column `C` of a projection. -/
def proj (X : FVec Ideal ⟨2, ![1024, 1024]⟩ .bf16) (W : FVec Ideal ⟨2, ![1024, 4096]⟩ .bf16) (R C : ℕ) : EReal :=
  ∑ k : Fin 1024, X (jx R k.val) * W (jx k.val C)

/-- The factor that scales the queries. -/
def kap : EReal := (((11863283 / 134217728) * (Real.log 2)⁻¹ : ℝ) : EReal)

/-- The row of the whole sequence that device `p` numbers `J`. -/
def rho (p : Dev nD) (J : ℕ) : ℕ := 256 * (src p (Fin.ofNat 4 (J / 256))).val + J % 256

/-- An index within the extents, coordinate by coordinate. -/
theorem ix_eq {i j : ℕ} (hi : i < 1024) (hj : j < 1024) : ix i j = ix2 ⟨i, hi⟩ ⟨j, hj⟩ := by
  funext a
  match a with
  | ⟨0, _⟩ => exact Fin.ext (Nat.mod_eq_of_lt hi)
  | ⟨1, _⟩ => exact Fin.ext (Nat.mod_eq_of_lt hj)

/-- Four chunks of rows, read at an index. -/
theorem rows4_apply (y : Fin 4 → FVec Ideal S256x1024 .bf16) {i j : ℕ} (hi : i < 1024) (hj : j < 1024) :
    rows4 y (ix i j) = y (Fin.ofNat 4 (i / 256)) (ix2 ⟨i % 256, Nat.mod_lt _ (by decide)⟩ ⟨j, hj⟩) := by
  rw [ix_eq hi hj]
  refine congrArg₂ (fun t x => y t x) (Fin.ext ?_) ?_
  · have h4 : i / 256 < 4 := by omega
    exact (Nat.mod_eq_of_lt h4).symm
  · funext a
    match a with
    | ⟨0, _⟩ => rfl
    | ⟨1, _⟩ => rfl

/-- A chunk's keys or values, at an index; -/
theorem pay6_apply (w : FVec Ideal S1024x1024 .bf16) (x : FVec Ideal S256x1024 .bf16) (i : Fin 256) (n : Fin 1024) :
    k0_pay6 w x (ix2 i n) = ∑ k : Fin 1024, x (ix2 i k) * w (ix2 k n) := by
  unfold k0_pay6
  simp only [shapeCast_self]
  exact matmul_zero_apply x w i n

/-- a chunk's queries. -/
theorem pay32_apply (w : FVec Ideal S1024x1024 .bf16) (x : FVec Ideal S256x1024 .bf16) (i : Fin 256) (n : Fin 1024) :
    k0_pay32 w x (ix2 i n) = (∑ k : Fin 1024, x (ix2 i k) * w (ix2 k n)) * kap := by
  refine congrArg₂ (· * ·) (matmul_zero_apply x w i n) ?_
  exact IdealRules.named_const.ideal_named_scalar _ _ _ _ rfl

/-- The casts to the same shape change nothing. -/
theorem pay1_eq (x : FVec Ideal S256x1024 .bf16) : k0_pay1 x = x := by unfold k0_pay1; simp only [shapeCast_self]
/-- The kernel's cast of the query weights changes nothing over the reals; -/
theorem pay2_eq (x : FVec Ideal S1024x1024 .bf16) : k0_pay2 x = x := by unfold k0_pay2; simp only [shapeCast_self]
/-- nor does that of the key weights, -/
theorem pay3_eq (x : FVec Ideal S1024x1024 .bf16) : k0_pay3 x = x := by unfold k0_pay3; simp only [shapeCast_self]
/-- of the value weights, -/
theorem pay4_eq (x : FVec Ideal S1024x1024 .bf16) : k0_pay4 x = x := by unfold k0_pay4; simp only [shapeCast_self]
/-- or of the output weights. -/
theorem pay91_eq (x : FVec Ideal S1024x1024 .bf16) : k0_pay91 x = x := by unfold k0_pay91; simp only [shapeCast_self]

variable {I : Ins Ideal} {A : Arrays} (H : Holds I A)
include H

/-- Row by row of a chunk, what a projection of it reads. -/
theorem chunk_sum (p : Dev nD) (J n : ℕ) (W : FVec Ideal S1024x1024 .bf16) (W' : FVec Ideal ⟨2, ![1024, 4096]⟩ .bf16) (hn : n < 1024)
    (hW : ∀ k n : Fin 1024, W (ix2 k n) = W' (jx k.val (1024 * p.val + n.val))) :
    ∑ k : Fin 1024, xc I (src p (Fin.ofNat 4 (J / 256))) (ix2 ⟨J % 256, Nat.mod_lt _ (by decide)⟩ k) * W (ix2 k ⟨n, hn⟩)
      = proj A.X W' (rho p J) (1024 * p.val + n) := by
  refine Finset.sum_congr rfl fun k _ => congrArg₂ (· * ·) ?_ (hW k ⟨n, hn⟩)
  unfold xc
  rw [pay1_eq, H.x]
  rfl

/-- A device's queries; -/
theorem qOn_apply (p : Dev nD) {J n : ℕ} (hJ : J < 1024) (hn : n < 1024) :
    qOn I p (ix J n) = proj A.X A.WQ (rho p J) (1024 * p.val + n) * kap := by
  unfold qOn qOf
  rw [rows4_apply _ hJ hn, pay32_apply, pay2_eq]
  exact congrArg (· * kap) (chunk_sum H p J n _ A.WQ hn (H.wq p))

/-- its keys; -/
theorem kOn_apply (p : Dev nD) {J n : ℕ} (hJ : J < 1024) (hn : n < 1024) :
    kOn I p (ix J n) = proj A.X A.WK (rho p J) (1024 * p.val + n) := by
  unfold kOn kOf
  rw [rows4_apply _ hJ hn, pay6_apply, pay3_eq]
  exact chunk_sum H p J n _ A.WK hn (H.wk p)

/-- its values; -/
theorem vOn_apply (p : Dev nD) {J n : ℕ} (hJ : J < 1024) (hn : n < 1024) :
    vOn I p (ix J n) = proj A.X A.WV (rho p J) (1024 * p.val + n) := by
  unfold vOn kOf
  rw [rows4_apply _ hJ hn, pay6_apply, pay4_eq]
  exact chunk_sum H p J n _ A.WV hn (H.wv p)

/-- its rows of the output projection. -/
theorem wo_apply (p : Dev nD) {r n : ℕ} (hr : r < 1024) (hn : n < 1024) :
    k0_pay91 (I.WO p) (ix r n) = A.WO (jx (1024 * p.val + r) n) := by
  rw [ix_eq hr hn, pay91_eq]
  exact H.wo p ⟨r, hr⟩ ⟨n, hn⟩

end Cert.Val

end
-- ==== Proof.Val.Gather.lean ====
/-
What a device returns is the sum of the four devices' contributions to its chunk: the last loop adds each device's
contribution times one, its own times zero, onto its own.
-/
module

public import proofs.«01_k».proof.Proof.KI.Finish
public import Idealize.ShloMosaic.PureOps.Ideal.Laws
public import Idealize.ShloMosaic.Lib.ValueIdxCore

@[expose] public section

noncomputable section

namespace Cert.Val

open Cert.KernelIdeal Cert.KernelIdeal.Gen Cert.KernelIdeal.Ring
open Idealize.ShloMosaic Idealize.ShloMosaic.ValueIdx
open scoped BigOperators

/-- The mark of a device for contribution 0: zero for the device itself, one otherwise; -/
theorem mark0 (c : Dev nD) : (Scalar.extui (Scalar.cmpi .ne (word c) 0#32) : BitVec 32) = if c = (0 : Fin 4) then 0#32 else 1#32 := by
  revert c; decide
/-- for contribution 1; -/
theorem mark1 (c : Dev nD) : (Scalar.extui (Scalar.cmpi .ne (word c) 1#32) : BitVec 32) = if c = (1 : Fin 4) then 0#32 else 1#32 := by
  revert c; decide
/-- for contribution 2; -/
theorem mark2 (c : Dev nD) : (Scalar.extui (Scalar.cmpi .ne (word c) 2#32) : BitVec 32) = if c = (2 : Fin 4) then 0#32 else 1#32 := by
  revert c; decide
/-- for contribution 3. -/
theorem mark3 (c : Dev nD) : (Scalar.extui (Scalar.cmpi .ne (word c) 3#32) : BitVec 32) = if c = (3 : Fin 4) then 0#32 else 1#32 := by
  revert c; decide

/-- A mark as a number. -/
def num (b : BitVec 32) : EReal := ((b.toInt : ℝ) : EReal)

/-- The word 0 becomes the number 0. -/
theorem num_zero : num 0#32 = 0 := by simp [num]
/-- The word 1 becomes the number 1. -/
theorem num_one : num 1#32 = 1 := by
  have h : (1#32 : BitVec 32).toInt = 1 := by decide
  simp [num, h]

/-- What the last loop computes at an index, from its five arrays. -/
theorem pay301_apply (w : BitVec 32) (a : FVec Ideal S256x1024 .f32) (y0 y1 y2 y3 : FVec Ideal S256x1024 .bf16) (i : S256x1024.Idx) :
    k0_pay301 w a (k0_pay299 y0) (k0_pay300 w) y1 y2 y3 i
      = a i + num (Scalar.extui (Scalar.cmpi .ne w 0#32)) * y0 i + num (Scalar.extui (Scalar.cmpi .ne w 1#32)) * y1 i
        + num (Scalar.extui (Scalar.cmpi .ne w 2#32)) * y2 i + num (Scalar.extui (Scalar.cmpi .ne w 3#32)) * y3 i := rfl

variable (I : Ins Ideal)

/-- What device `c` returns, at an index: the sum of the four contributions to its chunk. -/
theorem outOf_apply (c : Dev nD) (i : S256x1024.Idx) : outOf I c i = ∑ p : Fin 4, yOn I p (slot c p) i := by
  refine (pay301_apply (word c) (k0_pay298 (yOn I c 0)) (yOn I (0 : Fin 4) (slot c (0 : Fin 4))) (yOn I (1 : Fin 4) (slot c (1 : Fin 4)))
    (yOn I (2 : Fin 4) (slot c (2 : Fin 4))) (yOn I (3 : Fin 4) (slot c (3 : Fin 4))) i).trans ?_
  rw [mark0, mark1, mark2, mark3, Fin.sum_univ_four]
  have hown : k0_pay298 (yOn I c 0) i = yOn I c (slot c c) i := by rw [slot_self]; rfl
  rw [hown]
  have hc : c = (0 : Fin 4) ∨ c = (1 : Fin 4) ∨ c = (2 : Fin 4) ∨ c = (3 : Fin 4) := by clear hown; revert c; decide
  rcases hc with rfl | rfl | rfl | rfl
  · rw [if_pos rfl, if_neg (by decide), if_neg (by decide), if_neg (by decide), num_zero, num_one]
    simp only [zero_mul, one_mul, add_zero]
  · rw [if_neg (by decide), if_pos rfl, if_neg (by decide), if_neg (by decide), num_zero, num_one]
    simp only [zero_mul, one_mul, add_zero]
    exact congrArg (· + _) (congrArg (· + _) (add_comm _ _))
  · rw [if_neg (by decide), if_neg (by decide), if_pos rfl, if_neg (by decide), num_zero, num_one]
    simp only [zero_mul, one_mul, add_zero]
    exact congrArg (· + _) ((add_assoc _ _ _).trans (add_comm _ _))
  · rw [if_neg (by decide), if_neg (by decide), if_neg (by decide), if_pos rfl, num_zero, num_one]
    simp only [zero_mul, one_mul, add_zero]
    rw [add_assoc, add_assoc, add_comm, ← add_assoc]

end Cert.Val

end
-- ==== Proof.Val.Kernel.lean ====
/-
What the kernel returns, at an index, in terms of the whole arrays: the sum over the 32 heads and their 128 columns of the
head's average of the values times the output projection.
-/
module

public import proofs.«01_k».proof.Proof.Val.Device
public import proofs.«01_k».proof.Proof.Val.Gather

@[expose] public section

noncomputable section

namespace Cert.Val

open Cert.KernelIdeal Cert.KernelIdeal.Gen Cert.KernelIdeal.Ring
open Idealize.ShloMosaic Idealize.ShloMosaic.ValueIdx
open scoped BigOperators

/-- A sum cut into `a` runs of `b` terms. -/
theorem sum_runs (a b : ℕ) (f : ℕ → EReal) :
    ∑ r : Fin (a * b), f r.val = ∑ i : Fin a, ∑ j : Fin b, f (b * i.val + j.val) := by
  rw [← finProdFinEquiv.sum_comp, Fintype.sum_prod_type]
  refine Finset.sum_congr rfl fun i _ => Finset.sum_congr rfl fun j _ => congrArg f ?_
  show j.val + b * i.val = _
  exact Nat.add_comm _ _

/-- The chunks of tokens that a device sees are all four, once each. -/
theorem src_bijective (p : Dev nD) : Function.Bijective (src p) := by
  refine Finite.injective_iff_bijective.mp ?_
  have h : ∀ (p : Fin 4) (a b : Fin 4), src p a = src p b → a = b := by decide
  exact fun a b hab => h p a b hab

/-- The chunk of device `c` is the one that device `p` keeps in the place it has for `c`. -/
theorem src_slot (c p : Dev nD) : src p (slot c p) = c := by revert c p; decide

/-- Row `j` of a device's chunk `t` is row `j` of the chunk of that chunk's source. -/
theorem rho_chunk (p : Dev nD) (t : Fin 4) (j : Fin 256) : rho p (256 * t.val + j.val) = 256 * (src p t).val + j.val := by
  have h1 : (256 * t.val + j.val) / 256 = t.val := by have := j.isLt; omega
  have h2 : (256 * t.val + j.val) % 256 = j.val := by have := j.isLt; omega
  have h3 : Fin.ofNat 4 t.val = t := Fin.ext (Nat.mod_eq_of_lt t.isLt)
  unfold rho
  rw [h1, h2, h3]

/-- A sum over a device's rows, in its own order, is the sum over the rows in order. -/
theorem sum_rho (p : Dev nD) (f : ℕ → EReal) : ∑ J : Fin 1024, f (rho p J.val) = ∑ S : Fin 1024, f S.val := by
  have h1 := sum_runs 4 256 fun J => f (rho p J)
  have h2 := sum_runs 4 256 f
  refine h1.trans (Eq.trans ?_ h2.symm)
  rw [← (src_bijective p).sum_comp fun i : Fin 4 => ∑ j : Fin 256, f (256 * i.val + j.val)]
  exact Finset.sum_congr rfl fun t _ => Finset.sum_congr rfl fun j _ => congrArg f (rho_chunk p t j)

variable (A : Arrays)

/-- The weight that row `R` gives to row `S` in head `H`; -/
def kwt (H R S : ℕ) : EReal :=
  Ideal.exp2 (∑ d : Fin 128, proj A.X A.WQ R (128 * H + d.val) * kap * proj A.X A.WK S (128 * H + d.val))

/-- the head's average of column `d` of the values. -/
def kavg (H R d : ℕ) : EReal :=
  (∑ S : Fin 1024, kwt A H R S.val * proj A.X A.WV S.val (128 * H + d)) * Ideal.div 1 (∑ S : Fin 1024, kwt A H R S.val)

variable {A} {I : Ins Ideal} (H : Holds I A)
include H

/-- A device's weights are those of the whole arrays, at its own heads and rows; -/
theorem wt_on (p : Dev nD) (h : Fin 8) {r J : ℕ} (hr : r < 1024) (hJ : J < 1024) :
    wt (qOn I p) (kOn I p) (128 * h.val) r J = kwt A (8 * p.val + h.val) (rho p r) (rho p J) := by
  refine congrArg Ideal.exp2 (Finset.sum_congr rfl fun d _ => ?_)
  have hn : 128 * h.val + d.val < 1024 := by have := h.isLt; have := d.isLt; omega
  have e : 1024 * p.val + (128 * h.val + d.val) = 128 * (8 * p.val + h.val) + d.val := by ring
  rw [qOn_apply H p hr hn, kOn_apply H p hJ hn, e]

/-- and so are its averages. -/
theorem avg_on (p : Dev nD) (h : Fin 8) {r : ℕ} (hr : r < 1024) (d : Fin 128) :
    avg (qOn I p) (kOn I p) (vOn I p) (128 * h.val) r d.val = kavg A (8 * p.val + h.val) (rho p r) d.val := by
  have hn : 128 * h.val + d.val < 1024 := by have := h.isLt; have := d.isLt; omega
  have e : 1024 * p.val + (128 * h.val + d.val) = 128 * (8 * p.val + h.val) + d.val := by ring
  refine congrArg₂ (fun a b => a * Ideal.div 1 b) ?_ ?_
  · refine Eq.trans (Finset.sum_congr rfl fun J _ => ?_)
      (sum_rho p fun S => kwt A (8 * p.val + h.val) (rho p r) S * proj A.X A.WV S (128 * (8 * p.val + h.val) + d.val))
    rw [wt_on H p h hr J.isLt, vOn_apply H p J.isLt hn, e]
  · refine Eq.trans (Finset.sum_congr rfl fun J _ => ?_) (sum_rho p fun S => kwt A (8 * p.val + h.val) (rho p r) S)
    exact wt_on H p h hr J.isLt

/-- What device `c` returns, at row `i` of its chunk and column `n`. -/
theorem kernel_apply (c : Dev nD) (i : Fin 256) (n : Fin 1024) :
    outOf I c (ix2 i n)
      = ∑ h : Fin 32, ∑ d : Fin 128, kavg A h.val (256 * c.val + i.val) d.val * A.WO (jx (128 * h.val + d.val) n.val) := by
  refine (outOf_apply I c _).trans ?_
  refine Eq.trans ?_ (sum_runs 4 8 fun h =>
    ∑ d : Fin 128, kavg A h (256 * c.val + i.val) d.val * A.WO (jx (128 * h + d.val) n.val)).symm
  refine Finset.sum_congr rfl fun p _ => ?_
  refine (partOut_apply _ _ _ _ _ i n).trans ?_
  refine Finset.sum_congr rfl fun h _ => Finset.sum_congr rfl fun d _ => ?_
  have hr : 256 * (slot c p).val + i.val < 1024 := by have := (slot c p).isLt; have := i.isLt; omega
  have hn : 128 * h.val + d.val < 1024 := by have := h.isLt; have := d.isLt; omega
  have e : 1024 * p.val + (128 * h.val + d.val) = 128 * (8 * p.val + h.val) + d.val := by ring
  rw [avg_on H p h hr d, wo_apply H p hn n.isLt, rho_chunk, src_slot, e]

end Cert.Val

end
-- ==== Proof.Val.Reference.lean ====
/-
What the reference returns, at an index, in terms of the whole arrays: the sum over the 32 heads and their 128 columns of
the head's softmax average of the values times the output projection. The reference's composed term is taken stage by stage.
-/
module

public import proofs.«01_k».proof.Proof.Val.Device
public import proofs.«01_k».proof.Proof.Gen.ReferenceIdeal.Run
public import Idealize.ShloMosaic.Lib.StackMember
public import Idealize.ShloMosaic.Lib.IdealHost

@[expose] public section

noncomputable section

namespace Cert.Val

open Cert.ReferenceIdeal Cert.ReferenceIdeal.Gen
open Idealize.ShloMosaic Idealize.ShloMosaic.ValueIdx
open scoped BigOperators

/-! ## The stages -/

section Stages
variable (A : Arrays)

/-- The input through a projection, cut into heads; -/
def rproj (W : FVec Ideal S1024x4096 .bf16) : FVec Ideal S1024x32x128 .bf16 :=
  shapeCast _ (truncf .bf16 (Host.dotGeneral (φ₁ := .bf16) (φ₂ := .bf16) dot_S1024x1024_S1024x4096_S1024x4096_1_0_0_1_n_n none A.X W) bitsLt_bf16_f32)
    shapeCasts_S1024x4096_S1024x32x128
/-- the scores; -/
def rsc : FVec Ideal S32x1024x1024 .f32 :=
  mulf (extf .f32 (truncf .bf16 (Host.dotGeneral dot_S1024x32x128_S1024x32x128_S32x1024x1024_2_2_0_0_1_1 none (rproj A A.WQ) (rproj A A.WK)) bitsLt_bf16_f32) bitsLt_bf16_f32)
    (broadcastInDim S32x1024x1024 ![] bcast_S_S32x1024x1024 (constant S_ .f32 0x3DB504F3#32))
/-- the greatest score of each row; -/
def rmx : FVec Ideal S32x1024 .f32 :=
  Host.reduce FloatOps.maximumf (rsc A) (constant (F := Ideal) S_ .f32 0xFF800000#32) reducesTo_S32x1024x1024_S32x1024_d2 h_S_
/-- the weights; -/
def rwt : FVec Ideal S32x1024x1024 .f32 :=
  Host.exp (subf (rsc A) (broadcastInDim S32x1024x1024 ![0, 1, 2] bcast_S32x1024x1_S32x1024x1024_0_1_2
    (broadcastInDim S32x1024x1 ![0, 1] bcast_S32x1024_S32x1024x1_0_1 (rmx A))))
/-- their sums; -/
def rsm : FVec Ideal S32x1024 .f32 :=
  Host.reduceAdd (rwt A) (constant S_ .f32 0x00000000#32) reducesTo_S32x1024x1024_S32x1024_d2 h_S_
/-- the weighted values; -/
def rnum : FVec Ideal S32x128x1024 .f32 :=
  Host.dotGeneral (φ₁ := .f32) (φ₂ := .f32) dot_S1024x32x128_S32x1024x1024_S32x128x1024_0_2_2_1_1_0 none (extf .f32 (rproj A A.WV) bitsLt_bf16_f32) (rwt A)
/-- the averages; -/
def rav : FVec Ideal S1024x32x128 .f32 :=
  Host.divf (transpose S1024x32x128 [2, 0, 1] (rnum A) transposes_S32x128x1024_S1024x32x128_2_0_1)
    (broadcastInDim S1024x32x128 ![0, 1, 2] bcast_S1024x32x1_S1024x32x128_0_1_2
      (transpose S1024x32x1 [1, 0, 2] (broadcastInDim S32x1024x1 ![0, 1] bcast_S32x1024_S32x1024x1_0_1 (rsm A))
        transposes_S32x1024x1_S1024x32x1_1_0_2))
/-- the output. -/
def rout : FVec Ideal S1024x1024 .f32 :=
  Host.dotGeneral (φ₁ := .f32) (φ₂ := .f32) dot_S1024x4096_S4096x1024_S1024x1024_1_0_0_1_n_n none
    (shapeCast _ (rav A) shapeCasts_S1024x32x128_S1024x4096) (extf .f32 A.WO bitsLt_bf16_f32)

end Stages

open Idealize.ShloMosaic.TcCoe in
/-- The arrays that device `c` of the reference holds. -/
def held (m : (ℓ : Loc nD τ sig) → Buf (Elt Ideal) ℓ) (c : Dev nD) : Arrays where
  X := m ((c.tc : Thread nD τ).loc main_arg0)
  WQ := m ((c.tc : Thread nD τ).loc main_arg1)
  WK := m ((c.tc : Thread nD τ).loc main_arg2)
  WV := m ((c.tc : Thread nD τ).loc main_arg3)
  WO := m ((c.tc : Thread nD τ).loc main_arg4)

/-- The reference's composed term is the last stage. -/
theorem rout_held (m : (ℓ : Loc nD τ sig) → Buf (Elt Ideal) ℓ) (c : Dev nD) : Value.res_main_v29 (F := Ideal) m c = rout (held m c) := rfl

/-! ## The stages at an index -/

/-- The factor that scales the reference's scores. -/
def csc : ℝ := 11863283 / 134217728

/-- The reference's f32 factor is exactly the fraction `csc`. -/
theorem ofBits_scale : Ideal.ofBits .f32 0x3DB504F3#32 = ((csc : ℝ) : EReal) := by
  simp [csc, Ideal.ofBits, Ideal.ieee, -EReal.coe_mul]; norm_num

/-- The f32 word of minus infinity is the bottom of the extended reals. -/
theorem ofBits_neg_inf : Ideal.ofBits .f32 0xFF800000#32 = ⊥ := by
  simp [Ideal.ofBits, Ideal.ieee]

variable (A : Arrays)

/-- The score of row `R` with row `S` in head `H`; -/
def rscore (H R S : ℕ) : EReal :=
  (∑ d : Fin 128, proj A.X A.WQ R (128 * H + d.val) * proj A.X A.WK S (128 * H + d.val)) * ((csc : ℝ) : EReal)
/-- the greatest of a row; -/
def rmax (H R : ℕ) : EReal := (Finset.univ : Finset (Fin 1024)).fold max ⊥ fun S => rscore A H R S.val
/-- the weight; -/
def rexp (H R S : ℕ) : EReal := Ideal.exp (rscore A H R S - rmax A H R)
/-- the average of column `d` of the values. -/
def ravg (H R d : ℕ) : EReal :=
  Ideal.div (∑ S : Fin 1024, proj A.X A.WV S.val (128 * H + d) * rexp A H R S.val) (∑ S : Fin 1024, rexp A H R S.val)

/-- An entry of a projection: head `h`, feature `d` of token `r`. -/
theorem rproj_apply (W : FVec Ideal S1024x4096 .bf16) (r : Fin 1024) (h : Fin 32) (d : Fin 128) :
    rproj A W (ix3 r h d) = proj A.X W r.val (128 * h.val + d.val) := by
  have hn : 128 * h.val + d.val < 4096 := by have := h.isLt; have := d.isLt; omega
  unfold rproj
  refine (shapeCast_apply _ shapeCasts_S1024x4096_S1024x32x128 (ix3 r h d) (ix2 r ⟨128 * h.val + d.val, hn⟩) ?_).trans ?_
  · rw [Shape.rowMajor_val_two, Shape.rowMajor_val_three]
    show r.val * 4096 + (128 * h.val + d.val) = (r.val * 32 + h.val) * 128 + d.val
    ring
  · refine (StackMember.dotGeneral_plain_apply (φ₁ := .bf16) (φ₂ := .bf16) none A.X W r ⟨128 * h.val + d.val, hn⟩).trans ?_
    refine Finset.sum_congr rfl fun k _ => ?_
    rw [jx_eq r k, ← jx_eq k (⟨128 * h.val + d.val, hn⟩ : Fin 4096)]

/-- An entry of the scaled scores. -/
theorem rsc_apply (h : Fin 32) (r s : Fin 1024) : rsc A (ix3 h r s) = rscore A h.val r.val s.val := by
  refine congrArg₂ (· * ·) ?_ ofBits_scale
  show Host.dotGeneral dot_S1024x32x128_S1024x32x128_S32x1024x1024_2_2_0_0_1_1 none (rproj A A.WQ) (rproj A A.WK) (ix3 h r s) = _
  unfold Host.dotGeneral
  rw [Ideal.dotGeneral_apply, ← Equiv.sum_comp (contrEquiv1 dot_S1024x32x128_S1024x32x128_S32x1024x1024_2_2_0_0_1_1 128 rfl rfl).symm]
  refine Finset.sum_congr rfl fun d _ => congrArg₂ (· * ·) ?_ ?_
  · refine Eq.trans (congrArg (rproj A A.WQ) ?_) (rproj_apply A A.WQ r h d)
    funext a
    match a with
    | ⟨0, _⟩ => rfl
    | ⟨1, _⟩ => rfl
    | ⟨2, _⟩ => rfl
  · refine Eq.trans (congrArg (rproj A A.WK) ?_) (rproj_apply A A.WK s h d)
    funext a
    match a with
    | ⟨0, _⟩ => rfl
    | ⟨1, _⟩ => rfl
    | ⟨2, _⟩ => rfl

/-- Dropping the last axis of the scores leaves one number for each head and row. -/
theorem reduces_rows : S32x1024x1024.Reduces [2] S32x1024 := by decide

/-- A row's index with the column put back. -/
theorem lift_row (h : Fin 32) (r s : Fin 1024) : reduces_rows.lift (ix2 h r) s = ix3 h r s := by
  funext a
  match a with
  | ⟨0, _⟩ => rfl
  | ⟨1, _⟩ => rfl
  | ⟨2, _⟩ => rfl

/-- An entry of the row maxima. -/
theorem rmx_apply (h : Fin 32) (r : Fin 1024) : rmx A (ix2 h r) = rmax A h.val r.val := by
  unfold rmx
  rw [Host.reduce_eq_fold_single (f := FloatOps.maximumf) (rsc A) _ reducesTo_S32x1024x1024_S32x1024_d2 reduces_rows h_S_ (ix2 h r)]
  have hf : (rsc A ∘ reduces_rows.lift (ix2 h r)) = fun S : Fin 1024 => rscore A h.val r.val S.val := by
    funext s
    exact (congrArg (rsc A) (lift_row h r s)).trans (rsc_apply A h r s)
  rw [hf]
  show Finset.fold max (Ideal.ofBits .f32 0xFF800000#32) _ _ = _
  rw [ofBits_neg_inf]
  rfl

/-- An entry of the weights. -/
theorem rwt_apply (h : Fin 32) (r s : Fin 1024) : rwt A (ix3 h r s) = rexp A h.val r.val s.val := by
  refine congrArg Ideal.exp (congrArg₂ (· - ·) (rsc_apply A h r s) ?_)
  refine (broadcastInDim_apply _ bcast_S32x1024x1_S32x1024x1024_0_1_2 _ (ix3 h r s) (ix3 h r 0) fun a => ?_).trans ?_
  · match a with
    | ⟨0, _⟩ => rfl
    | ⟨1, _⟩ => rfl
    | ⟨2, _⟩ => rfl
  refine (broadcastInDim_apply _ bcast_S32x1024_S32x1024x1_0_1 _ (ix3 h r 0) (ix2 h r) fun a => ?_).trans (rmx_apply A h r)
  match a with
  | ⟨0, _⟩ => rfl
  | ⟨1, _⟩ => rfl

/-- An entry of the row sums. -/
theorem rsm_apply (h : Fin 32) (r : Fin 1024) : rsm A (ix2 h r) = ∑ S : Fin 1024, rexp A h.val r.val S.val := by
  refine (Ideal.hostReduceAdd_single reducesTo_S32x1024x1024_S32x1024_d2 reduces_rows (rwt A) _ (ix2 h r)).trans ?_
  refine (congrArg (· + _) Ideal.ofBits_zero_f32).trans ((zero_add _).trans ?_)
  exact Finset.sum_congr rfl fun s _ => (congrArg (rwt A) (lift_row h r s)).trans (rwt_apply A h r s)

/-- An entry of the weighted sums of the values. -/
theorem rnum_apply (h : Fin 32) (d : Fin 128) (r : Fin 1024) :
    rnum A (ix3 h d r) = ∑ S : Fin 1024, proj A.X A.WV S.val (128 * h.val + d.val) * rexp A h.val r.val S.val := by
  refine (Ideal.dotGeneral_apply (φ₁ := .f32) (φ₂ := .f32) _ none _ (extf .f32 (rproj A A.WV) bitsLt_bf16_f32) (rwt A) (ix3 h d r)).trans ?_
  rw [← Equiv.sum_comp (contrEquiv1 dot_S1024x32x128_S32x1024x1024_S32x128x1024_0_2_2_1_1_0 1024 rfl rfl).symm]
  refine Finset.sum_congr rfl fun s _ => congrArg₂ (· * ·) ?_ ?_
  · refine Eq.trans (congrArg (rproj A A.WV) ?_) (rproj_apply A A.WV s h d)
    funext a
    match a with
    | ⟨0, _⟩ => rfl
    | ⟨1, _⟩ => rfl
    | ⟨2, _⟩ => rfl
  · refine Eq.trans (congrArg (rwt A) ?_) (rwt_apply A h r s)
    funext a
    match a with
    | ⟨0, _⟩ => rfl
    | ⟨1, _⟩ => rfl
    | ⟨2, _⟩ => rfl

/-- An entry of the weighted averages. -/
theorem rav_apply (r : Fin 1024) (h : Fin 32) (d : Fin 128) : rav A (ix3 r h d) = ravg A h.val r.val d.val := by
  refine congrArg₂ Ideal.div ?_ ?_
  · refine (transpose_apply _ _ transposes_S32x128x1024_S1024x32x128_2_0_1 (ix3 r h d) (ix3 h d r) fun b => ?_).trans (rnum_apply A h d r)
    match b with
    | ⟨0, _⟩ => rfl
    | ⟨1, _⟩ => rfl
    | ⟨2, _⟩ => rfl
  · refine (broadcastInDim_apply _ bcast_S1024x32x1_S1024x32x128_0_1_2 _ (ix3 r h d) (ix3 r h 0) fun a => ?_).trans ?_
    · match a with
      | ⟨0, _⟩ => rfl
      | ⟨1, _⟩ => rfl
      | ⟨2, _⟩ => rfl
    refine (transpose_apply _ _ transposes_S32x1024x1_S1024x32x1_1_0_2 (ix3 r h 0) (ix3 h r 0) fun b => ?_).trans ?_
    · match b with
      | ⟨0, _⟩ => rfl
      | ⟨1, _⟩ => rfl
      | ⟨2, _⟩ => rfl
    refine (broadcastInDim_apply _ bcast_S32x1024_S32x1024x1_0_1 _ (ix3 h r 0) (ix2 h r) fun a => ?_).trans (rsm_apply A h r)
    match a with
    | ⟨0, _⟩ => rfl
    | ⟨1, _⟩ => rfl

/-- The reference's output at row `r` and column `n`. -/
theorem rout_apply (r n : Fin 1024) :
    rout A (ix2 r n) = ∑ h : Fin 32, ∑ d : Fin 128, ravg A h.val r.val d.val * A.WO (jx (128 * h.val + d.val) n.val) := by
  refine (StackMember.dotGeneral_plain_apply (φ₁ := .f32) (φ₂ := .f32) none (shapeCast _ (rav A) shapeCasts_S1024x32x128_S1024x4096)
    (extf .f32 A.WO bitsLt_bf16_f32) r n).trans ?_
  rw [← (finProdFinEquiv (m := 32) (n := 128)).sum_comp, Fintype.sum_prod_type]
  refine Finset.sum_congr rfl fun h _ => Finset.sum_congr rfl fun d _ => congrArg₂ (· * ·) ?_ ?_
  · refine (shapeCast_apply _ shapeCasts_S1024x32x128_S1024x4096 _ (ix3 r h d) ?_).trans (rav_apply A r h d)
    rw [Shape.rowMajor_val_two, Shape.rowMajor_val_three]
    show (r.val * 32 + h.val) * 128 + d.val = r.val * 4096 + (d.val + 128 * h.val)
    ring
  · have e : (finProdFinEquiv (h, d) : Fin 4096).val = 128 * h.val + d.val := Nat.add_comm _ _
    rw [← e, jx_eq]
    rfl

end Cert.Val

end
-- ==== Proof.Val.Average.lean ====
/-
The kernel's average and the reference's are equal where the input and the weights of the queries and keys are real numbers.
-/
module

public import proofs.«01_k».proof.Proof.Val.Softmax
public import proofs.«01_k».proof.Proof.Val.Kernel
public import proofs.«01_k».proof.Proof.Val.Reference

@[expose] public section

noncomputable section

namespace Cert.Val

open Idealize.ShloMosaic Idealize.ShloMosaic.ValueIdx
open scoped BigOperators

variable {A : Arrays}

/-- A real input through a real projection is real. -/
theorem proj_real {X : FVec Ideal ⟨2, ![1024, 1024]⟩ .bf16} {W : FVec Ideal ⟨2, ![1024, 4096]⟩ .bf16}
    (hX : ∀ i, ∃ r : ℝ, X i = (r : EReal)) (hW : ∀ i, ∃ r : ℝ, W i = (r : EReal)) (R C : ℕ) : ∃ r : ℝ, proj X W R C = (r : EReal) :=
  sum_mul_real _ _ _ (fun k => hX _) fun k => hW _

/-- One head's average of one column of the values, for one row, by the kernel and by the reference. -/
theorem kavg_eq_ravg (hX : ∀ i, ∃ r : ℝ, A.X i = (r : EReal)) (hQ : ∀ i, ∃ r : ℝ, A.WQ i = (r : EReal))
    (hK : ∀ i, ∃ r : ℝ, A.WK i = (r : EReal)) (H R d : ℕ) : kavg A H R d = ravg A H R d := by
  choose pq hpq using fun R C => proj_real hX hQ R C
  choose pk hpk using fun R C => proj_real hX hK R C
  let s : Fin 1024 → ℝ := fun S => (∑ d : Fin 128, pq R (128 * H + d.val) * pk S.val (128 * H + d.val)) * csc
  have hk : ∀ S : Fin 1024, kwt A H R S.val = ((Real.exp (s S) : ℝ) : EReal) := by
    intro S
    refine Eq.trans ?_ (exp2_scores Finset.univ csc (fun d : Fin 128 => pq R (128 * H + d.val)) fun d => pk S.val (128 * H + d.val))
    refine congrArg Ideal.exp2 (Finset.sum_congr rfl fun d _ => ?_)
    rw [hpq, hpk]
    rfl
  have hs : ∀ S : Fin 1024, rscore A H R S.val = ((s S : ℝ) : EReal) := by
    intro S
    unfold rscore
    rw [EReal.coe_mul, coe_sum]
    refine congrArg (· * _) (Finset.sum_congr rfl fun d _ => ?_)
    rw [hpq, hpk, EReal.coe_mul]
  obtain ⟨M, hM⟩ : ∃ M : ℝ, rmax A H R = (M : EReal) :=
    fold_max_real Finset.univ Finset.univ_nonempty _ fun S => ⟨s S, hs S⟩
  have hr : ∀ S : Fin 1024, rexp A H R S.val = ((Real.exp (s S - M) : ℝ) : EReal) := by
    intro S
    unfold rexp
    rw [hs, hM, ← EReal.coe_sub, Ideal.exp_coe]
  unfold kavg ravg
  simp only [hk, hr]
  exact softmax_shift Finset.univ Finset.univ_nonempty s _ M

end Cert.Val

end
-- ==== Proof.Val.Equal.lean ====
/-
Each device's result is its block of the reference's result.
-/
module

public import proofs.«01_k».proof.Defs
public import proofs.«01_k».proof.Proof.KI.Final
public import proofs.«01_k».proof.Proof.Gen.Pre_scores_finite_KernelIdeal
public import proofs.«01_k».proof.Proof.Val.Finite
public import proofs.«01_k».proof.Proof.Val.Average

@[expose] public section

noncomputable section

namespace Cert.Val

open Cert.KernelIdeal.Ring
open Idealize.ShloMosaic Idealize.ShloMosaic.TcCoe
open scoped BigOperators

/-! ## Blocks of the whole arrays -/

/-- Block `c` of an array cut by rows, at an index; -/
theorem block_rows {α : Type} {a n b : ℕ} [NeZero b] [NeZero n] (v : (⟨2, ![b, n]⟩ : Shape).Idx → α)
    (h : Layout.Tiles ⟨2, ![a, n]⟩ ⟨2, ![b, n]⟩ 0 4) (hb : b = 4 * a) (c : Fin 4) (i : Fin a) (j : Fin n) :
    Layout.block ⟨2, ![a, n]⟩ ⟨2, ![b, n]⟩ 0 4 c v h (ValueIdx.ix2 i j) = v (jx (a * c.val + i.val) j.val) := by
  have hlt : a * c.val + i.val < b := by
    have h1 := Nat.mul_le_mul_left a (show c.val + 1 ≤ 4 from c.isLt)
    have h2 := i.isLt
    rw [Nat.mul_add, Nat.mul_one] at h1
    omega
  refine congrArg v ?_
  funext d
  match d with
  | ⟨0, _⟩ =>
    refine Fin.ext ((Layout.Tiles.idx_val h c (ValueIdx.ix2 i j) ⟨0, Nat.zero_lt_two⟩).trans ?_)
    show c.val * a + i.val = (a * c.val + i.val) % b
    rw [Nat.mod_eq_of_lt hlt, Nat.mul_comm]
  | ⟨1, _⟩ =>
    refine Fin.ext ((Layout.Tiles.idx_val h c (ValueIdx.ix2 i j) ⟨1, Nat.one_lt_two⟩).trans ?_)
    exact (Nat.mod_eq_of_lt j.isLt).symm

/-- of an array cut by columns. -/
theorem block_cols {α : Type} {n a b : ℕ} [NeZero b] [NeZero n] (v : (⟨2, ![n, b]⟩ : Shape).Idx → α)
    (h : Layout.Tiles ⟨2, ![n, a]⟩ ⟨2, ![n, b]⟩ 1 4) (hb : b = 4 * a) (c : Fin 4) (i : Fin n) (j : Fin a) :
    Layout.block ⟨2, ![n, a]⟩ ⟨2, ![n, b]⟩ 1 4 c v h (ValueIdx.ix2 i j) = v (jx i.val (a * c.val + j.val)) := by
  have hlt : a * c.val + j.val < b := by
    have h1 := Nat.mul_le_mul_left a (show c.val + 1 ≤ 4 from c.isLt)
    have h2 := j.isLt
    rw [Nat.mul_add, Nat.mul_one] at h1
    omega
  refine congrArg v ?_
  funext d
  match d with
  | ⟨0, _⟩ =>
    refine Fin.ext ((Layout.Tiles.idx_val h c (ValueIdx.ix2 i j) ⟨0, Nat.zero_lt_two⟩).trans ?_)
    exact (Nat.mod_eq_of_lt i.isLt).symm
  | ⟨1, _⟩ =>
    refine Fin.ext ((Layout.Tiles.idx_val h c (ValueIdx.ix2 i j) ⟨1, Nat.one_lt_two⟩).trans ?_)
    show c.val * a + j.val = (a * c.val + j.val) % b
    rw [Nat.mod_eq_of_lt hlt, Nat.mul_comm]

/-! ## The arrays are real -/

section Real
variable {I : Ins Ideal} {A : Arrays} (H : Holds I A)
include H

/-- Where every device's part of the input is real, the input is; -/
theorem x_real (h : ∀ (c : Dev Cert.KernelIdeal.nD) i, ∃ r : ℝ, I.X c i = (r : EReal)) : ∀ i, ∃ r : ℝ, A.X i = (r : EReal) := by
  have key : ∀ r k : Fin 1024, ∃ x : ℝ, A.X (ValueIdx.ix2 r k) = (x : EReal) := by
    intro r k
    have hc : r.val / 256 < 4 := by omega
    obtain ⟨x, e⟩ := h (⟨r.val / 256, hc⟩ : Fin 4) (ValueIdx.ix2 (⟨r.val % 256, Nat.mod_lt _ (by decide)⟩ : Fin 256) k)
    refine ⟨x, Eq.trans ?_ ((H.x (⟨r.val / 256, hc⟩ : Fin 4) (⟨r.val % 256, Nat.mod_lt _ (by decide)⟩ : Fin 256) k).symm.trans e)⟩
    rw [← jx_eq]
    exact congrArg (fun n => A.X (jx n k.val)) (Nat.div_add_mod r.val 256).symm
  intro i
  rw [ValueIdx.eq_ix2 i]
  exact key _ _

/-- likewise the queries' weights; -/
theorem wq_real (h : ∀ (c : Dev Cert.KernelIdeal.nD) i, ∃ r : ℝ, I.WQ c i = (r : EReal)) : ∀ i, ∃ r : ℝ, A.WQ i = (r : EReal) := by
  have key : ∀ (k : Fin 1024) (n : Fin 4096), ∃ x : ℝ, A.WQ (ValueIdx.ix2 k n) = (x : EReal) := by
    intro k n
    have hc : n.val / 1024 < 4 := by omega
    obtain ⟨x, e⟩ := h (⟨n.val / 1024, hc⟩ : Fin 4) (ValueIdx.ix2 k (⟨n.val % 1024, Nat.mod_lt _ (by decide)⟩ : Fin 1024))
    refine ⟨x, Eq.trans ?_ ((H.wq (⟨n.val / 1024, hc⟩ : Fin 4) k (⟨n.val % 1024, Nat.mod_lt _ (by decide)⟩ : Fin 1024)).symm.trans e)⟩
    rw [← jx_eq]
    exact congrArg (fun t => A.WQ (jx k.val t)) (Nat.div_add_mod n.val 1024).symm
  intro i
  rw [ValueIdx.eq_ix2 i]
  exact key _ _

/-- and the keys'. -/
theorem wk_real (h : ∀ (c : Dev Cert.KernelIdeal.nD) i, ∃ r : ℝ, I.WK c i = (r : EReal)) : ∀ i, ∃ r : ℝ, A.WK i = (r : EReal) := by
  have key : ∀ (k : Fin 1024) (n : Fin 4096), ∃ x : ℝ, A.WK (ValueIdx.ix2 k n) = (x : EReal) := by
    intro k n
    have hc : n.val / 1024 < 4 := by omega
    obtain ⟨x, e⟩ := h (⟨n.val / 1024, hc⟩ : Fin 4) (ValueIdx.ix2 k (⟨n.val % 1024, Nat.mod_lt _ (by decide)⟩ : Fin 1024))
    refine ⟨x, Eq.trans ?_ ((H.wk (⟨n.val / 1024, hc⟩ : Fin 4) k (⟨n.val % 1024, Nat.mod_lt _ (by decide)⟩ : Fin 1024)).symm.trans e)⟩
    rw [← jx_eq]
    exact congrArg (fun t => A.WK (jx k.val t)) (Nat.div_add_mod n.val 1024).symm
  intro i
  rw [ValueIdx.eq_ix2 i]
  exact key _ _

end Real

/-! ## The result -/

/-- Each device's result is its block of the reference's: where the devices' arguments are the blocks of the reference's and
    the input and the weights of the queries and keys are finite. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scores_finite_KernelIdeal m)
    (hagree : ∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4)))
    (c : Dev Cert.KernelIdeal.nD) :
    outOf (given m) c = Layout.block ⟨2, ![256, 1024]⟩ ⟨2, ![1024, 1024]⟩ 0 4 c (Cert.ReferenceIdeal.Value.res_main_v29 (F := Ideal) m' 0) := by
  have H : Holds (given m) (held m' 0) :=
    ⟨fun c i k => (congrFun (hagree c).1 _).trans (block_rows (held m' 0).X _ rfl c i k),
      fun c k n => (congrFun (hagree c).2.1 _).trans (block_cols (held m' 0).WQ _ rfl c k n),
      fun c k n => (congrFun (hagree c).2.2.1 _).trans (block_cols (held m' 0).WK _ rfl c k n),
      fun c k n => (congrFun (hagree c).2.2.2.1 _).trans (block_cols (held m' 0).WV _ rfl c k n),
      fun c r n => (congrFun (hagree c).2.2.2.2 _).trans (block_rows (held m' 0).WO _ rfl c r n)⟩
  have hX := x_real H fun c => (real_of_pre _ _ _ _ _ (hpre c)).1
  have hQ := wq_real H fun c => (real_of_pre _ _ _ _ _ (hpre c)).2.1
  have hK := wk_real H fun c => (real_of_pre _ _ _ _ _ (hpre c)).2.2
  rw [rout_held]
  have key : ∀ (i : Fin 256) (n : Fin 1024), outOf (given m) c (ValueIdx.ix2 i n)
      = Layout.block ⟨2, ![256, 1024]⟩ ⟨2, ![1024, 1024]⟩ 0 4 c (rout (held m' 0)) (by decide) (ValueIdx.ix2 i n) := by
    intro i n
    have hlt : 256 * c.val + i.val < 1024 := by
      have h1 : c.val < 4 := c.isLt
      have h2 := i.isLt
      omega
    refine (kernel_apply H c i n).trans (Eq.trans ?_ (block_rows (rout (held m' 0)) (by decide) rfl c i n).symm)
    refine Eq.trans ?_ (congrArg (rout (held m' 0)) (jx_eq (⟨256 * c.val + i.val, hlt⟩ : Fin 1024) n)).symm
    refine Eq.trans ?_ (rout_apply (held m' 0) ⟨256 * c.val + i.val, hlt⟩ n).symm
    refine Finset.sum_congr rfl fun h _ => Finset.sum_congr rfl fun d _ => ?_
    rw [kavg_eq_ravg hX hQ hK]
  funext j
  exact (congrArg _ (ValueIdx.eq_ix2 j)).trans ((key (j 0) (j 1)).trans (congrArg _ (ValueIdx.eq_ix2 j).symm))

end Cert.Val

end
-- ==== Proof.lean ====
/-
The claims of this certificate, from the runs of the programs: the kernel's (proof/Proof/K and, over the
extended reals, proof/Proof/KI) and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.K.Final
public import proofs.«01_k».proof.Proof.KI.Final
public import proofs.«01_k».proof.Proof.Val.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments and ends with its counters at zero. -/
theorem frame_p : Cert.quiescent_Kernel := fun m ρ _ => Cert.Kernel.Ring.run_frame (F := Bits) m ρ

/-- So does the kernel over the extended reals. -/
theorem frame_pi : Cert.quiescent_KernelIdeal := fun m ρ _ => Cert.KernelIdeal.Ring.run_frame (F := Ideal) m ρ

/-- So does the reference over the extended reals, which has no counters. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant is what its table says. -/
theorem preserves : Cert.preserves_Kernel_KernelIdeal :=
  IdealRules.named_const.statement Cert.KernelIdeal.κ "scale_log2e" .f32 0x3E0293EE#32
    (((11863283 / 134217728) * (Real.log 2)⁻¹ : ℝ) : EReal) rfl

/-- The kernel over the extended reals, its inputs as the precondition says. -/
theorem frame_pi_pre : Cert.quiescent_KernelIdeal_pre_scores_finite_KernelIdeal := fun m ρ _ => Cert.KernelIdeal.Ring.run_frame (F := Ideal) m ρ

/-- The reference over the extended reals, its inputs as the precondition says. -/
theorem frame_ri_pre : Cert.quiescent_ReferenceIdeal_pre_scores_finite_ReferenceIdeal := fun m ρ _ => frame_ri m ρ trivial

/-- Each device's result is its block of the reference's. -/
theorem algebraic : Cert.algebraic_KernelIdeal_ReferenceIdeal_pre_scores_finite_KernelIdeal := by
  intro m ρ m' ρ' hpre hagree
  refine ⟨Cert.ReferenceIdeal.Value.res_main_v29 (F := Ideal) m' 0, ?_, ?_⟩
  · exact (θ_run Cert.KernelIdeal.defs _ _).mono
      (fun r h c => ⟨((h.1 c).1).trans (Cert.Val.result_eq m m' hpre hagree c), (h.1 c).2⟩) (Cert.KernelIdeal.Ring.run_values (F := Ideal) m ρ)
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, Cert.Pre_scores_finite_KernelIdeal.Gen.facts,
    Cert.Pre_scores_finite_ReferenceIdeal.Gen.facts, frame_p, frame_pi, frame_pi_pre, frame_ri, frame_ri_pre, preserves, algebraic⟩

end Cert.Proof

end
